-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_proj_bwd_finite [hPre_in_proj_bwd_finite : Cert.Pre_in_proj_bwd_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_proj_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9)) (m ((c.tc : Thread Cert.InBwdIdeal.nD Cert.InBwdIdeal.τ).loc Cert.InBwdIdeal.main_arg10)) (m ((c.tc : Thread Cert.InBwdIdeal.nD Cert.InBwdIdeal.τ).loc Cert.InBwdIdeal.main_arg11)) (m ((c.tc : Thread Cert.InBwdIdeal.nD Cert.InBwdIdeal.τ).loc Cert.InBwdIdeal.main_arg12)) (m ((c.tc : Thread Cert.InBwdIdeal.nD Cert.InBwdIdeal.τ).loc Cert.InBwdIdeal.main_arg13)) (m ((c.tc : Thread Cert.InBwdIdeal.nD Cert.InBwdIdeal.τ).loc Cert.InBwdIdeal.main_arg14)) (m ((c.tc : Thread Cert.InBwdIdeal.nD Cert.InBwdIdeal.τ).loc Cert.InBwdIdeal.main_arg15))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_proj_bwd_finite [hPre_in_proj_bwd_finite : Cert.Pre_in_proj_bwd_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_proj_bwd_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9)) (m ((c.tc : Thread Cert.InBwdRefIdeal.nD Cert.InBwdRefIdeal.τ).loc Cert.InBwdRefIdeal.main_arg10)) (m ((c.tc : Thread Cert.InBwdRefIdeal.nD Cert.InBwdRefIdeal.τ).loc Cert.InBwdRefIdeal.main_arg11)) (m ((c.tc : Thread Cert.InBwdRefIdeal.nD Cert.InBwdRefIdeal.τ).loc Cert.InBwdRefIdeal.main_arg12)) (m ((c.tc : Thread Cert.InBwdRefIdeal.nD Cert.InBwdRefIdeal.τ).loc Cert.InBwdRefIdeal.main_arg13)) (m ((c.tc : Thread Cert.InBwdRefIdeal.nD Cert.InBwdRefIdeal.τ).loc Cert.InBwdRefIdeal.main_arg14)) (m ((c.tc : Thread Cert.InBwdRefIdeal.nD Cert.InBwdRefIdeal.τ).loc Cert.InBwdRefIdeal.main_arg15))) = (fun _ => 1#1)

def Pre_Pcs (m : (ℓ : Loc Cert.Pcs.nD Cert.Pcs.τ Cert.Pcs.sig) → Buf (Elt Bits) ℓ) : Prop :=
  True

def Pre_PcsIdeal (m : (ℓ : Loc Cert.PcsIdeal.nD Cert.PcsIdeal.τ Cert.PcsIdeal.sig) → Buf (Elt Ideal) ℓ) : Prop :=
  True

def Pre_PcsRefIdeal (m : (ℓ : Loc Cert.PcsRefIdeal.nD Cert.PcsRefIdeal.τ Cert.PcsRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10)
      ∧ r.2.mem ((c.tc : Thread Cert.InBwd.nD Cert.InBwd.τ).loc Cert.InBwd.main_arg11) = m ((c.tc : Thread Cert.InBwd.nD Cert.InBwd.τ).loc Cert.InBwd.main_arg11)
      ∧ r.2.mem ((c.tc : Thread Cert.InBwd.nD Cert.InBwd.τ).loc Cert.InBwd.main_arg12) = m ((c.tc : Thread Cert.InBwd.nD Cert.InBwd.τ).loc Cert.InBwd.main_arg12)
      ∧ r.2.mem ((c.tc : Thread Cert.InBwd.nD Cert.InBwd.τ).loc Cert.InBwd.main_arg13) = m ((c.tc : Thread Cert.InBwd.nD Cert.InBwd.τ).loc Cert.InBwd.main_arg13)
      ∧ r.2.mem ((c.tc : Thread Cert.InBwd.nD Cert.InBwd.τ).loc Cert.InBwd.main_arg14) = m ((c.tc : Thread Cert.InBwd.nD Cert.InBwd.τ).loc Cert.InBwd.main_arg14)
      ∧ r.2.mem ((c.tc : Thread Cert.InBwd.nD Cert.InBwd.τ).loc Cert.InBwd.main_arg15) = m ((c.tc : Thread Cert.InBwd.nD Cert.InBwd.τ).loc Cert.InBwd.main_arg15))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
      ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
      ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
      ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15))
      ∧ r.2.sem = fun _ => 0)

def quiescent_InBwdIdeal_pre_in_proj_bwd_finite [hInBwdIdeal : Cert.InBwdIdeal.Facts] [hPre_in_proj_bwd_finite : Cert.Pre_in_proj_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_proj_bwd_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
      ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
      ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
      ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10)
      ∧ r.2.mem ((c.tc : Thread Cert.InBwdRefIdeal.nD Cert.InBwdRefIdeal.τ).loc Cert.InBwdRefIdeal.main_arg11) = m ((c.tc : Thread Cert.InBwdRefIdeal.nD Cert.InBwdRefIdeal.τ).loc Cert.InBwdRefIdeal.main_arg11)
      ∧ r.2.mem ((c.tc : Thread Cert.InBwdRefIdeal.nD Cert.InBwdRefIdeal.τ).loc Cert.InBwdRefIdeal.main_arg12) = m ((c.tc : Thread Cert.InBwdRefIdeal.nD Cert.InBwdRefIdeal.τ).loc Cert.InBwdRefIdeal.main_arg12)
      ∧ r.2.mem ((c.tc : Thread Cert.InBwdRefIdeal.nD Cert.InBwdRefIdeal.τ).loc Cert.InBwdRefIdeal.main_arg13) = m ((c.tc : Thread Cert.InBwdRefIdeal.nD Cert.InBwdRefIdeal.τ).loc Cert.InBwdRefIdeal.main_arg13)
      ∧ r.2.mem ((c.tc : Thread Cert.InBwdRefIdeal.nD Cert.InBwdRefIdeal.τ).loc Cert.InBwdRefIdeal.main_arg14) = m ((c.tc : Thread Cert.InBwdRefIdeal.nD Cert.InBwdRefIdeal.τ).loc Cert.InBwdRefIdeal.main_arg14)
      ∧ r.2.mem ((c.tc : Thread Cert.InBwdRefIdeal.nD Cert.InBwdRefIdeal.τ).loc Cert.InBwdRefIdeal.main_arg15) = m ((c.tc : Thread Cert.InBwdRefIdeal.nD Cert.InBwdRefIdeal.τ).loc Cert.InBwdRefIdeal.main_arg15))
      ∧ r.2.sem = fun _ => 0)

def quiescent_InBwdRefIdeal_pre_in_proj_bwd_finite [hInBwdRefIdeal : Cert.InBwdRefIdeal.Facts] [hPre_in_proj_bwd_finite : Cert.Pre_in_proj_bwd_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_proj_bwd_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10)
      ∧ r.2.mem ((c.tc : Thread Cert.InBwdRefIdeal.nD Cert.InBwdRefIdeal.τ).loc Cert.InBwdRefIdeal.main_arg11) = m ((c.tc : Thread Cert.InBwdRefIdeal.nD Cert.InBwdRefIdeal.τ).loc Cert.InBwdRefIdeal.main_arg11)
      ∧ r.2.mem ((c.tc : Thread Cert.InBwdRefIdeal.nD Cert.InBwdRefIdeal.τ).loc Cert.InBwdRefIdeal.main_arg12) = m ((c.tc : Thread Cert.InBwdRefIdeal.nD Cert.InBwdRefIdeal.τ).loc Cert.InBwdRefIdeal.main_arg12)
      ∧ r.2.mem ((c.tc : Thread Cert.InBwdRefIdeal.nD Cert.InBwdRefIdeal.τ).loc Cert.InBwdRefIdeal.main_arg13) = m ((c.tc : Thread Cert.InBwdRefIdeal.nD Cert.InBwdRefIdeal.τ).loc Cert.InBwdRefIdeal.main_arg13)
      ∧ r.2.mem ((c.tc : Thread Cert.InBwdRefIdeal.nD Cert.InBwdRefIdeal.τ).loc Cert.InBwdRefIdeal.main_arg14) = m ((c.tc : Thread Cert.InBwdRefIdeal.nD Cert.InBwdRefIdeal.τ).loc Cert.InBwdRefIdeal.main_arg14)
      ∧ r.2.mem ((c.tc : Thread Cert.InBwdRefIdeal.nD Cert.InBwdRefIdeal.τ).loc Cert.InBwdRefIdeal.main_arg15) = m ((c.tc : Thread Cert.InBwdRefIdeal.nD Cert.InBwdRefIdeal.τ).loc Cert.InBwdRefIdeal.main_arg15))
      ∧ r.2.sem = fun _ => 0)

def quiescent_Pcs [hPcs : Cert.Pcs.Facts] : Prop :=
  ∀ (m : (ℓ : Loc Cert.Pcs.nD Cert.Pcs.τ Cert.Pcs.sig) → Buf (Elt Bits) ℓ) (g : Dev Cert.Pcs.nD → PrngReg), Pre_Pcs m →
    θ_run (Cert.Pcs.defs (F := Bits)) (onTc (τ := Cert.Pcs.τ) (Cert.Pcs.main (F := Bits))) ⟨m, fun _ => 0, g⟩ (fun r => (∀ c : Dev Cert.Pcs.nD,
      r.2.mem ((c.tc : Thread Cert.Pcs.nD Cert.Pcs.τ).loc Cert.Pcs.main_arg0) = m ((c.tc : Thread Cert.Pcs.nD Cert.Pcs.τ).loc Cert.Pcs.main_arg0)
      ∧ r.2.mem ((c.tc : Thread Cert.Pcs.nD Cert.Pcs.τ).loc Cert.Pcs.main_arg1) = m ((c.tc : Thread Cert.Pcs.nD Cert.Pcs.τ).loc Cert.Pcs.main_arg1)
      ∧ r.2.mem ((c.tc : Thread Cert.Pcs.nD Cert.Pcs.τ).loc Cert.Pcs.main_arg2) = m ((c.tc : Thread Cert.Pcs.nD Cert.Pcs.τ).loc Cert.Pcs.main_arg2)
      ∧ r.2.mem ((c.tc : Thread Cert.Pcs.nD Cert.Pcs.τ).loc Cert.Pcs.main_arg3) = m ((c.tc : Thread Cert.Pcs.nD Cert.Pcs.τ).loc Cert.Pcs.main_arg3)
      ∧ r.2.mem ((c.tc : Thread Cert.Pcs.nD Cert.Pcs.τ).loc Cert.Pcs.main_arg4) = m ((c.tc : Thread Cert.Pcs.nD Cert.Pcs.τ).loc Cert.Pcs.main_arg4)
      ∧ r.2.mem ((c.tc : Thread Cert.Pcs.nD Cert.Pcs.τ).loc Cert.Pcs.main_arg5) = m ((c.tc : Thread Cert.Pcs.nD Cert.Pcs.τ).loc Cert.Pcs.main_arg5)
      ∧ r.2.mem ((c.tc : Thread Cert.Pcs.nD Cert.Pcs.τ).loc Cert.Pcs.main_arg6) = m ((c.tc : Thread Cert.Pcs.nD Cert.Pcs.τ).loc Cert.Pcs.main_arg6)
      ∧ r.2.mem ((c.tc : Thread Cert.Pcs.nD Cert.Pcs.τ).loc Cert.Pcs.main_arg7) = m ((c.tc : Thread Cert.Pcs.nD Cert.Pcs.τ).loc Cert.Pcs.main_arg7)
      ∧ r.2.mem ((c.tc : Thread Cert.Pcs.nD Cert.Pcs.τ).loc Cert.Pcs.main_arg8) = m ((c.tc : Thread Cert.Pcs.nD Cert.Pcs.τ).loc Cert.Pcs.main_arg8)
      ∧ r.2.mem ((c.tc : Thread Cert.Pcs.nD Cert.Pcs.τ).loc Cert.Pcs.main_arg9) = m ((c.tc : Thread Cert.Pcs.nD Cert.Pcs.τ).loc Cert.Pcs.main_arg9)
      ∧ r.2.mem ((c.tc : Thread Cert.Pcs.nD Cert.Pcs.τ).loc Cert.Pcs.main_arg10) = m ((c.tc : Thread Cert.Pcs.nD Cert.Pcs.τ).loc Cert.Pcs.main_arg10)
      ∧ r.2.mem ((c.tc : Thread Cert.Pcs.nD Cert.Pcs.τ).loc Cert.Pcs.main_arg11) = m ((c.tc : Thread Cert.Pcs.nD Cert.Pcs.τ).loc Cert.Pcs.main_arg11)
      ∧ r.2.mem ((c.tc : Thread Cert.Pcs.nD Cert.Pcs.τ).loc Cert.Pcs.main_arg12) = m ((c.tc : Thread Cert.Pcs.nD Cert.Pcs.τ).loc Cert.Pcs.main_arg12))
      ∧ r.2.sem = fun _ => 0)

def quiescent_PcsIdeal [hPcsIdeal : Cert.PcsIdeal.Facts] : Prop :=
  ∀ (m : (ℓ : Loc Cert.PcsIdeal.nD Cert.PcsIdeal.τ Cert.PcsIdeal.sig) → Buf (Elt Ideal) ℓ) (g : Dev Cert.PcsIdeal.nD → PrngReg), Pre_PcsIdeal m →
    θ_run (Cert.PcsIdeal.defs (F := Ideal)) (onTc (τ := Cert.PcsIdeal.τ) (Cert.PcsIdeal.main (F := Ideal))) ⟨m, fun _ => 0, g⟩ (fun r => (∀ c : Dev Cert.PcsIdeal.nD,
      r.2.mem ((c.tc : Thread Cert.PcsIdeal.nD Cert.PcsIdeal.τ).loc Cert.PcsIdeal.main_arg0) = m ((c.tc : Thread Cert.PcsIdeal.nD Cert.PcsIdeal.τ).loc Cert.PcsIdeal.main_arg0)
      ∧ r.2.mem ((c.tc : Thread Cert.PcsIdeal.nD Cert.PcsIdeal.τ).loc Cert.PcsIdeal.main_arg1) = m ((c.tc : Thread Cert.PcsIdeal.nD Cert.PcsIdeal.τ).loc Cert.PcsIdeal.main_arg1)
      ∧ r.2.mem ((c.tc : Thread Cert.PcsIdeal.nD Cert.PcsIdeal.τ).loc Cert.PcsIdeal.main_arg2) = m ((c.tc : Thread Cert.PcsIdeal.nD Cert.PcsIdeal.τ).loc Cert.PcsIdeal.main_arg2)
      ∧ r.2.mem ((c.tc : Thread Cert.PcsIdeal.nD Cert.PcsIdeal.τ).loc Cert.PcsIdeal.main_arg3) = m ((c.tc : Thread Cert.PcsIdeal.nD Cert.PcsIdeal.τ).loc Cert.PcsIdeal.main_arg3)
      ∧ r.2.mem ((c.tc : Thread Cert.PcsIdeal.nD Cert.PcsIdeal.τ).loc Cert.PcsIdeal.main_arg4) = m ((c.tc : Thread Cert.PcsIdeal.nD Cert.PcsIdeal.τ).loc Cert.PcsIdeal.main_arg4)
      ∧ r.2.mem ((c.tc : Thread Cert.PcsIdeal.nD Cert.PcsIdeal.τ).loc Cert.PcsIdeal.main_arg5) = m ((c.tc : Thread Cert.PcsIdeal.nD Cert.PcsIdeal.τ).loc Cert.PcsIdeal.main_arg5)
      ∧ r.2.mem ((c.tc : Thread Cert.PcsIdeal.nD Cert.PcsIdeal.τ).loc Cert.PcsIdeal.main_arg6) = m ((c.tc : Thread Cert.PcsIdeal.nD Cert.PcsIdeal.τ).loc Cert.PcsIdeal.main_arg6)
      ∧ r.2.mem ((c.tc : Thread Cert.PcsIdeal.nD Cert.PcsIdeal.τ).loc Cert.PcsIdeal.main_arg7) = m ((c.tc : Thread Cert.PcsIdeal.nD Cert.PcsIdeal.τ).loc Cert.PcsIdeal.main_arg7)
      ∧ r.2.mem ((c.tc : Thread Cert.PcsIdeal.nD Cert.PcsIdeal.τ).loc Cert.PcsIdeal.main_arg8) = m ((c.tc : Thread Cert.PcsIdeal.nD Cert.PcsIdeal.τ).loc Cert.PcsIdeal.main_arg8)
      ∧ r.2.mem ((c.tc : Thread Cert.PcsIdeal.nD Cert.PcsIdeal.τ).loc Cert.PcsIdeal.main_arg9) = m ((c.tc : Thread Cert.PcsIdeal.nD Cert.PcsIdeal.τ).loc Cert.PcsIdeal.main_arg9)
      ∧ r.2.mem ((c.tc : Thread Cert.PcsIdeal.nD Cert.PcsIdeal.τ).loc Cert.PcsIdeal.main_arg10) = m ((c.tc : Thread Cert.PcsIdeal.nD Cert.PcsIdeal.τ).loc Cert.PcsIdeal.main_arg10)
      ∧ r.2.mem ((c.tc : Thread Cert.PcsIdeal.nD Cert.PcsIdeal.τ).loc Cert.PcsIdeal.main_arg11) = m ((c.tc : Thread Cert.PcsIdeal.nD Cert.PcsIdeal.τ).loc Cert.PcsIdeal.main_arg11)
      ∧ r.2.mem ((c.tc : Thread Cert.PcsIdeal.nD Cert.PcsIdeal.τ).loc Cert.PcsIdeal.main_arg12) = m ((c.tc : Thread Cert.PcsIdeal.nD Cert.PcsIdeal.τ).loc Cert.PcsIdeal.main_arg12))
      ∧ r.2.sem = fun _ => 0)

def quiescent_PcsRefIdeal [hPcsRefIdeal : Cert.PcsRefIdeal.Facts] : Prop :=
  ∀ (m : (ℓ : Loc Cert.PcsRefIdeal.nD Cert.PcsRefIdeal.τ Cert.PcsRefIdeal.sig) → Buf (Elt Ideal) ℓ) (g : Dev Cert.PcsRefIdeal.nD → PrngReg), Pre_PcsRefIdeal m →
    θ_run (Cert.PcsRefIdeal.defs (F := Ideal)) (onTc (τ := Cert.PcsRefIdeal.τ) (Cert.PcsRefIdeal.main (F := Ideal))) ⟨m, fun _ => 0, g⟩ (fun r => (∀ c : Dev Cert.PcsRefIdeal.nD,
      r.2.mem ((c.tc : Thread Cert.PcsRefIdeal.nD Cert.PcsRefIdeal.τ).loc Cert.PcsRefIdeal.main_arg0) = m ((c.tc : Thread Cert.PcsRefIdeal.nD Cert.PcsRefIdeal.τ).loc Cert.PcsRefIdeal.main_arg0)
      ∧ r.2.mem ((c.tc : Thread Cert.PcsRefIdeal.nD Cert.PcsRefIdeal.τ).loc Cert.PcsRefIdeal.main_arg1) = m ((c.tc : Thread Cert.PcsRefIdeal.nD Cert.PcsRefIdeal.τ).loc Cert.PcsRefIdeal.main_arg1)
      ∧ r.2.mem ((c.tc : Thread Cert.PcsRefIdeal.nD Cert.PcsRefIdeal.τ).loc Cert.PcsRefIdeal.main_arg2) = m ((c.tc : Thread Cert.PcsRefIdeal.nD Cert.PcsRefIdeal.τ).loc Cert.PcsRefIdeal.main_arg2)
      ∧ r.2.mem ((c.tc : Thread Cert.PcsRefIdeal.nD Cert.PcsRefIdeal.τ).loc Cert.PcsRefIdeal.main_arg3) = m ((c.tc : Thread Cert.PcsRefIdeal.nD Cert.PcsRefIdeal.τ).loc Cert.PcsRefIdeal.main_arg3)
      ∧ r.2.mem ((c.tc : Thread Cert.PcsRefIdeal.nD Cert.PcsRefIdeal.τ).loc Cert.PcsRefIdeal.main_arg4) = m ((c.tc : Thread Cert.PcsRefIdeal.nD Cert.PcsRefIdeal.τ).loc Cert.PcsRefIdeal.main_arg4)
      ∧ r.2.mem ((c.tc : Thread Cert.PcsRefIdeal.nD Cert.PcsRefIdeal.τ).loc Cert.PcsRefIdeal.main_arg5) = m ((c.tc : Thread Cert.PcsRefIdeal.nD Cert.PcsRefIdeal.τ).loc Cert.PcsRefIdeal.main_arg5)
      ∧ r.2.mem ((c.tc : Thread Cert.PcsRefIdeal.nD Cert.PcsRefIdeal.τ).loc Cert.PcsRefIdeal.main_arg6) = m ((c.tc : Thread Cert.PcsRefIdeal.nD Cert.PcsRefIdeal.τ).loc Cert.PcsRefIdeal.main_arg6)
      ∧ r.2.mem ((c.tc : Thread Cert.PcsRefIdeal.nD Cert.PcsRefIdeal.τ).loc Cert.PcsRefIdeal.main_arg7) = m ((c.tc : Thread Cert.PcsRefIdeal.nD Cert.PcsRefIdeal.τ).loc Cert.PcsRefIdeal.main_arg7)
      ∧ r.2.mem ((c.tc : Thread Cert.PcsRefIdeal.nD Cert.PcsRefIdeal.τ).loc Cert.PcsRefIdeal.main_arg8) = m ((c.tc : Thread Cert.PcsRefIdeal.nD Cert.PcsRefIdeal.τ).loc Cert.PcsRefIdeal.main_arg8)
      ∧ r.2.mem ((c.tc : Thread Cert.PcsRefIdeal.nD Cert.PcsRefIdeal.τ).loc Cert.PcsRefIdeal.main_arg9) = m ((c.tc : Thread Cert.PcsRefIdeal.nD Cert.PcsRefIdeal.τ).loc Cert.PcsRefIdeal.main_arg9)
      ∧ r.2.mem ((c.tc : Thread Cert.PcsRefIdeal.nD Cert.PcsRefIdeal.τ).loc Cert.PcsRefIdeal.main_arg10) = m ((c.tc : Thread Cert.PcsRefIdeal.nD Cert.PcsRefIdeal.τ).loc Cert.PcsRefIdeal.main_arg10)
      ∧ r.2.mem ((c.tc : Thread Cert.PcsRefIdeal.nD Cert.PcsRefIdeal.τ).loc Cert.PcsRefIdeal.main_arg11) = m ((c.tc : Thread Cert.PcsRefIdeal.nD Cert.PcsRefIdeal.τ).loc Cert.PcsRefIdeal.main_arg11)
      ∧ r.2.mem ((c.tc : Thread Cert.PcsRefIdeal.nD Cert.PcsRefIdeal.τ).loc Cert.PcsRefIdeal.main_arg12) = m ((c.tc : Thread Cert.PcsRefIdeal.nD Cert.PcsRefIdeal.τ).loc Cert.PcsRefIdeal.main_arg12))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)) (v12 : (c : Dev Cert.KernelIdeal.nD) → Buf (Elt Ideal) ((c.tc : Thread Cert.KernelIdeal.nD Cert.KernelIdeal.τ).loc Cert.KernelIdeal.main_v0_12)) (v13 : (c : Dev Cert.KernelIdeal.nD) → Buf (Elt Ideal) ((c.tc : Thread Cert.KernelIdeal.nD Cert.KernelIdeal.τ).loc Cert.KernelIdeal.main_v0_13)) (v14 : (c : Dev Cert.KernelIdeal.nD) → Buf (Elt Ideal) ((c.tc : Thread Cert.KernelIdeal.nD Cert.KernelIdeal.τ).loc Cert.KernelIdeal.main_v0_14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_v0_12) = v12 c
          ∧ r.2.mem ((c.tc : Thread Cert.KernelIdeal.nD Cert.KernelIdeal.τ).loc Cert.KernelIdeal.main_v0_13) = v13 c
          ∧ r.2.mem ((c.tc : Thread Cert.KernelIdeal.nD Cert.KernelIdeal.τ).loc Cert.KernelIdeal.main_v0_14) = v14 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v160) = v3 c
          ∧ r.2.mem ((c.tc : Thread Cert.ReferenceIdeal.nD Cert.ReferenceIdeal.τ).loc Cert.ReferenceIdeal.main_v138) = v4 c
          ∧ r.2.mem ((c.tc : Thread Cert.ReferenceIdeal.nD Cert.ReferenceIdeal.τ).loc Cert.ReferenceIdeal.main_v162) = v5 c
          ∧ r.2.mem ((c.tc : Thread Cert.ReferenceIdeal.nD Cert.ReferenceIdeal.τ).loc Cert.ReferenceIdeal.main_v128) = v6 c
          ∧ r.2.mem ((c.tc : Thread Cert.ReferenceIdeal.nD Cert.ReferenceIdeal.τ).loc Cert.ReferenceIdeal.main_v163) = v7 c
          ∧ r.2.mem ((c.tc : Thread Cert.ReferenceIdeal.nD Cert.ReferenceIdeal.τ).loc Cert.ReferenceIdeal.main_v164) = v8 c
          ∧ r.2.mem ((c.tc : Thread Cert.ReferenceIdeal.nD Cert.ReferenceIdeal.τ).loc Cert.ReferenceIdeal.main_v165) = v9 c
          ∧ r.2.mem ((c.tc : Thread Cert.ReferenceIdeal.nD Cert.ReferenceIdeal.τ).loc Cert.ReferenceIdeal.main_v166) = v10 c
          ∧ r.2.mem ((c.tc : Thread Cert.ReferenceIdeal.nD Cert.ReferenceIdeal.τ).loc Cert.ReferenceIdeal.main_v167) = v11 c
          ∧ r.2.mem ((c.tc : Thread Cert.ReferenceIdeal.nD Cert.ReferenceIdeal.τ).loc Cert.ReferenceIdeal.main_v168) = v12 c
          ∧ r.2.mem ((c.tc : Thread Cert.ReferenceIdeal.nD Cert.ReferenceIdeal.τ).loc Cert.ReferenceIdeal.main_v169) = v13 c
          ∧ r.2.mem ((c.tc : Thread Cert.ReferenceIdeal.nD Cert.ReferenceIdeal.τ).loc Cert.ReferenceIdeal.main_v170) = v14 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_InBwd_InBwdIdeal : Prop :=
  True

def algebraic_InBwdIdeal_InBwdRefIdeal_pre_in_proj_bwd_finite [hInBwdIdeal : Cert.InBwdIdeal.Facts] [hInBwdRefIdeal : Cert.InBwdRefIdeal.Facts] [hPre_in_proj_bwd_finite : Cert.Pre_in_proj_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_proj_bwd_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)
      ∧ m' ((c.tc : Thread Cert.InBwdRefIdeal.nD Cert.InBwdRefIdeal.τ).loc Cert.InBwdRefIdeal.main_arg10) = m ((c.tc : Thread Cert.InBwdIdeal.nD Cert.InBwdIdeal.τ).loc Cert.InBwdIdeal.main_arg10)
      ∧ m' ((c.tc : Thread Cert.InBwdRefIdeal.nD Cert.InBwdRefIdeal.τ).loc Cert.InBwdRefIdeal.main_arg11) = m ((c.tc : Thread Cert.InBwdIdeal.nD Cert.InBwdIdeal.τ).loc Cert.InBwdIdeal.main_arg11)
      ∧ m' ((c.tc : Thread Cert.InBwdRefIdeal.nD Cert.InBwdRefIdeal.τ).loc Cert.InBwdRefIdeal.main_arg12) = m ((c.tc : Thread Cert.InBwdIdeal.nD Cert.InBwdIdeal.τ).loc Cert.InBwdIdeal.main_arg12)
      ∧ m' ((c.tc : Thread Cert.InBwdRefIdeal.nD Cert.InBwdRefIdeal.τ).loc Cert.InBwdRefIdeal.main_arg13) = m ((c.tc : Thread Cert.InBwdIdeal.nD Cert.InBwdIdeal.τ).loc Cert.InBwdIdeal.main_arg13)
      ∧ m' ((c.tc : Thread Cert.InBwdRefIdeal.nD Cert.InBwdRefIdeal.τ).loc Cert.InBwdRefIdeal.main_arg14) = m ((c.tc : Thread Cert.InBwdIdeal.nD Cert.InBwdIdeal.τ).loc Cert.InBwdIdeal.main_arg14)
      ∧ m' ((c.tc : Thread Cert.InBwdRefIdeal.nD Cert.InBwdRefIdeal.τ).loc Cert.InBwdRefIdeal.main_arg15) = m ((c.tc : Thread Cert.InBwdIdeal.nD Cert.InBwdIdeal.τ).loc Cert.InBwdIdeal.main_arg15)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
          ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
          ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
          ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
          ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
          ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v47) = v0 c
          ∧ r.2.mem ((c.tc : Thread Cert.InBwdRefIdeal.nD Cert.InBwdRefIdeal.τ).loc Cert.InBwdRefIdeal.main_v30) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9)
          ∧ r.2.mem ((c.tc : Thread Cert.InBwdRefIdeal.nD Cert.InBwdRefIdeal.τ).loc Cert.InBwdRefIdeal.main_arg10) = m' ((c.tc : Thread Cert.InBwdRefIdeal.nD Cert.InBwdRefIdeal.τ).loc Cert.InBwdRefIdeal.main_arg10)
          ∧ r.2.mem ((c.tc : Thread Cert.InBwdRefIdeal.nD Cert.InBwdRefIdeal.τ).loc Cert.InBwdRefIdeal.main_arg11) = m' ((c.tc : Thread Cert.InBwdRefIdeal.nD Cert.InBwdRefIdeal.τ).loc Cert.InBwdRefIdeal.main_arg11)
          ∧ r.2.mem ((c.tc : Thread Cert.InBwdRefIdeal.nD Cert.InBwdRefIdeal.τ).loc Cert.InBwdRefIdeal.main_arg12) = m' ((c.tc : Thread Cert.InBwdRefIdeal.nD Cert.InBwdRefIdeal.τ).loc Cert.InBwdRefIdeal.main_arg12)
          ∧ r.2.mem ((c.tc : Thread Cert.InBwdRefIdeal.nD Cert.InBwdRefIdeal.τ).loc Cert.InBwdRefIdeal.main_arg13) = m' ((c.tc : Thread Cert.InBwdRefIdeal.nD Cert.InBwdRefIdeal.τ).loc Cert.InBwdRefIdeal.main_arg13)
          ∧ r.2.mem ((c.tc : Thread Cert.InBwdRefIdeal.nD Cert.InBwdRefIdeal.τ).loc Cert.InBwdRefIdeal.main_arg14) = m' ((c.tc : Thread Cert.InBwdRefIdeal.nD Cert.InBwdRefIdeal.τ).loc Cert.InBwdRefIdeal.main_arg14)
          ∧ r.2.mem ((c.tc : Thread Cert.InBwdRefIdeal.nD Cert.InBwdRefIdeal.τ).loc Cert.InBwdRefIdeal.main_arg15) = m' ((c.tc : Thread Cert.InBwdRefIdeal.nD Cert.InBwdRefIdeal.τ).loc Cert.InBwdRefIdeal.main_arg15))

def preserves_Pcs_PcsIdeal : Prop :=
  True

def algebraic_PcsIdeal_PcsRefIdeal [hPcsIdeal : Cert.PcsIdeal.Facts] [hPcsRefIdeal : Cert.PcsRefIdeal.Facts] : Prop :=
  ∀ (m : (ℓ : Loc Cert.PcsIdeal.nD Cert.PcsIdeal.τ Cert.PcsIdeal.sig) → Buf (Elt Ideal) ℓ) (g : Dev Cert.PcsIdeal.nD → PrngReg)
    (m' : (ℓ : Loc Cert.PcsRefIdeal.nD Cert.PcsRefIdeal.τ Cert.PcsRefIdeal.sig) → Buf (Elt Ideal) ℓ) (g' : Dev Cert.PcsRefIdeal.nD → PrngReg), Pre_PcsIdeal m →
    (∀ c : Dev Cert.PcsIdeal.nD,
      m' ((c.tc : Thread Cert.PcsRefIdeal.nD Cert.PcsRefIdeal.τ).loc Cert.PcsRefIdeal.main_arg0) = m ((c.tc : Thread Cert.PcsIdeal.nD Cert.PcsIdeal.τ).loc Cert.PcsIdeal.main_arg0)
      ∧ m' ((c.tc : Thread Cert.PcsRefIdeal.nD Cert.PcsRefIdeal.τ).loc Cert.PcsRefIdeal.main_arg1) = m ((c.tc : Thread Cert.PcsIdeal.nD Cert.PcsIdeal.τ).loc Cert.PcsIdeal.main_arg1)
      ∧ m' ((c.tc : Thread Cert.PcsRefIdeal.nD Cert.PcsRefIdeal.τ).loc Cert.PcsRefIdeal.main_arg2) = m ((c.tc : Thread Cert.PcsIdeal.nD Cert.PcsIdeal.τ).loc Cert.PcsIdeal.main_arg2)
      ∧ m' ((c.tc : Thread Cert.PcsRefIdeal.nD Cert.PcsRefIdeal.τ).loc Cert.PcsRefIdeal.main_arg3) = m ((c.tc : Thread Cert.PcsIdeal.nD Cert.PcsIdeal.τ).loc Cert.PcsIdeal.main_arg3)
      ∧ m' ((c.tc : Thread Cert.PcsRefIdeal.nD Cert.PcsRefIdeal.τ).loc Cert.PcsRefIdeal.main_arg4) = m ((c.tc : Thread Cert.PcsIdeal.nD Cert.PcsIdeal.τ).loc Cert.PcsIdeal.main_arg4)
      ∧ m' ((c.tc : Thread Cert.PcsRefIdeal.nD Cert.PcsRefIdeal.τ).loc Cert.PcsRefIdeal.main_arg5) = m ((c.tc : Thread Cert.PcsIdeal.nD Cert.PcsIdeal.τ).loc Cert.PcsIdeal.main_arg5)
      ∧ m' ((c.tc : Thread Cert.PcsRefIdeal.nD Cert.PcsRefIdeal.τ).loc Cert.PcsRefIdeal.main_arg6) = m ((c.tc : Thread Cert.PcsIdeal.nD Cert.PcsIdeal.τ).loc Cert.PcsIdeal.main_arg6)
      ∧ m' ((c.tc : Thread Cert.PcsRefIdeal.nD Cert.PcsRefIdeal.τ).loc Cert.PcsRefIdeal.main_arg7) = m ((c.tc : Thread Cert.PcsIdeal.nD Cert.PcsIdeal.τ).loc Cert.PcsIdeal.main_arg7)
      ∧ m' ((c.tc : Thread Cert.PcsRefIdeal.nD Cert.PcsRefIdeal.τ).loc Cert.PcsRefIdeal.main_arg8) = m ((c.tc : Thread Cert.PcsIdeal.nD Cert.PcsIdeal.τ).loc Cert.PcsIdeal.main_arg8)
      ∧ m' ((c.tc : Thread Cert.PcsRefIdeal.nD Cert.PcsRefIdeal.τ).loc Cert.PcsRefIdeal.main_arg9) = m ((c.tc : Thread Cert.PcsIdeal.nD Cert.PcsIdeal.τ).loc Cert.PcsIdeal.main_arg9)
      ∧ m' ((c.tc : Thread Cert.PcsRefIdeal.nD Cert.PcsRefIdeal.τ).loc Cert.PcsRefIdeal.main_arg10) = m ((c.tc : Thread Cert.PcsIdeal.nD Cert.PcsIdeal.τ).loc Cert.PcsIdeal.main_arg10)
      ∧ m' ((c.tc : Thread Cert.PcsRefIdeal.nD Cert.PcsRefIdeal.τ).loc Cert.PcsRefIdeal.main_arg11) = m ((c.tc : Thread Cert.PcsIdeal.nD Cert.PcsIdeal.τ).loc Cert.PcsIdeal.main_arg11)
      ∧ m' ((c.tc : Thread Cert.PcsRefIdeal.nD Cert.PcsRefIdeal.τ).loc Cert.PcsRefIdeal.main_arg12) = m ((c.tc : Thread Cert.PcsIdeal.nD Cert.PcsIdeal.τ).loc Cert.PcsIdeal.main_arg12)) →
    ∃ (v0 : (c : Dev Cert.PcsIdeal.nD) → Buf (Elt Ideal) ((c.tc : Thread Cert.PcsIdeal.nD Cert.PcsIdeal.τ).loc Cert.PcsIdeal.main_v0)),
      θ_run (Cert.PcsIdeal.defs (F := Ideal)) (onTc (τ := Cert.PcsIdeal.τ) (Cert.PcsIdeal.main (F := Ideal))) ⟨m, fun _ => 0, g⟩ (fun r => ∀ c : Dev Cert.PcsIdeal.nD,
          r.2.mem ((c.tc : Thread Cert.PcsIdeal.nD Cert.PcsIdeal.τ).loc Cert.PcsIdeal.main_v0) = v0 c
          ∧ r.2.mem ((c.tc : Thread Cert.PcsIdeal.nD Cert.PcsIdeal.τ).loc Cert.PcsIdeal.main_arg0) = m ((c.tc : Thread Cert.PcsIdeal.nD Cert.PcsIdeal.τ).loc Cert.PcsIdeal.main_arg0)
          ∧ r.2.mem ((c.tc : Thread Cert.PcsIdeal.nD Cert.PcsIdeal.τ).loc Cert.PcsIdeal.main_arg1) = m ((c.tc : Thread Cert.PcsIdeal.nD Cert.PcsIdeal.τ).loc Cert.PcsIdeal.main_arg1)
          ∧ r.2.mem ((c.tc : Thread Cert.PcsIdeal.nD Cert.PcsIdeal.τ).loc Cert.PcsIdeal.main_arg2) = m ((c.tc : Thread Cert.PcsIdeal.nD Cert.PcsIdeal.τ).loc Cert.PcsIdeal.main_arg2)
          ∧ r.2.mem ((c.tc : Thread Cert.PcsIdeal.nD Cert.PcsIdeal.τ).loc Cert.PcsIdeal.main_arg3) = m ((c.tc : Thread Cert.PcsIdeal.nD Cert.PcsIdeal.τ).loc Cert.PcsIdeal.main_arg3)
          ∧ r.2.mem ((c.tc : Thread Cert.PcsIdeal.nD Cert.PcsIdeal.τ).loc Cert.PcsIdeal.main_arg4) = m ((c.tc : Thread Cert.PcsIdeal.nD Cert.PcsIdeal.τ).loc Cert.PcsIdeal.main_arg4)
          ∧ r.2.mem ((c.tc : Thread Cert.PcsIdeal.nD Cert.PcsIdeal.τ).loc Cert.PcsIdeal.main_arg5) = m ((c.tc : Thread Cert.PcsIdeal.nD Cert.PcsIdeal.τ).loc Cert.PcsIdeal.main_arg5)
          ∧ r.2.mem ((c.tc : Thread Cert.PcsIdeal.nD Cert.PcsIdeal.τ).loc Cert.PcsIdeal.main_arg6) = m ((c.tc : Thread Cert.PcsIdeal.nD Cert.PcsIdeal.τ).loc Cert.PcsIdeal.main_arg6)
          ∧ r.2.mem ((c.tc : Thread Cert.PcsIdeal.nD Cert.PcsIdeal.τ).loc Cert.PcsIdeal.main_arg7) = m ((c.tc : Thread Cert.PcsIdeal.nD Cert.PcsIdeal.τ).loc Cert.PcsIdeal.main_arg7)
          ∧ r.2.mem ((c.tc : Thread Cert.PcsIdeal.nD Cert.PcsIdeal.τ).loc Cert.PcsIdeal.main_arg8) = m ((c.tc : Thread Cert.PcsIdeal.nD Cert.PcsIdeal.τ).loc Cert.PcsIdeal.main_arg8)
          ∧ r.2.mem ((c.tc : Thread Cert.PcsIdeal.nD Cert.PcsIdeal.τ).loc Cert.PcsIdeal.main_arg9) = m ((c.tc : Thread Cert.PcsIdeal.nD Cert.PcsIdeal.τ).loc Cert.PcsIdeal.main_arg9)
          ∧ r.2.mem ((c.tc : Thread Cert.PcsIdeal.nD Cert.PcsIdeal.τ).loc Cert.PcsIdeal.main_arg10) = m ((c.tc : Thread Cert.PcsIdeal.nD Cert.PcsIdeal.τ).loc Cert.PcsIdeal.main_arg10)
          ∧ r.2.mem ((c.tc : Thread Cert.PcsIdeal.nD Cert.PcsIdeal.τ).loc Cert.PcsIdeal.main_arg11) = m ((c.tc : Thread Cert.PcsIdeal.nD Cert.PcsIdeal.τ).loc Cert.PcsIdeal.main_arg11)
          ∧ r.2.mem ((c.tc : Thread Cert.PcsIdeal.nD Cert.PcsIdeal.τ).loc Cert.PcsIdeal.main_arg12) = m ((c.tc : Thread Cert.PcsIdeal.nD Cert.PcsIdeal.τ).loc Cert.PcsIdeal.main_arg12))
      ∧ θ_run (Cert.PcsRefIdeal.defs (F := Ideal)) (onTc (τ := Cert.PcsRefIdeal.τ) (Cert.PcsRefIdeal.main (F := Ideal))) ⟨m', fun _ => 0, g'⟩ (fun r => ∀ c : Dev Cert.PcsRefIdeal.nD,
          r.2.mem ((c.tc : Thread Cert.PcsRefIdeal.nD Cert.PcsRefIdeal.τ).loc Cert.PcsRefIdeal.main_v12) = v0 c
          ∧ r.2.mem ((c.tc : Thread Cert.PcsRefIdeal.nD Cert.PcsRefIdeal.τ).loc Cert.PcsRefIdeal.main_arg0) = m' ((c.tc : Thread Cert.PcsRefIdeal.nD Cert.PcsRefIdeal.τ).loc Cert.PcsRefIdeal.main_arg0)
          ∧ r.2.mem ((c.tc : Thread Cert.PcsRefIdeal.nD Cert.PcsRefIdeal.τ).loc Cert.PcsRefIdeal.main_arg1) = m' ((c.tc : Thread Cert.PcsRefIdeal.nD Cert.PcsRefIdeal.τ).loc Cert.PcsRefIdeal.main_arg1)
          ∧ r.2.mem ((c.tc : Thread Cert.PcsRefIdeal.nD Cert.PcsRefIdeal.τ).loc Cert.PcsRefIdeal.main_arg2) = m' ((c.tc : Thread Cert.PcsRefIdeal.nD Cert.PcsRefIdeal.τ).loc Cert.PcsRefIdeal.main_arg2)
          ∧ r.2.mem ((c.tc : Thread Cert.PcsRefIdeal.nD Cert.PcsRefIdeal.τ).loc Cert.PcsRefIdeal.main_arg3) = m' ((c.tc : Thread Cert.PcsRefIdeal.nD Cert.PcsRefIdeal.τ).loc Cert.PcsRefIdeal.main_arg3)
          ∧ r.2.mem ((c.tc : Thread Cert.PcsRefIdeal.nD Cert.PcsRefIdeal.τ).loc Cert.PcsRefIdeal.main_arg4) = m' ((c.tc : Thread Cert.PcsRefIdeal.nD Cert.PcsRefIdeal.τ).loc Cert.PcsRefIdeal.main_arg4)
          ∧ r.2.mem ((c.tc : Thread Cert.PcsRefIdeal.nD Cert.PcsRefIdeal.τ).loc Cert.PcsRefIdeal.main_arg5) = m' ((c.tc : Thread Cert.PcsRefIdeal.nD Cert.PcsRefIdeal.τ).loc Cert.PcsRefIdeal.main_arg5)
          ∧ r.2.mem ((c.tc : Thread Cert.PcsRefIdeal.nD Cert.PcsRefIdeal.τ).loc Cert.PcsRefIdeal.main_arg6) = m' ((c.tc : Thread Cert.PcsRefIdeal.nD Cert.PcsRefIdeal.τ).loc Cert.PcsRefIdeal.main_arg6)
          ∧ r.2.mem ((c.tc : Thread Cert.PcsRefIdeal.nD Cert.PcsRefIdeal.τ).loc Cert.PcsRefIdeal.main_arg7) = m' ((c.tc : Thread Cert.PcsRefIdeal.nD Cert.PcsRefIdeal.τ).loc Cert.PcsRefIdeal.main_arg7)
          ∧ r.2.mem ((c.tc : Thread Cert.PcsRefIdeal.nD Cert.PcsRefIdeal.τ).loc Cert.PcsRefIdeal.main_arg8) = m' ((c.tc : Thread Cert.PcsRefIdeal.nD Cert.PcsRefIdeal.τ).loc Cert.PcsRefIdeal.main_arg8)
          ∧ r.2.mem ((c.tc : Thread Cert.PcsRefIdeal.nD Cert.PcsRefIdeal.τ).loc Cert.PcsRefIdeal.main_arg9) = m' ((c.tc : Thread Cert.PcsRefIdeal.nD Cert.PcsRefIdeal.τ).loc Cert.PcsRefIdeal.main_arg9)
          ∧ r.2.mem ((c.tc : Thread Cert.PcsRefIdeal.nD Cert.PcsRefIdeal.τ).loc Cert.PcsRefIdeal.main_arg10) = m' ((c.tc : Thread Cert.PcsRefIdeal.nD Cert.PcsRefIdeal.τ).loc Cert.PcsRefIdeal.main_arg10)
          ∧ r.2.mem ((c.tc : Thread Cert.PcsRefIdeal.nD Cert.PcsRefIdeal.τ).loc Cert.PcsRefIdeal.main_arg11) = m' ((c.tc : Thread Cert.PcsRefIdeal.nD Cert.PcsRefIdeal.τ).loc Cert.PcsRefIdeal.main_arg11)
          ∧ r.2.mem ((c.tc : Thread Cert.PcsRefIdeal.nD Cert.PcsRefIdeal.τ).loc Cert.PcsRefIdeal.main_arg12) = m' ((c.tc : Thread Cert.PcsRefIdeal.nD Cert.PcsRefIdeal.τ).loc Cert.PcsRefIdeal.main_arg12))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v0)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hInBwd : Cert.InBwd.Facts) (hInBwdIdeal : Cert.InBwdIdeal.Facts) (hInBwdRefIdeal : Cert.InBwdRefIdeal.Facts) (hPcs : Cert.Pcs.Facts) (hPcsIdeal : Cert.PcsIdeal.Facts) (hPcsRefIdeal : Cert.PcsRefIdeal.Facts) (hFfnFwd : Cert.FfnFwd.Facts) (hFfnFwdIdeal : Cert.FfnFwdIdeal.Facts) (hFfnFwdRefIdeal : Cert.FfnFwdRefIdeal.Facts) (hInProj : Cert.InProj.Facts) (hInProjIdeal : Cert.InProjIdeal.Facts) (hInProjRefIdeal : Cert.InProjRefIdeal.Facts) (hPre_finite : Cert.Pre_finite.Facts) (hPre_in_proj_bwd_finite : Cert.Pre_in_proj_bwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_InBwd (hInBwd := hInBwd)
    ∧ quiescent_InBwdIdeal (hInBwdIdeal := hInBwdIdeal)
    ∧ quiescent_InBwdIdeal_pre_in_proj_bwd_finite (hInBwdIdeal := hInBwdIdeal) (hPre_in_proj_bwd_finite := hPre_in_proj_bwd_finite)
    ∧ quiescent_InBwdRefIdeal (hInBwdRefIdeal := hInBwdRefIdeal)
    ∧ quiescent_InBwdRefIdeal_pre_in_proj_bwd_finite (hInBwdRefIdeal := hInBwdRefIdeal) (hPre_in_proj_bwd_finite := hPre_in_proj_bwd_finite)
    ∧ quiescent_Pcs (hPcs := hPcs)
    ∧ quiescent_PcsIdeal (hPcsIdeal := hPcsIdeal)
    ∧ quiescent_PcsRefIdeal (hPcsRefIdeal := hPcsRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_InBwd_InBwdIdeal
    ∧ algebraic_InBwdIdeal_InBwdRefIdeal_pre_in_proj_bwd_finite (hInBwdIdeal := hInBwdIdeal) (hInBwdRefIdeal := hInBwdRefIdeal) (hPre_in_proj_bwd_finite := hPre_in_proj_bwd_finite)
    ∧ preserves_Pcs_PcsIdeal
    ∧ algebraic_PcsIdeal_PcsRefIdeal (hPcsIdeal := hPcsIdeal) (hPcsRefIdeal := hPcsRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_InProj_InProjIdeal
    ∧ algebraic_InProjIdeal_InProjRefIdeal (hInProjIdeal := hInProjIdeal) (hInProjRefIdeal := hInProjRefIdeal)
-- ==== Pre_finite.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v36 : IVec S_ 1) (main_v41 : IVec S_ 1) (main_v46 : IVec S_ 1) (main_v48 : FVec F S1024x1024 .f32) (main_cst_20 : FVec F S_ .f32) : IVec S_ 1 :=
  let main_v49 : FVec F S1024x1024 .f32 := broadcastInDim S1024x1024 ![] bcast_S_S1024x1024 main_cst_20
  let main_v50 : IVec S1024x1024 1 := cmpf .olt main_v48 main_v49
  let main_c_21 : IVec S_ 1 := constantI S_ 1 1#1
  let main_v51 : IVec S_ 1 := (fun x v => Host.reduce IntOp.andi x v reducesTo_S1024x1024_S_d0_1 h_S_) main_v50 main_c_21
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v36
  let main_v60 : IVec S_ 1 := andi main_v59 main_v41
  let main_v61 : IVec S_ 1 := andi main_v60 main_v46
  let main_v62 : IVec S_ 1 := andi main_v61 main_v51
  main_v62

def fn_part2 {F : FTy → Type} [FloatOps F] (main_arg9 : FVec F S512x1024 .bf16) (main_arg10 : FVec F S512x1024 .bf16) (main_arg11 : FVec F S512x1024 .bf16) (main_arg12 : FVec F S1024x1024 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512x1024 .f32 := (extf .f32 · bitsLt_bf16_f32) main_arg9
  let main_v33 : FVec F S512x1024 .f32 := Host.absf main_v32
  let main_cst_14 : FVec F S_ .f32 := constant S_ .f32 0x7F800000#32
  let main_v34 : FVec F S512x1024 .f32 := broadcastInDim S512x1024 ![] bcast_S_S512x1024 main_cst_14
  let main_v35 : IVec S512x1024 1 := cmpf .olt main_v33 main_v34
  let main_c_15 : IVec S_ 1 := constantI S_ 1 1#1
  let main_v36 : IVec S_ 1 := (fun x v => Host.reduce IntOp.andi x v reducesTo_S512x1024_S_d0_1 h_S_) main_v35 main_c_15
  let main_v37 : FVec F S512x1024 .f32 := (extf .f32 · bitsLt_bf16_f32) main_arg10
  let main_v38 : FVec F S512x1024 .f32 := Host.absf main_v37
  let main_cst_16 : FVec F S_ .f32 := constant S_ .f32 0x7F800000#32
  let main_v39 : FVec F S512x1024 .f32 := broadcastInDim S512x1024 ![] bcast_S_S512x1024 main_cst_16
  let main_v40 : IVec S512x1024 1 := cmpf .olt main_v38 main_v39
  let main_c_17 : IVec S_ 1 := constantI S_ 1 1#1
  let main_v41 : IVec S_ 1 := (fun x v => Host.reduce IntOp.andi x v reducesTo_S512x1024_S_d0_1 h_S_) main_v40 main_c_17
  let main_v42 : FVec F S512x1024 .f32 := (extf .f32 · bitsLt_bf16_f32) main_arg11
  let main_v43 : FVec F S512x1024 .f32 := Host.absf main_v42
  let main_cst_18 : FVec F S_ .f32 := constant S_ .f32 0x7F800000#32
  let main_v44 : FVec F S512x1024 .f32 := broadcastInDim S512x1024 ![] bcast_S_S512x1024 main_cst_18
  let main_v45 : IVec S512x1024 1 := cmpf .olt main_v43 main_v44
  let main_c_19 : IVec S_ 1 := constantI S_ 1 1#1
  let main_v46 : IVec S_ 1 := (fun x v => Host.reduce IntOp.andi x v reducesTo_S512x1024_S_d0_1 h_S_) main_v45 main_c_19
  let main_v47 : FVec F S1024x1024 .f32 := (extf .f32 · bitsLt_bf16_f32) main_arg12
  let main_v48 : FVec F S1024x1024 .f32 := Host.absf main_v47
  let main_cst_20 : FVec F S_ .f32 := constant S_ .f32 0x7F800000#32
  fn_part3 (F := F) main_v3 main_v7 main_v11 main_v15 main_v19 main_v23 main_v27 main_v31 main_v36 main_v41 main_v46 main_v48 main_cst_20

def fn_part1 {F : FTy → Type} [FloatOps F] (main_arg4 : FVec F S8192x512 .f32) (main_arg5 : FVec F S8192x512 .f32) (main_arg6 : FVec F S8192x512 .f32) (main_arg7 : FVec F S8192x512 .f32) (main_arg9 : FVec F S512x1024 .bf16) (main_arg10 : FVec F S512x1024 .bf16) (main_arg11 : FVec F S512x1024 .bf16) (main_arg12 : FVec F S1024x1024 .bf16) (main_v3 : IVec S_ 1) (main_v7 : IVec S_ 1) (main_v11 : IVec S_ 1) (main_v15 : IVec S_ 1) : IVec S_ 1 :=
  let main_v16 : FVec F S8192x512 .f32 := Host.absf main_arg4
  let main_cst_6 : FVec F S_ .f32 := constant S_ .f32 0x7F800000#32
  let main_v17 : FVec F S8192x512 .f32 := broadcastInDim S8192x512 ![] bcast_S_S8192x512 main_cst_6
  let main_v18 : IVec S8192x512 1 := cmpf .olt main_v16 main_v17
  let main_c_7 : IVec S_ 1 := constantI S_ 1 1#1
  let main_v19 : IVec S_ 1 := (fun x v => Host.reduce IntOp.andi x v reducesTo_S8192x512_S_d0_1 h_S_) main_v18 main_c_7
  let main_v20 : FVec F S8192x512 .f32 := Host.absf main_arg5
  let main_cst_8 : FVec F S_ .f32 := constant S_ .f32 0x7F800000#32
  let main_v21 : FVec F S8192x512 .f32 := broadcastInDim S8192x512 ![] bcast_S_S8192x512 main_cst_8
  let main_v22 : IVec S8192x512 1 := cmpf .olt main_v20 main_v21
  let main_c_9 : IVec S_ 1 := constantI S_ 1 1#1
  let main_v23 : IVec S_ 1 := (fun x v => Host.reduce IntOp.andi x v reducesTo_S8192x512_S_d0_1 h_S_) main_v22 main_c_9
  let main_v24 : FVec F S8192x512 .f32 := Host.absf main_arg6
  let main_cst_10 : FVec F S_ .f32 := constant S_ .f32 0x7F800000#32
  let main_v25 : FVec F S8192x512 .f32 := broadcastInDim S8192x512 ![] bcast_S_S8192x512 main_cst_10
  let main_v26 : IVec S8192x512 1 := cmpf .olt main_v24 main_v25
  let main_c_11 : IVec S_ 1 := constantI S_ 1 1#1
  let main_v27 : IVec S_ 1 := (fun x v => Host.reduce IntOp.andi x v reducesTo_S8192x512_S_d0_1 h_S_) main_v26 main_c_11
  let main_v28 : FVec F S8192x512 .f32 := Host.absf main_arg7
  let main_cst_12 : FVec F S_ .f32 := constant S_ .f32 0x7F800000#32
  let main_v29 : FVec F S8192x512 .f32 := broadcastInDim S8192x512 ![] bcast_S_S8192x512 main_cst_12
  let main_v30 : IVec S8192x512 1 := cmpf .olt main_v28 main_v29
  let main_c_13 : IVec S_ 1 := constantI S_ 1 1#1
  let main_v31 : IVec S_ 1 := (fun x v => Host.reduce IntOp.andi x v reducesTo_S8192x512_S_d0_1 h_S_) main_v30 main_c_13
  fn_part2 (F := F) main_arg9 main_arg10 main_arg11 main_arg12 main_v3 main_v7 main_v11 main_v15 main_v19 main_v23 main_v27 main_v31

def fn {F : FTy → Type} [FloatOps F] (main_arg0 : FVec F S8192x1024 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x512 .f32) (main_arg7 : FVec F S8192x512 .f32) (main_arg8 : FVec F S8192x7168 .f32) (main_arg9 : FVec F S512x1024 .bf16) (main_arg10 : FVec F S512x1024 .bf16) (main_arg11 : FVec F S512x1024 .bf16) (main_arg12 : FVec F S1024x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_arg5 main_arg6 main_arg7 main_arg9 main_arg10 main_arg11 main_arg12 main_v3 main_v7 main_v11 main_v15
-- ==== Pre_in_proj_bwd_finite.lean ====
abbrev S8192x512 : Shape := ⟨2, ![8192, 512]⟩
abbrev S8192x1024 : Shape := ⟨2, ![8192, 1024]⟩
abbrev S1024x7168 : Shape := ⟨2, ![1024, 7168]⟩
abbrev S1x1024 : Shape := ⟨2, ![1, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x7168 : S_.BroadcastsInDim S1024x7168 (![] : Fin 0 → Fin S1024x7168.rank)
  reducesTo_S1024x7168_S_d0_1 : S1024x7168.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part5 {F : FTy → Type} [FloatOps F] (main_v73 : IVec S_ 1) (main_v87 : IVec S_ 1) : IVec S_ 1 :=
  let main_v88 : IVec S_ 1 := andi main_v87 main_v73
  main_v88

def fn_part4 {F : FTy → Type} [FloatOps F] (main_arg15 : FVec F S8192x1024 .f32) (main_v4 : IVec S_ 1) (main_v9 : IVec S_ 1) (main_v14 : IVec S_ 1) (main_v19 : IVec S_ 1) (main_v24 : IVec S_ 1) (main_v29 : IVec S_ 1) (main_v33 : IVec S_ 1) (main_v37 : IVec S_ 1) (main_v41 : IVec S_ 1) (main_v46 : IVec S_ 1) (main_v51 : IVec S_ 1) (main_v56 : IVec S_ 1) (main_v61 : IVec S_ 1) (main_v65 : IVec S_ 1) (main_v66 : FVec F S1x1024 .f32) (main_cst_26 : FVec F S_ .f32) : IVec S_ 1 :=
  let main_v67 : FVec F S1x1024 .f32 := broadcastInDim S1x1024 ![] bcast_S_S1x1024 main_cst_26
  let main_v68 : IVec S1x1024 1 := cmpf .olt main_v66 main_v67
  let main_c_27 : IVec S_ 1 := constantI S_ 1 1#1
  let main_v69 : IVec S_ 1 := (fun x v => Host.reduce IntOp.andi x v reducesTo_S1x1024_S_d0_1 h_S_) main_v68 main_c_27
  let main_v70 : FVec F S8192x1024 .f32 := Host.absf main_arg15
  let main_cst_28 : FVec F S_ .f32 := constant S_ .f32 0x7F800000#32
  let main_v71 : FVec F S8192x1024 .f32 := broadcastInDim S8192x1024 ![] bcast_S_S8192x1024 main_cst_28
  let main_v72 : IVec S8192x1024 1 := cmpf .olt main_v70 main_v71
  let main_c_29 : IVec S_ 1 := constantI S_ 1 1#1
  let main_v73 : IVec S_ 1 := (fun x v => Host.reduce IntOp.andi x v reducesTo_S8192x1024_S_d0_1 h_S_) main_v72 main_c_29
  let main_v74 : IVec S_ 1 := andi main_v4 main_v9
  let main_v75 : IVec S_ 1 := andi main_v74 main_v14
  let main_v76 : IVec S_ 1 := andi main_v75 main_v19
  let main_v77 : IVec S_ 1 := andi main_v76 main_v24
  let main_v78 : IVec S_ 1 := andi main_v77 main_v29
  let main_v79 : IVec S_ 1 := andi main_v78 main_v33
  let main_v80 : IVec S_ 1 := andi main_v79 main_v37
  let main_v81 : IVec S_ 1 := andi main_v80 main_v41
  let main_v82 : IVec S_ 1 := andi main_v81 main_v46
  let main_v83 : IVec S_ 1 := andi main_v82 main_v51
  let main_v84 : IVec S_ 1 := andi main_v83 main_v56
  let main_v85 : IVec S_ 1 := andi main_v84 main_v61
  let main_v86 : IVec S_ 1 := andi main_v85 main_v65
  let main_v87 : IVec S_ 1 := andi main_v86 main_v69
  fn_part5 (F := F) main_v73 main_v87

def fn_part3 {F : FTy → Type} [FloatOps F] (main_arg11 : FVec F S8192x1024 .bf16) (main_arg12 : FVec F S1024x7168 .bf16) (main_arg13 : FVec F S8192x1024 .f32) (main_arg14 : FVec F S1x1024 .f32) (main_arg15 : FVec F S8192x1024 .f32) (main_v4 : IVec S_ 1) (main_v9 : IVec S_ 1) (main_v14 : IVec S_ 1) (main_v19 : IVec S_ 1) (main_v24 : IVec S_ 1) (main_v29 : IVec S_ 1) (main_v33 : IVec S_ 1) (main_v37 : IVec S_ 1) (main_v41 : IVec S_ 1) (main_v46 : IVec S_ 1) (main_v50 : IVec S8192x1024 1) : IVec S_ 1 :=
  let main_c_19 : IVec S_ 1 := constantI S_ 1 1#1
  let main_v51 : IVec S_ 1 := (fun x v => Host.reduce IntOp.andi x v reducesTo_S8192x1024_S_d0_1 h_S_) main_v50 main_c_19
  let main_v52 : FVec F S8192x1024 .f32 := (extf .f32 · bitsLt_bf16_f32) main_arg11
  let main_v53 : FVec F S8192x1024 .f32 := Host.absf main_v52
  let main_cst_20 : FVec F S_ .f32 := constant S_ .f32 0x7F800000#32
  let main_v54 : FVec F S8192x1024 .f32 := broadcastInDim S8192x1024 ![] bcast_S_S8192x1024 main_cst_20
  let main_v55 : IVec S8192x1024 1 := cmpf .olt main_v53 main_v54
  let main_c_21 : IVec S_ 1 := constantI S_ 1 1#1
  let main_v56 : IVec S_ 1 := (fun x v => Host.reduce IntOp.andi x v reducesTo_S8192x1024_S_d0_1 h_S_) main_v55 main_c_21
  let main_v57 : FVec F S1024x7168 .f32 := (extf .f32 · bitsLt_bf16_f32) main_arg12
  let main_v58 : FVec F S1024x7168 .f32 := Host.absf main_v57
  let main_cst_22 : FVec F S_ .f32 := constant S_ .f32 0x7F800000#32
  let main_v59 : FVec F S1024x7168 .f32 := broadcastInDim S1024x7168 ![] bcast_S_S1024x7168 main_cst_22
  let main_v60 : IVec S1024x7168 1 := cmpf .olt main_v58 main_v59
  let main_c_23 : IVec S_ 1 := constantI S_ 1 1#1
  let main_v61 : IVec S_ 1 := (fun x v => Host.reduce IntOp.andi x v reducesTo_S1024x7168_S_d0_1 h_S_) main_v60 main_c_23
  let main_v62 : FVec F S8192x1024 .f32 := Host.absf main_arg13
  let main_cst_24 : FVec F S_ .f32 := constant S_ .f32 0x7F800000#32
  let main_v63 : FVec F S8192x1024 .f32 := broadcastInDim S8192x1024 ![] bcast_S_S8192x1024 main_cst_24
  let main_v64 : IVec S8192x1024 1 := cmpf .olt main_v62 main_v63
  let main_c_25 : IVec S_ 1 := constantI S_ 1 1#1
  let main_v65 : IVec S_ 1 := (fun x v => Host.reduce IntOp.andi x v reducesTo_S8192x1024_S_d0_1 h_S_) main_v64 main_c_25
  let main_v66 : FVec F S1x1024 .f32 := Host.absf main_arg14
  let main_cst_26 : FVec F S_ .f32 := constant S_ .f32 0x7F800000#32
  fn_part4 (F := F) main_arg15 main_v4 main_v9 main_v14 main_v19 main_v24 main_v29 main_v33 main_v37 main_v41 main_v46 main_v51 main_v56 main_v61 main_v65 main_v66 main_cst_26

def fn_part2 {F : FTy → Type} [FloatOps F] (main_arg7 : FVec F S8192x512 .f32) (main_arg8 : FVec F S8192x512 .f32) (main_arg9 : FVec F S8192x512 .bf16) (main_arg10 : FVec F S8192x1024 .bf16) (main_arg11 : FVec F S8192x1024 .bf16) (main_arg12 : FVec F S1024x7168 .bf16) (main_arg13 : FVec F S8192x1024 .f32) (main_arg14 : FVec F S1x1024 .f32) (main_arg15 : FVec F S8192x1024 .f32) (main_v4 : IVec S_ 1) (main_v9 : IVec S_ 1) (main_v14 : IVec S_ 1) (main_v19 : IVec S_ 1) (main_v24 : IVec S_ 1) (main_v29 : IVec S_ 1) (main_v33 : IVec S_ 1) : IVec S_ 1 :=
  let main_v34 : FVec F S8192x512 .f32 := Host.absf main_arg7
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : FVec F S8192x512 .f32 := Host.absf main_arg8
  let main_cst_14 : FVec F S_ .f32 := constant S_ .f32 0x7F800000#32
  let main_v39 : FVec F S8192x512 .f32 := broadcastInDim S8192x512 ![] bcast_S_S8192x512 main_cst_14
  let main_v40 : IVec S8192x512 1 := cmpf .olt main_v38 main_v39
  let main_c_15 : IVec S_ 1 := constantI S_ 1 1#1
  let main_v41 : IVec S_ 1 := (fun x v => Host.reduce IntOp.andi x v reducesTo_S8192x512_S_d0_1 h_S_) main_v40 main_c_15
  let main_v42 : FVec F S8192x512 .f32 := (extf .f32 · bitsLt_bf16_f32) main_arg9
  let main_v43 : FVec F S8192x512 .f32 := Host.absf main_v42
  let main_cst_16 : FVec F S_ .f32 := constant S_ .f32 0x7F800000#32
  let main_v44 : FVec F S8192x512 .f32 := broadcastInDim S8192x512 ![] bcast_S_S8192x512 main_cst_16
  let main_v45 : IVec S8192x512 1 := cmpf .olt main_v43 main_v44
  let main_c_17 : IVec S_ 1 := constantI S_ 1 1#1
  let main_v46 : IVec S_ 1 := (fun x v => Host.reduce IntOp.andi x v reducesTo_S8192x512_S_d0_1 h_S_) main_v45 main_c_17
  let main_v47 : FVec F S8192x1024 .f32 := (extf .f32 · bitsLt_bf16_f32) main_arg10
  let main_v48 : FVec F S8192x1024 .f32 := Host.absf main_v47
  let main_cst_18 : FVec F S_ .f32 := constant S_ .f32 0x7F800000#32
  let main_v49 : FVec F S8192x1024 .f32 := broadcastInDim S8192x1024 ![] bcast_S_S8192x1024 main_cst_18
  let main_v50 : IVec S8192x1024 1 := cmpf .olt main_v48 main_v49
  fn_part3 (F := F) main_arg11 main_arg12 main_arg13 main_arg14 main_arg15 main_v4 main_v9 main_v14 main_v19 main_v24 main_v29 main_v33 main_v37 main_v41 main_v46 main_v50

def fn_part1 {F : FTy → Type} [FloatOps F] (main_arg4 : FVec F S8192x512 .bf16) (main_arg5 : FVec F S8192x512 .bf16) (main_arg6 : FVec F S8192x512 .f32) (main_arg7 : FVec F S8192x512 .f32) (main_arg8 : FVec F S8192x512 .f32) (main_arg9 : FVec F S8192x512 .bf16) (main_arg10 : FVec F S8192x1024 .bf16) (main_arg11 : FVec F S8192x1024 .bf16) (main_arg12 : FVec F S1024x7168 .bf16) (main_arg13 : FVec F S8192x1024 .f32) (main_arg14 : FVec F S1x1024 .f32) (main_arg15 : FVec F S8192x1024 .f32) (main_v4 : IVec S_ 1) (main_v9 : IVec S_ 1) (main_v14 : IVec S_ 1) (main_v16 : FVec F S8192x512 .f32) (main_cst_4 : FVec F S_ .f32) : IVec S_ 1 :=
  let main_v17 : FVec F S8192x512 .f32 := broadcastInDim S8192x512 ![] bcast_S_S8192x512 main_cst_4
  let main_v18 : IVec S8192x512 1 := cmpf .olt main_v16 main_v17
  let main_c_5 : IVec S_ 1 := constantI S_ 1 1#1
  let main_v19 : IVec S_ 1 := (fun x v => Host.reduce IntOp.andi x v reducesTo_S8192x512_S_d0_1 h_S_) main_v18 main_c_5
  let main_v20 : FVec F S8192x512 .f32 := (extf .f32 · bitsLt_bf16_f32) main_arg4
  let main_v21 : FVec F S8192x512 .f32 := Host.absf main_v20
  let main_cst_6 : FVec F S_ .f32 := constant S_ .f32 0x7F800000#32
  let main_v22 : FVec F S8192x512 .f32 := broadcastInDim S8192x512 ![] bcast_S_S8192x512 main_cst_6
  let main_v23 : IVec S8192x512 1 := cmpf .olt main_v21 main_v22
  let main_c_7 : IVec S_ 1 := constantI S_ 1 1#1
  let main_v24 : IVec S_ 1 := (fun x v => Host.reduce IntOp.andi x v reducesTo_S8192x512_S_d0_1 h_S_) main_v23 main_c_7
  let main_v25 : FVec F S8192x512 .f32 := (extf .f32 · bitsLt_bf16_f32) main_arg5
  let main_v26 : FVec F S8192x512 .f32 := Host.absf main_v25
  let main_cst_8 : FVec F S_ .f32 := constant S_ .f32 0x7F800000#32
  let main_v27 : FVec F S8192x512 .f32 := broadcastInDim S8192x512 ![] bcast_S_S8192x512 main_cst_8
  let main_v28 : IVec S8192x512 1 := cmpf .olt main_v26 main_v27
  let main_c_9 : IVec S_ 1 := constantI S_ 1 1#1
  let main_v29 : IVec S_ 1 := (fun x v => Host.reduce IntOp.andi x v reducesTo_S8192x512_S_d0_1 h_S_) main_v28 main_c_9
  let main_v30 : FVec F S8192x512 .f32 := Host.absf main_arg6
  let main_cst_10 : FVec F S_ .f32 := constant S_ .f32 0x7F800000#32
  let main_v31 : FVec F S8192x512 .f32 := broadcastInDim S8192x512 ![] bcast_S_S8192x512 main_cst_10
  let main_v32 : IVec S8192x512 1 := cmpf .olt main_v30 main_v31
  let main_c_11 : IVec S_ 1 := constantI S_ 1 1#1
  let main_v33 : IVec S_ 1 := (fun x v => Host.reduce IntOp.andi x v reducesTo_S8192x512_S_d0_1 h_S_) main_v32 main_c_11
  fn_part2 (F := F) main_arg7 main_arg8 main_arg9 main_arg10 main_arg11 main_arg12 main_arg13 main_arg14 main_arg15 main_v4 main_v9 main_v14 main_v19 main_v24 main_v29 main_v33

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S8192x512 .bf16) (main_arg5 : FVec F S8192x512 .bf16) (main_arg6 : FVec F S8192x512 .f32) (main_arg7 : FVec F S8192x512 .f32) (main_arg8 : FVec F S8192x512 .f32) (main_arg9 : FVec F S8192x512 .bf16) (main_arg10 : FVec F S8192x1024 .bf16) (main_arg11 : FVec F S8192x1024 .bf16) (main_arg12 : FVec F S1024x7168 .bf16) (main_arg13 : FVec F S8192x1024 .f32) (main_arg14 : FVec F S1x1024 .f32) (main_arg15 : FVec F S8192x1024 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : FVec F S8192x512 .f32 := (extf .f32 · bitsLt_bf16_f32) main_arg2
  let main_v11 : FVec F S8192x512 .f32 := Host.absf main_v10
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_c_3 : IVec S_ 1 := constantI S_ 1 1#1
  let main_v14 : IVec S_ 1 := (fun x v => Host.reduce IntOp.andi x v reducesTo_S8192x512_S_d0_1 h_S_) main_v13 main_c_3
  let main_v15 : FVec F S8192x512 .f32 := (extf .f32 · bitsLt_bf16_f32) main_arg3
  let main_v16 : FVec F S8192x512 .f32 := Host.absf main_v15
  let main_cst_4 : FVec F S_ .f32 := constant S_ .f32 0x7F800000#32
  fn_part1 (F := F) main_arg4 main_arg5 main_arg6 main_arg7 main_arg8 main_arg9 main_arg10 main_arg11 main_arg12 main_arg13 main_arg14 main_arg15 main_v4 main_v9 main_v14 main_v16 main_cst_4
-- ==== Kernel.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩

abbrev nBuf : Space → Nat
  | .hbm => 28
  | .vmem => 54
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x7168, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x1024, .bf16⟩
  | .hbm, ⟨21, _⟩ => ⟨S8192x1024, .bf16⟩
  | .hbm, ⟨22, _⟩ => ⟨S8192x512, .bf16⟩
  | .hbm, ⟨23, _⟩ => ⟨S8192x512, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S256x512, .bf16⟩
  | .local _ .vmem, ⟨43, _⟩ => ⟨S256x512, .bf16⟩
  | .local _ .vmem, ⟨44, _⟩ => ⟨S256x512, .bf16⟩
  | .local _ .vmem, ⟨45, _⟩ => ⟨S256x512, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev main_v0_10 : Ref sig .tc := ⟨.hbm, 23, rfl⟩
abbrev main_v0_11 : Ref sig .tc := ⟨.hbm, 24, rfl⟩
abbrev main_v0_12 : Ref sig .tc := ⟨.hbm, 25, rfl⟩
abbrev main_v0_13 : Ref sig .tc := ⟨.hbm, 26, rfl⟩
abbrev main_v0_14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_stg27_0 : Ref sig .tc := ⟨.vmem, 50, rfl⟩
abbrev cc0_stg27_1 : Ref sig .tc := ⟨.vmem, 51, rfl⟩
abbrev cc0_stg28_0 : Ref sig .tc := ⟨.vmem, 52, rfl⟩
abbrev cc0_stg28_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49
abbrev cc0_sem27_0 : DmaSem sig := 50
abbrev cc0_sem27_1 : DmaSem sig := 51
abbrev cc0_sem28_0 : DmaSem sig := 52
abbrev cc0_sem28_1 : DmaSem sig := 53

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1024x1024 : Shape := ⟨2, ![1024, 1024]⟩
abbrev S1x8192x512 : Shape := ⟨3, ![1, 8192, 512]⟩
abbrev S3x8192x512 : Shape := ⟨3, ![3, 8192, 512]⟩
abbrev S_ : Shape := ⟨0, ![]⟩

abbrev nBuf : Space → Nat
  | .hbm => 218
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x7168, .f32⟩
  | 9 => ⟨S512x1024, .bf16⟩
  | 10 => ⟨S512x1024, .bf16⟩
  | 11 => ⟨S512x1024, .bf16⟩
  | 12 => ⟨S1024x1024, .bf16⟩
  | 13 => ⟨S512x1024, .f32⟩
  | 14 => ⟨S512x1024, .f32⟩
  | 15 => ⟨S512x1024, .f32⟩
  | 16 => ⟨S1024x1024, .f32⟩
  | 17 => ⟨S8192x1024, .f32⟩
  | 18 => ⟨S8192x1024, .f32⟩
  | 19 => ⟨S1x8192x512, .f32⟩
  | 20 => ⟨S1x8192x512, .f32⟩
  | 21 => ⟨S1x8192x512, .f32⟩
  | 22 => ⟨S3x8192x512, .f32⟩
  | 23 => ⟨S_, .f32⟩
  | 24 => ⟨S8192x512, .f32⟩
  | 25 => ⟨S1x8192x512, .f32⟩
  | 26 => ⟨S3x8192x512, .f32⟩
  | 27 => ⟨S3x8192x512, .i1⟩
  | 28 => ⟨S3x8192x512, .f32⟩
  | 29 => ⟨S_, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .i1⟩
  | 37 => ⟨S_, .f32⟩
  | 38 => ⟨S8192x512, .f32⟩
  | 39 => ⟨S8192x512, .i1⟩
  | 40 => ⟨S_, .f32⟩
  | 41 => ⟨S8192x512, .f32⟩
  | 42 => ⟨S_, .f32⟩
  | 43 => ⟨S8192x512, .f32⟩
  | 44 => ⟨S_, .f32⟩
  | 45 => ⟨S8192x512, .f32⟩
  | 46 => ⟨S8192x512, .f32⟩
  | 47 => ⟨S8192x512, .f32⟩
  | 48 => ⟨S1x8192x512, .f32⟩
  | 49 => ⟨S3x8192x512, .f32⟩
  | 50 => ⟨S3x8192x512, .f32⟩
  | 51 => ⟨S3x8192x512, .f32⟩
  | 52 => ⟨S_, .f32⟩
  | 53 => ⟨S8192x512, .f32⟩
  | 54 => ⟨S1x8192x512, .f32⟩
  | 55 => ⟨S3x8192x512, .f32⟩
  | 56 => ⟨S3x8192x512, .f32⟩
  | 57 => ⟨S1x8192x512, .f32⟩
  | 58 => ⟨S_, .f32⟩
  | 59 => ⟨S1x8192x512, .f32⟩
  | 60 => ⟨S1x8192x512, .f32⟩
  | 61 => ⟨S1x8192x512, .f32⟩
  | 62 => ⟨S1x8192x512, .f32⟩
  | 63 => ⟨S1x8192x512, .f32⟩
  | 64 => ⟨S3x8192x512, .f32⟩
  | 65 => ⟨S3x8192x512, .f32⟩
  | 66 => ⟨S_, .f32⟩
  | 67 => ⟨S8192x512, .f32⟩
  | 68 => ⟨S8192x1024, .f32⟩
  | 69 => ⟨S_, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S_, .f32⟩
  | 82 => ⟨S8192x512, .f32⟩
  | 83 => ⟨S8192x512, .f32⟩
  | 84 => ⟨S8192x512, .f32⟩
  | 85 => ⟨S_, .f32⟩
  | 86 => ⟨S8192x512, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S8192x512, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S8192x512, .f32⟩
  | 46 => ⟨S8192x512, .f32⟩
  | 47 => ⟨S3x8192x512, .f32⟩
  | 48 => ⟨S3x8192x512, .f32⟩
  | 49 => ⟨S3x8192x512, .f32⟩
  | 50 => ⟨S1x8192x512, .f32⟩
  | 51 => ⟨S8192x512, .f32⟩
  | 52 => ⟨S1x8192x512, .f32⟩
  | 53 => ⟨S8192x512, .f32⟩
  | 54 => ⟨S1x8192x512, .f32⟩
  | 55 => ⟨S8192x512, .f32⟩
  | 56 => ⟨S3x8192x512, .f32⟩
  | 57 => ⟨S3x8192x512, .f32⟩
  | 58 => ⟨S3x8192x512, .f32⟩
  | 59 => ⟨S_, .f32⟩
  | 60 => ⟨S8192x512, .f32⟩
  | 61 => ⟨S1x8192x512, .f32⟩
  | 62 => ⟨S1x8192x512, .f32⟩
  | 63 => ⟨S3x8192x512, .f32⟩
  | 64 => ⟨S3x8192x512, .f32⟩
  | 65 => ⟨S_, .f32⟩
  | 66 => ⟨S8192x512, .f32⟩
  | 67 => ⟨S3x8192x512, .f32⟩
  | 68 => ⟨S3x8192x512, .f32⟩
  | 69 => ⟨S3x8192x512, .f32⟩
  | 70 => ⟨S1x8192x512, .f32⟩
  | 71 => ⟨S8192x512, .f32⟩
  | 72 => ⟨S1x8192x512, .f32⟩
  | 73 => ⟨S8192x512, .f32⟩
  | 74 => ⟨S1x8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x1024, .bf16⟩
  | 83 => ⟨S8192x1024, .bf16⟩
  | 84 => ⟨S8192x512, .bf16⟩
  | 85 => ⟨S8192x512, .bf16⟩
  | 86 => ⟨S8192x1024, .bf16⟩
  | 87 => ⟨S8192x1024, .bf16⟩
  | 88 => ⟨S8192x1024, .bf16⟩
  | 89 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_18 : Ref sig .tc := ⟨.hbm, 104, rfl⟩
abbrev main_v72 : Ref sig .tc := ⟨.hbm, 105, rfl⟩
abbrev main_v73 : Ref sig .tc := ⟨.hbm, 106, rfl⟩
abbrev main_cst_19 : Ref sig .tc := ⟨.hbm, 107, rfl⟩
abbrev main_v74 : Ref sig .tc := ⟨.hbm, 108, rfl⟩
abbrev main_v75 : Ref sig .tc := ⟨.hbm, 109, rfl⟩
abbrev main_cst_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_21 : Ref sig .tc := ⟨.hbm, 117, rfl⟩
abbrev main_v82 : Ref sig .tc := ⟨.hbm, 118, rfl⟩
abbrev main_v83 : Ref sig .tc := ⟨.hbm, 119, rfl⟩
abbrev main_cst_22 : Ref sig .tc := ⟨.hbm, 120, rfl⟩
abbrev main_v84 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_24 : Ref sig .tc := ⟨.hbm, 130, rfl⟩
abbrev main_v92 : Ref sig .tc := ⟨.hbm, 131, rfl⟩
abbrev main_v93 : Ref sig .tc := ⟨.hbm, 132, rfl⟩
abbrev main_cst_25 : Ref sig .tc := ⟨.hbm, 133, rfl⟩
abbrev main_v94 : Ref sig .tc := ⟨.hbm, 134, rfl⟩
abbrev main_v95 : Ref sig .tc := ⟨.hbm, 135, rfl⟩
abbrev main_cst_26 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_cst_28 : Ref sig .tc := ⟨.hbm, 162, rfl⟩
abbrev main_v120 : Ref sig .tc := ⟨.hbm, 163, rfl⟩
abbrev main_v121 : Ref sig .tc := ⟨.hbm, 164, rfl⟩
abbrev main_cst_29 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_30 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_31 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_32 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩

abbrev nD : Nat := 1
abbrev τ : Topo := Topo.v7x

variable {F : FTy → Type} [FloatOps F]
-- ==== Down.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x3072 : Shape := ⟨2, ![8192, 3072]⟩
abbrev S8192x1024 : Shape := ⟨2, ![8192, 1024]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S8192x3072, .f32⟩
  | .hbm, ⟨3, _⟩ => ⟨S8192x1024, .bf16⟩
  | .hbm, ⟨4, _⟩ => ⟨S8192x1024, .f32⟩
  | .hbm, ⟨5, _⟩ => ⟨S1024x3072, .f32⟩
  | .hbm, ⟨6, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proj.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjRefIdeal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InBwd.lean ====
abbrev S8192x512 : Shape := ⟨2, ![8192, 512]⟩
abbrev S8192x1024 : Shape := ⟨2, ![8192, 1024]⟩
abbrev S1024x7168 : Shape := ⟨2, ![1024, 7168]⟩
abbrev S1x1024 : Shape := ⟨2, ![1, 1024]⟩
abbrev S512x512 : Shape := ⟨2, ![512, 512]⟩
abbrev S512x1024 : Shape := ⟨2, ![512, 1024]⟩
abbrev S_ : Shape := ⟨0, ![]⟩
abbrev S512x2048 : Shape := ⟨2, ![512, 2048]⟩
abbrev S1024x2048 : Shape := ⟨2, ![1024, 2048]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 33
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x1024, .bf16⟩
  | .hbm, ⟨11, _⟩ => ⟨S8192x1024, .bf16⟩
  | .hbm, ⟨12, _⟩ => ⟨S1024x7168, .bf16⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | .local _ .vmem, ⟨32, _⟩ => ⟨S1024x7168, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InBwdRefIdeal.lean ====
abbrev S8192x512 : Shape := ⟨2, ![8192, 512]⟩
abbrev S8192x1024 : Shape := ⟨2, ![8192, 1024]⟩
abbrev S1024x7168 : Shape := ⟨2, ![1024, 7168]⟩
abbrev S1x1024 : Shape := ⟨2, ![1, 1024]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x1024, .bf16⟩
  | .hbm, ⟨11, _⟩ => ⟨S8192x1024, .bf16⟩
  | .hbm, ⟨12, _⟩ => ⟨S1024x7168, .bf16⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S8192x1024, .f32⟩
  | .hbm, ⟨25, _⟩ => ⟨S8192x7168, .f32⟩
  | .hbm, ⟨26, _⟩ => ⟨S1024x7168, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x7168, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Pcs.lean ====
abbrev S8192x1024 : Shape := ⟨2, ![8192, 1024]⟩
abbrev S8192x512 : Shape := ⟨2, ![8192, 512]⟩
abbrev S1024x7168 : Shape := ⟨2, ![1024, 7168]⟩
abbrev S1024x1024 : Shape := ⟨2, ![1024, 1024]⟩
abbrev S1024x512 : Shape := ⟨2, ![1024, 512]⟩

abbrev nBuf : Space → Nat
  | .hbm => 14
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .bf16⟩
  | .hbm, ⟨11, _⟩ => ⟨S8192x1024, .bf16⟩
  | .hbm, ⟨12, _⟩ => ⟨S8192x1024, .bf16⟩
  | .hbm, ⟨13, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg0 : BitVec 32 := BitVec.ofNat 32 (i 0).val
  let c4_i32 : BitVec 32 := 4#32
  let v15 : BitVec 1 := Scalar.cmpi .eq arg0 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg0 : BitVec 32 := BitVec.ofNat 32 (i 0).val
  let c5_i32 : BitVec 32 := 5#32
  let v18 : BitVec 1 := Scalar.cmpi .eq arg0 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg0 : BitVec 32 := BitVec.ofNat 32 (i 0).val
  let c6_i32 : BitVec 32 := 6#32
  let v21 : BitVec 1 := Scalar.cmpi .eq arg0 c6_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== PcsRefIdeal.lean ====
abbrev S8192x1024 : Shape := ⟨2, ![8192, 1024]⟩
abbrev S8192x512 : Shape := ⟨2, ![8192, 512]⟩
abbrev S8192x7168 : Shape := ⟨2, ![8192, 7168]⟩
abbrev S7168x1024 : Shape := ⟨2, ![7168, 1024]⟩
abbrev S1024x7168 : Shape := ⟨2, ![1024, 7168]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S8192x7168, .f32⟩
  | .hbm, ⟨24, _⟩ => ⟨S7168x1024, .f32⟩
  | .hbm, ⟨25, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x3072 : Shape := ⟨2, ![1024, 3072]⟩
abbrev S3072x1024 : Shape := ⟨2, ![3072, 1024]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .bf16⟩
  | .hbm, ⟨3, _⟩ => ⟨S1024x3072, .bf16⟩
  | .hbm, ⟨4, _⟩ => ⟨S3072x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v42 : BitVec 1 := Scalar.cmpi .eq arg1 c2_i32
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnFwdRefIdeal.lean ====
abbrev S8192x1024 : Shape := ⟨2, ![8192, 1024]⟩
abbrev S1x1024 : Shape := ⟨2, ![1, 1024]⟩
abbrev S1024x3072 : Shape := ⟨2, ![1024, 3072]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .bf16⟩
  | .hbm, ⟨3, _⟩ => ⟨S1024x3072, .bf16⟩
  | .hbm, ⟨4, _⟩ => ⟨S3072x1024, .bf16⟩
  | .hbm, ⟨5, _⟩ => ⟨S1024x3072, .f32⟩
  | .hbm, ⟨6, _⟩ => ⟨S1024x3072, .f32⟩
  | .hbm, ⟨7, _⟩ => ⟨S3072x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S_, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x7168 : Shape := ⟨2, ![1024, 7168]⟩
abbrev S8192x7168 : Shape := ⟨2, ![8192, 7168]⟩
abbrev S512x1024 : Shape := ⟨2, ![512, 1024]⟩
abbrev S512x3584 : Shape := ⟨2, ![512, 3584]⟩
abbrev S_ : Shape := ⟨0, ![]⟩
abbrev S512 : Shape := ⟨1, ![512]⟩
abbrev S512x1 : Shape := ⟨2, ![512, 1]⟩
abbrev S1024x3584 : Shape := ⟨2, ![1024, 3584]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7168, .bf16⟩
  | .hbm, ⟨3, _⟩ => ⟨S8192x7168, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x3584, .f32⟩
  | .local _ .vmem, ⟨4, _⟩ => ⟨S512x3584, .f32⟩
  | .local _ .vmem, ⟨5, _⟩ => ⟨S512x1024, .bf16⟩
  | .local _ .vmem, ⟨6, _⟩ => ⟨S512x1024, .bf16⟩
  | .local _ .vmem, ⟨7, _⟩ => ⟨S1024x7168, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InProjRefIdeal.lean ====
abbrev S8192x1024 : Shape := ⟨2, ![8192, 1024]⟩
abbrev S1x1024 : Shape := ⟨2, ![1, 1024]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S8192x7168 : Shape := ⟨2, ![8192, 7168]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7168, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x7168, .f32⟩
  | .hbm, ⟨19, _⟩ => ⟨S8192x7168, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.MixFrameIdeal.lean ====
/- The frame of the merge-gradient call in the program `KernelIdeal`: the body's triple, the proof data of its 29 windows, the
   run and the frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1740000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 9).trans (((dats 0 c).arrAt_in 9 rfl _).trans ((hA c 9).trans (V_main_arg8 m c))),
      ((h c).1 10).trans (((dats 0 c).arrAt_in 10 rfl _).trans ((hA c 10).trans (V_main_arg9 m c))),
      ((h c).1 11).trans (((dats 0 c).arrAt_in 11 rfl _).trans ((hA c 11).trans (V_main_arg10 m c))),
      ((h c).1 12).trans (((dats 0 c).arrAt_in 12 rfl _).trans ((hA c 12).trans (V_main_arg11 m c))),
      ((h c).1 13).trans (((dats 0 c).arrAt_in 13 rfl _).trans ((hA c 13).trans (V_main_arg12 m c)))⟩) h

/-! ## The body's accesses -/

abbrev r0_0 : Rect S256x512 := Rect.unit (s := S256x512) ![0, 0] S256x512.size inb_S256x512_S256x512_0_0
abbrev r0_1 : Rect S512x1024 := Rect.unit (s := S512x1024) ![0, 0] S512x1024.size inb_S512x1024_S512x1024_0_0
abbrev r0_2 : Rect S256x1024 := Rect.unit (s := S256x1024) ![0, 0] S256x1024.size inb_S256x1024_S256x1024_0_0
abbrev r0_3 : Rect S1024x1024 := Rect.unit (s := S1024x1024) ![0, 0] S1024x1024.size inb_S1024x1024_S1024x1024_0_0

/-! ## What the body leaves in each output window's buffer -/

/-! ### Values of the body that the stores' payloads, spelt out, would write more than once

    Each is a vector the body binds (often a part call's result), stated over the input windows' blocks and
    numbered on from the skeleton's payload functions (`k0_pay41` …, after `k0_pay40`), so that
    `out0_W` and the values after it name it instead of spelling it out (`unfold_out out0_W` opens a canon
    with them, `unfold_payloads` opens them with the payloads); the comment after each is the printed function's
    name for the value (a count appended where that name is bound again). -/

def k0_pay41 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay10 (View.ld x2 r0_0) (View.ld x4 r0_0) (View.ld x6 r0_0) -- `v18`
def k0_pay42 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay11 (View.ld x2 r0_0) (View.ld x4 r0_0) (View.ld x6 r0_0) -- `v19`
def k0_pay43 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay12 (View.ld x2 r0_0) (View.ld x4 r0_0) (View.ld x6 r0_0) -- `v20`
def k0_pay44 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay13 (View.ld x2 r0_0) (View.ld x4 r0_0) (View.ld x6 r0_0) (View.ld x1 r0_0) (View.ld x3 r0_0) (View.ld x5 r0_0) -- `v25`
def k0_pay45 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x1024 .f32 :=
  k0_pay15 (View.ld x2 r0_0) (View.ld x4 r0_0) (View.ld x6 r0_0) (View.ld x1 r0_0) (View.ld x3 r0_0) (View.ld x5 r0_0) (View.ld x10 r0_1) -- `v28`
def k0_pay46 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay16 (View.ld x7 r0_0) -- `v31`
def k0_pay47 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay17 (View.ld x7 r0_0) -- `v36`
def k0_pay48 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay18 (F := F) -- `v37`
def k0_pay49 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x1024 .f32 :=
  k0_pay20 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (View.ld x11 r0_1) -- `v45`
def k0_pay50 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x1024 .f32 :=
  k0_pay21 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (View.ld x12 r0_1) -- `v54`
def k0_pay51 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x1024 .f32 :=
  k0_pay23 (View.ld x8 r0_2) -- `v63`
def k0_pay52 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x1024 .f32 :=
  k0_pay24 (View.ld x9 r0_2) -- `v71`
def k0_pay53 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x1024 .bf16 :=
  k0_pay27 (k0_pay51 x0 x1 x2 x3 x4 x5 x6 x7 x8 x9 x10 x11 x12 x13) (View.ld x0 r0_2) (View.ld x13 r0_3) -- `v80`
def k0_pay54 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : FVec F S256x512 .f32 :=
  k0_pay36 (k0_pay53 x0 x1 x2 x3 x4 x5 x6 x7 x8 x9 x10 x11 x12 x13) (View.ld x10 r0_1) -- `v139`

/-- Window 14's staging buffer after the body, from the input windows' blocks: its 1 store as pieces, LAST
    FIRST (Lib/Pipeline/FrameBody.lean `View.canon`; the payloads are the skeleton's and the values stated above). -/
def out0_14 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .f32 :=
  View.canon [⟨r0_0, k0_pay37 (k0_pay41 x0 x1 x2 x3 x4 x5 x6 x7 x8 x9 x10 x11 x12 x13) (k0_pay53 x0 x1 x2 x3 x4 x5 x6 x7 x8 x9 x10 x11 x12 x13) (View.ld x10 r0_1)⟩]

/-- Its stores tile the buffer (checked by evaluation), so they cover it. -/
theorem cover0_14 (p0 : Vec F S256x512 .f32) (y : S256x512.Idx) :
    ∃ pc ∈ ([⟨r0_0, p0⟩] : List (View.Piece (Elt F) S256x512 .f32)), y ∈ pc.1.set :=
  View.cover_of_tiled [⟨r0_0, p0⟩] S256x512.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .f32 :=
  View.canon [⟨r0_0, k0_pay38 (k0_pay41 x0 x1 x2 x3 x4 x5 x6 x7 x8 x9 x10 x11 x12 x13) (k0_pay44 x0 x1 x2 x3 x4 x5 x6 x7 x8 x9 x10 x11 x12 x13) (k0_pay53 x0 x1 x2 x3 x4 x5 x6 x7 x8 x9 x10 x11 x12 x13) (View.ld x10 r0_1)⟩]

/-- Its stores tile the buffer (checked by evaluation), so they cover it. -/
theorem cover0_15 (p0 : Vec F S256x512 .f32) (y : S256x512.Idx) :
    ∃ pc ∈ ([⟨r0_0, p0⟩] : List (View.Piece (Elt F) S256x512 .f32)), y ∈ pc.1.set :=
  View.cover_of_tiled [⟨r0_0, p0⟩] S256x512.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .f32 :=
  View.canon [⟨r0_0, k0_pay39 (k0_pay42 x0 x1 x2 x3 x4 x5 x6 x7 x8 x9 x10 x11 x12 x13) (k0_pay53 x0 x1 x2 x3 x4 x5 x6 x7 x8 x9 x10 x11 x12 x13) (View.ld x10 r0_1)⟩]

/-- Its stores tile the buffer (checked by evaluation), so they cover it. -/
theorem cover0_16 (p0 : Vec F S256x512 .f32) (y : S256x512.Idx) :
    ∃ pc ∈ ([⟨r0_0, p0⟩] : List (View.Piece (Elt F) S256x512 .f32)), y ∈ pc.1.set :=
  View.cover_of_tiled [⟨r0_0, p0⟩] S256x512.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .f32 :=
  View.canon [⟨r0_0, k0_pay1 (k0_pay44 x0 x1 x2 x3 x4 x5 x6 x7 x8 x9 x10 x11 x12 x13) (k0_pay40 (k0_pay42 x0 x1 x2 x3 x4 x5 x6 x7 x8 x9 x10 x11 x12 x13) (k0_pay53 x0 x1 x2 x3 x4 x5 x6 x7 x8 x9 x10 x11 x12 x13) (View.ld x10 r0_1))⟩]

/-- Its stores tile the buffer (checked by evaluation), so they cover it. -/
theorem cover0_17 (p0 : Vec F S256x512 .f32) (y : S256x512.Idx) :
    ∃ pc ∈ ([⟨r0_0, p0⟩] : List (View.Piece (Elt F) S256x512 .f32)), y ∈ pc.1.set :=
  View.cover_of_tiled [⟨r0_0, p0⟩] S256x512.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .f32 :=
  View.canon [⟨r0_0, k0_pay2 (k0_pay43 x0 x1 x2 x3 x4 x5 x6 x7 x8 x9 x10 x11 x12 x13) (k0_pay54 x0 x1 x2 x3 x4 x5 x6 x7 x8 x9 x10 x11 x12 x13)⟩]

/-- Its stores tile the buffer (checked by evaluation), so they cover it. -/
theorem cover0_18 (p0 : Vec F S256x512 .f32) (y : S256x512.Idx) :
    ∃ pc ∈ ([⟨r0_0, p0⟩] : List (View.Piece (Elt F) S256x512 .f32)), y ∈ pc.1.set :=
  View.cover_of_tiled [⟨r0_0, p0⟩] S256x512.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .f32 :=
  View.canon [⟨r0_0, k0_pay3 (k0_pay43 x0 x1 x2 x3 x4 x5 x6 x7 x8 x9 x10 x11 x12 x13) (k0_pay44 x0 x1 x2 x3 x4 x5 x6 x7 x8 x9 x10 x11 x12 x13) (k0_pay54 x0 x1 x2 x3 x4 x5 x6 x7 x8 x9 x10 x11 x12 x13)⟩]

/-- Its stores tile the buffer (checked by evaluation), so they cover it. -/
theorem cover0_19 (p0 : Vec F S256x512 .f32) (y : S256x512.Idx) :
    ∃ pc ∈ ([⟨r0_0, p0⟩] : List (View.Piece (Elt F) S256x512 .f32)), y ∈ pc.1.set :=
  View.cover_of_tiled [⟨r0_0, p0⟩] S256x512.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .f32 :=
  View.canon [⟨r0_0, k0_pay35 (View.ld x7 r0_0) (k0_pay33 (k0_pay49 x0 x1 x2 x3 x4 x5 x6 x7 x8 x9 x10 x11 x12 x13) (k0_pay50 x0 x1 x2 x3 x4 x5 x6 x7 x8 x9 x10 x11 x12 x13) (k0_pay52 x0 x1 x2 x3 x4 x5 x6 x7 x8 x9 x10 x11 x12 x13) (View.ld x0 r0_2) (View.ld x13 r0_3) (View.ld x11 r0_1) (View.ld x12 r0_1)) (k0_pay34 (View.ld x7 r0_0))⟩]

/-- Its stores tile the buffer (checked by evaluation), so they cover it. -/
theorem cover0_20 (p0 : Vec F S256x512 .f32) (y : S256x512.Idx) :
    ∃ pc ∈ ([⟨r0_0, p0⟩] : List (View.Piece (Elt F) S256x512 .f32)), y ∈ pc.1.set :=
  View.cover_of_tiled [⟨r0_0, p0⟩] S256x512.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x1024 .bf16 :=
  View.canon [⟨r0_2, k0_pay31 (k0_pay45 x0 x1 x2 x3 x4 x5 x6 x7 x8 x9 x10 x11 x12 x13) (k0_pay51 x0 x1 x2 x3 x4 x5 x6 x7 x8 x9 x10 x11 x12 x13) (View.ld x0 r0_2) (View.ld x13 r0_3)⟩]

/-- Its stores tile the buffer (checked by evaluation), so they cover it. -/
theorem cover0_21 (p0 : Vec F S256x1024 .bf16) (y : S256x1024.Idx) :
    ∃ pc ∈ ([⟨r0_2, p0⟩] : List (View.Piece (Elt F) S256x1024 .bf16)), y ∈ pc.1.set :=
  View.cover_of_tiled [⟨r0_2, p0⟩] S256x1024.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x1024 .bf16 :=
  View.canon [⟨r0_2, k0_pay32 (k0_pay22 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (View.ld x11 r0_1) (View.ld x12 r0_1)) (k0_pay52 x0 x1 x2 x3 x4 x5 x6 x7 x8 x9 x10 x11 x12 x13) (View.ld x0 r0_2) (View.ld x13 r0_3)⟩]

/-- Its stores tile the buffer (checked by evaluation), so they cover it. -/
theorem cover0_22 (p0 : Vec F S256x1024 .bf16) (y : S256x1024.Idx) :
    ∃ pc ∈ ([⟨r0_2, p0⟩] : List (View.Piece (Elt F) S256x1024 .bf16)), y ∈ pc.1.set :=
  View.cover_of_tiled [⟨r0_2, p0⟩] S256x1024.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .bf16 :=
  View.canon [⟨r0_0, k0_pay14 (View.ld x2 r0_0) (View.ld x4 r0_0) (View.ld x6 r0_0) (View.ld x1 r0_0) (View.ld x3 r0_0) (View.ld x5 r0_0)⟩]

/-- Its stores tile the buffer (checked by evaluation), so they cover it. -/
theorem cover0_23 (p0 : Vec F S256x512 .bf16) (y : S256x512.Idx) :
    ∃ pc ∈ ([⟨r0_0, p0⟩] : List (View.Piece (Elt F) S256x512 .bf16)), y ∈ pc.1.set :=
  View.cover_of_tiled [⟨r0_0, p0⟩] S256x512.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x512 .bf16 :=
  View.canon [⟨r0_0, k0_pay19 (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13)⟩]

/-- Its stores tile the buffer (checked by evaluation), so they cover it. -/
theorem cover0_24 (p0 : Vec F S256x512 .bf16) (y : S256x512.Idx) :
    ∃ pc ∈ ([⟨r0_0, p0⟩] : List (View.Piece (Elt F) S256x512 .bf16)), y ∈ pc.1.set :=
  View.cover_of_tiled [⟨r0_0, p0⟩] S256x512.size (by rfl) y

/-- Window 25's staging buffer after the body, from the input windows' blocks: its 1 store as pieces, LAST
    FIRST (Lib/Pipeline/FrameBody.lean `View.canon`; the payloads are the skeleton's and the values stated above). -/
def out0_25 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x1024 .bf16 :=
  View.canon [⟨r0_2, k0_pay4 (k0_pay25 (k0_pay45 x0 x1 x2 x3 x4 x5 x6 x7 x8 x9 x10 x11 x12 x13) (k0_pay46 x0 x1 x2 x3 x4 x5 x6 x7 x8 x9 x10 x11 x12 x13) (k0_pay47 x0 x1 x2 x3 x4 x5 x6 x7 x8 x9 x10 x11 x12 x13) (k0_pay48 x0 x1 x2 x3 x4 x5 x6 x7 x8 x9 x10 x11 x12 x13) (View.ld x11 r0_1) (View.ld x12 r0_1) (View.ld x8 r0_2) (View.ld x9 r0_2))⟩]

/-- Its stores tile the buffer (checked by evaluation), so they cover it. -/
theorem cover0_25 (p0 : Vec F S256x1024 .bf16) (y : S256x1024.Idx) :
    ∃ pc ∈ ([⟨r0_2, p0⟩] : List (View.Piece (Elt F) S256x1024 .bf16)), y ∈ pc.1.set :=
  View.cover_of_tiled [⟨r0_2, p0⟩] S256x1024.size (by rfl) y

/-- Window 26's staging buffer after the body, from the input windows' blocks: its 1 store as pieces, LAST
    FIRST (Lib/Pipeline/FrameBody.lean `View.canon`; the payloads are the skeleton's and the values stated above). -/
def out0_26 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x1024 .bf16 :=
  View.canon [⟨r0_2, k0_pay53 x0 x1 x2 x3 x4 x5 x6 x7 x8 x9 x10 x11 x12 x13⟩]

/-- Its stores tile the buffer (checked by evaluation), so they cover it. -/
theorem cover0_26 (p0 : Vec F S256x1024 .bf16) (y : S256x1024.Idx) :
    ∃ pc ∈ ([⟨r0_2, p0⟩] : List (View.Piece (Elt F) S256x1024 .bf16)), y ∈ pc.1.set :=
  View.cover_of_tiled [⟨r0_2, p0⟩] S256x1024.size (by rfl) y

/-- Window 27's staging buffer after the body, from the input windows' blocks: its 1 store as pieces, LAST
    FIRST (Lib/Pipeline/FrameBody.lean `View.canon`; the payloads are the skeleton's and the values stated above). -/
def out0_27 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x1024 .bf16 :=
  View.canon [⟨r0_2, k0_pay29 (k0_pay50 x0 x1 x2 x3 x4 x5 x6 x7 x8 x9 x10 x11 x12 x13) (k0_pay52 x0 x1 x2 x3 x4 x5 x6 x7 x8 x9 x10 x11 x12 x13) (View.ld x0 r0_2) (View.ld x13 r0_3)⟩]

/-- Its stores tile the buffer (checked by evaluation), so they cover it. -/
theorem cover0_27 (p0 : Vec F S256x1024 .bf16) (y : S256x1024.Idx) :
    ∃ pc ∈ ([⟨r0_2, p0⟩] : List (View.Piece (Elt F) S256x1024 .bf16)), y ∈ pc.1.set :=
  View.cover_of_tiled [⟨r0_2, p0⟩] S256x1024.size (by rfl) y

/-- Window 28's staging buffer after the body, from the input windows' blocks: its 1 store as pieces, LAST
    FIRST (Lib/Pipeline/FrameBody.lean `View.canon`; the payloads are the skeleton's and the values stated above). -/
def out0_28 (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) : Vec F S256x1024 .bf16 :=
  View.canon [⟨r0_2, k0_pay30 (k0_pay49 x0 x1 x2 x3 x4 x5 x6 x7 x8 x9 x10 x11 x12 x13) (k0_pay50 x0 x1 x2 x3 x4 x5 x6 x7 x8 x9 x10 x11 x12 x13) (k0_pay52 x0 x1 x2 x3 x4 x5 x6 x7 x8 x9 x10 x11 x12 x13) (View.ld x0 r0_2) (View.ld x13 r0_3)⟩]

/-- Its stores tile the buffer (checked by evaluation), so they cover it. -/
theorem cover0_28 (p0 : Vec F S256x1024 .bf16) (y : S256x1024.Idx) :
    ∃ pc ∈ ([⟨r0_2, p0⟩] : List (View.Piece (Elt F) S256x1024 .bf16)), y ∈ pc.1.set :=
  View.cover_of_tiled [⟨r0_2, p0⟩] S256x1024.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x1024 .bf16) (harg26 : arg26.IsWhole) (arg27 : Memref sig .tc .vmem S256x1024 .bf16) (harg27 : arg27.IsWhole) (arg28 : Memref sig .tc .vmem S256x1024 .bf16) (harg28 : arg28.IsWhole) (arg29 : Memref sig .tc .vmem S256x1024 .bf16) (harg29 : arg29.IsWhole)
    (x0 : Vec F S256x1024 .f32) (x1 : Vec F S256x512 .f32) (x2 : Vec F S256x512 .f32) (x3 : Vec F S256x512 .f32) (x4 : Vec F S256x512 .f32) (x5 : Vec F S256x512 .f32) (x6 : Vec F S256x512 .f32) (x7 : Vec F S256x512 .f32) (x8 : Vec F S256x1024 .f32) (x9 : Vec F S256x1024 .f32) (x10 : Vec F S512x1024 .bf16) (x11 : Vec F S512x1024 .bf16) (x12 : Vec F S512x1024 .bf16) (x13 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13) ∗ owns (c : Thread nD τ) arg23 fullShare (out0_22 x0 x1 x2 x3 x4 x5 x6 x7 x8 x9 x10 x11 x12 x13) ∗ owns (c : Thread nD τ) arg24 fullShare (out0_23 x0 x1 x2 x3 x4 x5 x6 x7 x8 x9 x10 x11 x12 x13) ∗ owns (c : Thread nD τ) arg25 fullShare (out0_24 x0 x1 x2 x3 x4 x5 x6 x7 x8 x9 x10 x11 x12 x13) ∗ owns (c : Thread nD τ) arg26 fullShare (out0_25 x0 x1 x2 x3 x4 x5 x6 x7 x8 x9 x10 x11 x12 x13) ∗ owns (c : Thread nD τ) arg27 fullShare (out0_26 x0 x1 x2 x3 x4 x5 x6 x7 x8 x9 x10 x11 x12 x13) ∗ owns (c : Thread nD τ) arg28 fullShare (out0_27 x0 x1 x2 x3 x4 x5 x6 x7 x8 x9 x10 x11 x12 x13) ∗ owns (c : Thread nD τ) arg29 fullShare (out0_28 x0 x1 x2 x3 x4 x5 x6 x7 x8 x9 x10 x11 x12 x13)) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_mix_bwd_eq_skeleton]; unfold cc0_mix_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the call ends, its argument arrays unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Mix

end
-- ==== Proof.Real.lean ====
/- Extended reals that are real: sums, maxima, quotients, the literals of the programs, and the logistic function in the two
   forms the programs compute it in. -/
module

public import Idealize.ShloMosaic.PureOps.Ideal.Laws
public import Mathlib.Analysis.SpecialFunctions.Trigonometric.DerivHyp

@[expose] public section

noncomputable section

namespace Cert.Proof

open Idealize.ShloMosaic

/-- A sum of real numbers, taken in the extended reals, is the real sum. -/
theorem coe_sum {n : ℕ} (f : Fin n → ℝ) : ∑ k, ((f k : ℝ) : EReal) = ((∑ k, f k : ℝ) : EReal) := by
  have h : ∀ s : Finset (Fin n), ∑ k ∈ s, ((f k : ℝ) : EReal) = ((∑ k ∈ s, f k : ℝ) : EReal) := by
    intro s
    induction s using Finset.induction_on with
    | empty => simp
    | insert a s ha ih => rw [Finset.sum_insert ha, Finset.sum_insert ha, ih, EReal.coe_add]
  exact h Finset.univ

/-- The larger of two real numbers. -/
theorem coe_max (a b : ℝ) : max (a : EReal) (b : EReal) = ((max a b : ℝ) : EReal) :=
  (EReal.coe_strictMono.monotone.map_max).symm

/-- A quotient of real numbers with a divisor that is not zero. -/
theorem coe_div (a : ℝ) {b : ℝ} (h : b ≠ 0) : Ideal.div (a : EReal) (b : EReal) = ((a / b : ℝ) : EReal) := by
  rw [Ideal.div_coe h, ← EReal.coe_mul, mul_one_div]

/-- The literal one half. -/
theorem lit_half : Ideal.ofBits .f32 0x3F000000#32 = ((1 / 2 : ℝ) : EReal) := by
  simp [Ideal.ofBits, Ideal.ieee, -EReal.coe_mul]; norm_num

/-- The factor inside the hyperbolic tangent of GELU, as the programs' literal has it. -/
def geluK : ℝ := 13386282 / 16777216

/-- That literal. -/
theorem lit_geluK : Ideal.ofBits .f32 0x3F4C422A#32 = ((geluK : ℝ) : EReal) := by
  unfold geluK
  simp [Ideal.ofBits, Ideal.ieee, -EReal.coe_mul]; norm_num

/-- The literal three. -/
theorem lit_three : Ideal.ofBits .f32 0x40400000#32 = ((3 : ℝ) : EReal) := by
  simp [Ideal.ofBits, Ideal.ieee, -EReal.coe_mul]; norm_num

/-- The literal minus infinity. -/
theorem lit_bot : Ideal.ofBits .f32 0xFF800000#32 = ⊥ := by
  simp [Ideal.ofBits, Ideal.ieee]

/-- The logistic function over the real numbers. -/
def logist (x : ℝ) : ℝ := 1 / (1 + Real.exp (-x))

/-- The logistic function at an extended real: a real number. -/
def sg (z : EReal) : ℝ := (Ideal.tanh (((1 / 2 : ℝ) : EReal) * z)).toReal / 2 + 1 / 2

theorem sig_tanh (x : ℝ) : 1 / 2 * Real.tanh (1 / 2 * x) + 1 / 2 = logist x := by
  have h := Real.exp_pos (1 / 2 * x)
  have h' := Real.exp_pos (-(1 / 2 * x))
  have e1 : Real.exp (-x) = Real.exp (-(1 / 2 * x)) * Real.exp (-(1 / 2 * x)) := by
    rw [← Real.exp_add]; congr 1; ring
  have e2 : Real.exp (1 / 2 * x) * Real.exp (-(1 / 2 * x)) = 1 := by
    rw [← Real.exp_add]; simp
  rw [logist, Real.tanh_eq_sinh_div_cosh, Real.sinh_eq, Real.cosh_eq, e1]
  generalize Real.exp (1 / 2 * x) = u at *
  generalize Real.exp (-(1 / 2 * x)) = v at *
  have hv : 0 < 1 + v * v := by positivity
  have huv : 0 < u + v := by positivity
  field_simp
  linear_combination (2 * v) * e2

theorem sg_coe (x : ℝ) : sg (x : EReal) = logist x := by
  rw [sg, ← EReal.coe_mul, Ideal.tanh_coe, EReal.toReal_coe, ← sig_tanh]; ring

theorem sg_top : sg ⊤ = 1 := by
  rw [sg, EReal.coe_mul_top_of_pos (by norm_num), Ideal.tanh_top]; norm_num

theorem sg_bot : sg ⊥ = 0 := by
  rw [sg, EReal.coe_mul_bot_of_pos (by norm_num), Ideal.tanh_bot]; norm_num

/-- The kernel's form: half a hyperbolic tangent of the half, plus one half. -/
theorem sg_of_tanh (z : EReal) :
    ((1 / 2 : ℝ) : EReal) * Ideal.tanh (((1 / 2 : ℝ) : EReal) * z) + ((1 / 2 : ℝ) : EReal) = ((sg z : ℝ) : EReal) := by
  induction z with
  | bot =>
    rw [sg_bot, EReal.coe_mul_bot_of_pos (by norm_num), Ideal.tanh_bot, ← EReal.coe_one, ← EReal.coe_neg, ← EReal.coe_mul,
      ← EReal.coe_add]
    norm_num
  | top =>
    rw [sg_top, EReal.coe_mul_top_of_pos (by norm_num), Ideal.tanh_top, ← EReal.coe_one, ← EReal.coe_mul, ← EReal.coe_add]
    norm_num
  | coe x => rw [sg_coe, ← EReal.coe_mul, Ideal.tanh_coe, ← EReal.coe_mul, ← EReal.coe_add, sig_tanh]

/-- The reference's form: one over one plus the exponential of the negated argument. -/
theorem sg_of_exp (z : EReal) : Ideal.div 1 (1 + Ideal.exp (-z)) = ((sg z : ℝ) : EReal) := by
  have h : Ideal.div 1 (1 + Ideal.exp (-z)) = Ideal.logistic z := rfl
  rw [h]
  induction z with
  | bot => rw [Ideal.logistic_bot, sg_bot, EReal.coe_zero]
  | top => rw [Ideal.logistic_top, sg_top, EReal.coe_one]
  | coe x => rw [Ideal.logistic_coe, sg_coe, logist, one_div]

end Cert.Proof

end
-- ==== Proof.Finite.lean ====
/- What the precondition says: an array whose entries' absolute values are all below infinity has real entries. -/
module

public import proofs.«01_k».proof.Proof.Real
import Idealize.ShloMosaic.Lib.Pipeline.ValueKit
import Idealize.ShloMosaic.Lib.Pointwise
import Idealize.ShloMosaic.Lib.WordCmp

@[expose] public section

noncomputable section

namespace Cert.Proof

open Idealize.ShloMosaic Idealize.ShloMosaic.TcCoe Idealize.SL.Sem

/-- A conjunction of bits that is one has only ones. -/
theorem all_of_fold {ι : Type*} (f : ι → BitVec 1) (b : BitVec 1) (s : Finset ι) (h : s.fold IntOp.andi b f = 1#1) :
    ∀ i ∈ s, f i = 1#1 := by
  classical
  have key : ∀ p q : BitVec 1, IntOp.andi p q = 1#1 → p = 1#1 ∧ q = 1#1 := by decide
  induction s using Finset.induction_on with
  | empty => simp
  | insert a t ha ih =>
    rw [Finset.fold_insert ha] at h
    obtain ⟨h1, h2⟩ := key _ _ h
    intro i hi
    rcases Finset.mem_insert.1 hi with rfl | hi
    · exact h1
    · exact ih h2 i hi

/-- The literal infinity. -/
theorem lit_top : Ideal.ofBits .f32 0x7F800000#32 = ⊤ := by
  simp [Ideal.ofBits, Ideal.ieee]

/-- An extended real whose absolute value is below infinity is real. -/
theorem coe_of_abs_lt (x : Ideal .f32) (h : FloatOps.absf x < (⊤ : EReal)) : ((EReal.toReal x : ℝ) : EReal) = x := by
  refine EReal.coe_toReal ?_ ?_
  · rintro rfl
    exact absurd h (by decide)
  · rintro rfl
    exact absurd h (by decide)

/-- An array of which the comparison of every absolute value with infinity holds has real entries. -/
theorem real_of_all {s t u : Shape} {axes : List (Fin s.rank)} (x : FVec Ideal s .f32) (y : FVec Ideal s .f32) (c : IVec u 1)
    (h : s.ReducesTo axes t) (hu : 0 < u.numel) (j : t.Idx) (ht : t.rank = 0) (hy : ∀ i, y i = ⊤)
    (hall : Host.reduce IntOp.andi (cmpf .olt (Host.absf x) y) c h hu j = 1#1) (i : s.Idx) :
    ((EReal.toReal (x i) : ℝ) : EReal) = x i := by
  rw [Host.reduce_eq_fold] at hall
  have e := all_of_fold _ _ _ hall i (Finset.mem_filter.2 ⟨Finset.mem_univ _, funext fun a => (Fin.cast ht a).elim0⟩)
  pointwise [hy] at e
  refine coe_of_abs_lt _ ?_
  by_contra hn
  rw [decide_eq_false hn] at e
  exact absurd e (by decide)

end Cert.Proof

end
-- ==== Proof.MixSpec.lean ====
/- The gradient of the gated merge, row by row, over the real numbers. A row of the batch holds the gradient `dx` of the step's
   output, the three attention groups' outputs `o` and logarithms of sums `l`, the recurrence's output `y` and the two gates. -/
module

public import proofs.«01_k».proof.Proof.Real

@[expose] public section

noncomputable section

namespace Cert.Proof

/-- One row of the arguments. The gates may be infinite: only their logistic values are used. -/
structure Row where
  dx : Fin 1024 → ℝ
  o : Fin 3 → Fin 512 → ℝ
  l : Fin 3 → Fin 512 → ℝ
  y : Fin 512 → ℝ
  ga : Fin 1024 → EReal
  gs : Fin 1024 → EReal

/-- The four weight matrices. -/
structure Wts where
  wp : Fin 512 → Fin 1024 → ℝ
  wa : Fin 512 → Fin 1024 → ℝ
  wb : Fin 512 → Fin 1024 → ℝ
  wo : Fin 1024 → Fin 1024 → ℝ

namespace Row

variable (r : Row) (w : Wts)

/-- The largest of the three groups' logarithms. -/
def lm (k : Fin 512) : ℝ := max (max (r.l 0 k) (r.l 1 k)) (r.l 2 k)

/-- A group's exponential, shifted by the largest. -/
def e (g : Fin 3) (k : Fin 512) : ℝ := Real.exp (r.l g k - r.lm k)

/-- The sum of the three exponentials. -/
def s (k : Fin 512) : ℝ := r.e 0 k + r.e 1 k + r.e 2 k

theorem e_pos (g : Fin 3) (k : Fin 512) : 0 < r.e g k := Real.exp_pos _

theorem s_pos (k : Fin 512) : 0 < r.s k := add_pos (add_pos (r.e_pos 0 k) (r.e_pos 1 k)) (r.e_pos 2 k)

theorem s_ne (k : Fin 512) : r.s k ≠ 0 := (r.s_pos k).ne'

/-- A group's weight in the merge. -/
def wt (g : Fin 3) (k : Fin 512) : ℝ := r.e g k / r.s k

/-- The merged attention output. -/
def a (k : Fin 512) : ℝ := r.wt 0 k * r.o 0 k + r.wt 1 k * r.o 1 k + r.wt 2 k * r.o 2 k

/-- Its projection. -/
def aout (j : Fin 1024) : ℝ := ∑ k, r.a k * w.wp k j

/-- The hyperbolic tangent inside GELU. -/
def th (k : Fin 512) : ℝ := Real.tanh (geluK * (r.y k + 8943 / 200000 * (r.y k * r.y k * r.y k)))

/-- GELU of the recurrence's output. -/
def yg (k : Fin 512) : ℝ := 1 / 2 * r.y k * (1 + r.th k)

/-- The derivative of GELU there. -/
def gd (k : Fin 512) : ℝ :=
  1 / 2 * (1 + r.th k)
    + 1 / 2 * r.y k * (1 - r.th k * r.th k) * (geluK * (1 + 26829 / 200000 * (r.y k * r.y k)))

/-- The two halves of the gated linear unit. -/
def pa (j : Fin 1024) : ℝ := ∑ k, r.yg k * w.wa k j
def pb (j : Fin 1024) : ℝ := ∑ k, r.yg k * w.wb k j

/-- Three logistic values: of the second half, and of the two gates. -/
def sb (j : Fin 1024) : ℝ := sg ((r.pb w j : ℝ) : EReal)
def sa (j : Fin 1024) : ℝ := sg (r.ga j)
def ss (j : Fin 1024) : ℝ := sg (r.gs j)

/-- The gated merge. -/
def mix (j : Fin 1024) : ℝ := r.sa j * r.aout w j + r.ss j * (r.pa w j * r.sb w j)

/-- Its gradient. -/
def dmix (i : Fin 1024) : ℝ := ∑ j, r.dx j * w.wo i j

/-- The gradients of the merge's operands: attention branch, first half, second half, and the two gates. -/
def dao (j : Fin 1024) : ℝ := r.sa j * r.dmix w j
def dpa (j : Fin 1024) : ℝ := r.ss j * r.dmix w j * r.sb w j
def dpb (j : Fin 1024) : ℝ := r.ss j * r.dmix w j * r.pa w j * r.sb w j * (1 - r.sb w j)
def dga (j : Fin 1024) : ℝ := r.dmix w j * r.aout w j * r.sa j * (1 - r.sa j)
def dgs (j : Fin 1024) : ℝ := r.dmix w j * (r.pa w j * r.sb w j) * r.ss j * (1 - r.ss j)

/-- The gradient of the recurrence's output. -/
def dyg (k : Fin 512) : ℝ := ∑ j, r.dpa w j * w.wa k j + ∑ j, r.dpb w j * w.wb k j
def dy (k : Fin 512) : ℝ := r.dyg w k * r.gd k

/-- The gradient of the merged attention output, of a group's output, and the correction of a group's logarithm. -/
def da (k : Fin 512) : ℝ := ∑ j, r.dao w j * w.wp k j
def dO (g : Fin 3) (k : Fin 512) : ℝ := r.wt g k * r.da w k
def dl (g : Fin 3) (k : Fin 512) : ℝ := -(r.wt g k * r.da w k) * r.a k

end Row

end Cert.Proof

end
-- ==== Proof.MixRows.lean ====
/- The rows and the weights that the arguments of the merge-gradient call hold. -/
module

public import proofs.«01_k».proof.Proof.MixSpec
public import Idealize.ShloMosaic.Lib.Pointwise.Index

@[expose] public section

noncomputable section

namespace Cert.Proof

open Idealize.ShloMosaic Idealize.ShloMosaic.TcCoe Idealize.SL.Sem

/-- Every entry is a real number. -/
def IsReal {s : Shape} (x : s.Idx → EReal) : Prop := ∀ i, ((EReal.toReal (x i) : ℝ) : EReal) = x i

/-- Row `i` of the arguments. -/
def rowOf (x0 : FVec Ideal ⟨2, ![8192, 1024]⟩ .f32) (x1 x2 x3 x4 x5 x6 x7 : FVec Ideal ⟨2, ![8192, 512]⟩ .f32)
    (x8 : FVec Ideal ⟨2, ![8192, 7168]⟩ .f32) (i : Fin 8192) : Row where
  dx k := EReal.toReal (x0 (ix2 i k))
  o := ![fun k => EReal.toReal (x1 (ix2 i k)), fun k => EReal.toReal (x3 (ix2 i k)), fun k => EReal.toReal (x5 (ix2 i k))]
  l := ![fun k => EReal.toReal (x2 (ix2 i k)), fun k => EReal.toReal (x4 (ix2 i k)), fun k => EReal.toReal (x6 (ix2 i k))]
  y k := EReal.toReal (x7 (ix2 i k))
  ga k := x8 (ix2 i ⟨5120 + k.val, by omega⟩)
  gs k := x8 (ix2 i ⟨6144 + k.val, by omega⟩)

/-- The weights. -/
def wtsOf (x9 x10 x11 : FVec Ideal ⟨2, ![512, 1024]⟩ .bf16) (x12 : FVec Ideal ⟨2, ![1024, 1024]⟩ .bf16) : Wts where
  wp k j := EReal.toReal (x9 (ix2 k j))
  wa k j := EReal.toReal (x10 (ix2 k j))
  wb k j := EReal.toReal (x11 (ix2 k j))
  wo k j := EReal.toReal (x12 (ix2 k j))

/-- A quantity of the rows as an array. -/
def arr {n : ℕ} (R : Fin 8192 → Row) (f : Row → Fin n → ℝ) : (⟨2, ![8192, n]⟩ : Shape).Idx → EReal :=
  fun y => ((f (R (y 0)) (y 1) : ℝ) : EReal)

end Cert.Proof

end
-- ==== Proof.MixPre.lean ====
/- What the precondition gives: every argument of the merge-gradient call but the gates' is real. -/
module

public import proofs.«01_k».proof.Defs
public import proofs.«01_k».proof.Proof.Finite
public import proofs.«01_k».proof.Proof.MixRows
import Idealize.ShloMosaic.Lib.Pipeline.ValueKit
import Idealize.ShloMosaic.Lib.Pointwise

@[expose] public section

set_option maxRecDepth 16384

noncomputable section

namespace Cert.Proof.MixPre

open Idealize.ShloMosaic Idealize.ShloMosaic.TcCoe Idealize.SL.Sem
open Cert.Pre_finite

/-- Two bits whose conjunction is one are one. -/
theorem split {u : Shape} (x y : IVec u 1) (j : u.Idx) (h : andi x y j = 1#1) : x j = 1#1 ∧ y j = 1#1 :=
  (by decide : ∀ p q : BitVec 1, IntOp.andi p q = 1#1 → p = 1#1 ∧ q = 1#1) _ _ h

/-- The arguments that the precondition speaks of are real. -/
theorem real [Facts] (x0 : FVec Ideal S8192x1024 .f32) (x1 x2 x3 x4 x5 x6 x7 : FVec Ideal S8192x512 .f32)
    (x8 : FVec Ideal S8192x7168 .f32) (x9 x10 x11 : FVec Ideal S512x1024 .bf16) (x12 : FVec Ideal S1024x1024 .bf16)
    (h : fn (F := Ideal) x0 x1 x2 x3 x4 x5 x6 x7 x8 x9 x10 x11 x12 = fun _ => 1#1) :
    IsReal x0 ∧ IsReal x1 ∧ IsReal x2 ∧ IsReal x3 ∧ IsReal x4 ∧ IsReal x5 ∧ IsReal x6 ∧ IsReal x7
      ∧ IsReal x9 ∧ IsReal x10 ∧ IsReal x11 ∧ IsReal x12 := by
  have q := congrFun h (fun a => a.elim0)
  simp only [fn, fn_part1, fn_part2, fn_part3] at q
  obtain ⟨q, q12⟩ := split _ _ _ q
  obtain ⟨q, q11⟩ := split _ _ _ q
  obtain ⟨q, q10⟩ := split _ _ _ q
  obtain ⟨q, q9⟩ := split _ _ _ q
  obtain ⟨q, q7⟩ := split _ _ _ q
  obtain ⟨q, q6⟩ := split _ _ _ q
  obtain ⟨q, q5⟩ := split _ _ _ q
  obtain ⟨q, q4⟩ := split _ _ _ q
  obtain ⟨q, q3⟩ := split _ _ _ q
  obtain ⟨q, q2⟩ := split _ _ _ q
  obtain ⟨q, q1⟩ := split _ _ _ q
  refine ⟨real_of_all _ _ _ _ _ _ rfl (fun _ => lit_top) q, real_of_all _ _ _ _ _ _ rfl (fun _ => lit_top) q1, real_of_all _ _ _ _ _ _ rfl (fun _ => lit_top) q2, real_of_all _ _ _ _ _ _ rfl (fun _ => lit_top) q3, real_of_all _ _ _ _ _ _ rfl (fun _ => lit_top) q4, real_of_all _ _ _ _ _ _ rfl (fun _ => lit_top) q5, real_of_all _ _ _ _ _ _ rfl (fun _ => lit_top) q6, real_of_all _ _ _ _ _ _ rfl (fun _ => lit_top) q7,
    real_of_all (s := S512x1024) x9 _ _ _ _ _ rfl (fun _ => lit_top) q9, real_of_all (s := S512x1024) x10 _ _ _ _ _ rfl (fun _ => lit_top) q10, real_of_all (s := S512x1024) x11 _ _ _ _ _ rfl (fun _ => lit_top) q11, real_of_all (s := S1024x1024) x12 _ _ _ _ _ rfl (fun _ => lit_top) q12⟩

end Cert.Proof.MixPre

end
-- ==== Proof.MixRef.lean ====
/- What the reference of the merge-gradient call computes, entry by entry: each of its results is the row quantity of
   MixSpec.lean. -/
module

public import proofs.«01_k».proof.Proof.MixSpec
public import proofs.«01_k».proof.Proof.Gen.ReferenceIdeal.Read
public import Idealize.ShloMosaic.Lib.Pointwise.Index
import Idealize.ShloMosaic.Lib.Pipeline.ValueKit
import Idealize.ShloMosaic.Lib.Pointwise

@[expose] public section

set_option maxRecDepth 16384

noncomputable section

namespace Cert.Proof.MixRef

open Idealize.ShloMosaic Idealize.ShloMosaic.TcCoe Idealize.SL.Sem
open Cert.ReferenceIdeal Cert.ReferenceIdeal.Gen Cert.ReferenceIdeal.Read

/-- A maximum taken along a leading axis of three real entries, from minus infinity. -/
theorem max_three {m n : ℕ} {u : Shape} (v : FVec Ideal ⟨3, ![3, m, n]⟩ .f32) (c : FVec Ideal u .f32)
    (h : (⟨3, ![3, m, n]⟩ : Shape).ReducesTo [0] ⟨2, ![m, n]⟩) (hu : 0 < u.numel) (i : Fin m) (k : Fin n)
    (f : Fin 3 → ℝ) (hc : c (Shape.Idx.first hu) = ⊥) (hv : ∀ g, v (ix3 g i k) = ((f g : ℝ) : EReal)) :
    Host.reduce FloatOps.maximumf v c h hu (ix2 i k) = ((max (max (f 0) (f 1)) (f 2) : ℝ) : EReal) := by
  pointwise [hv, hc]
  simp only [Fin.univ_succ, Finset.fold_cons, Finset.fold_map, Finset.univ_unique, Finset.map_singleton, Finset.fold_singleton]
  show max ((f 0 : ℝ) : EReal) (max ((f 1 : ℝ) : EReal) (max ((f 2 : ℝ) : EReal) ⊥)) = _
  rw [max_eq_left bot_le, coe_max, coe_max, max_assoc]

/-- The larger of minus infinity and a real number. -/
theorem max_bot {s : Shape} (x y : FVec Ideal s .f32) (i : s.Idx) (r : ℝ) (hx : x i = ⊥) (hy : y i = ((r : ℝ) : EReal)) :
    maximumf x y i = ((r : ℝ) : EReal) := by
  show max (x i) (y i) = _
  rw [hx, hy]
  exact max_eq_right bot_le

/-- A sum taken along a leading axis of one entry. -/
theorem sum_one {m n : ℕ} {u : Shape} (v : FVec Ideal ⟨3, ![1, m, n]⟩ .f32) (c : FVec Ideal u .f32)
    (h : (⟨3, ![1, m, n]⟩ : Shape).ReducesTo [0] ⟨2, ![m, n]⟩) (hu : 0 < u.numel) (i : Fin m) (k : Fin n)
    (r : ℝ) (hc : c (Shape.Idx.first hu) = 0) (hv : v (ix3 0 i k) = ((r : ℝ) : EReal)) :
    Host.reduceAdd v c h hu (ix2 i k) = ((r : ℝ) : EReal) := by
  pointwise [hc]
  rw [Fin.sum_univ_one]
  exact hv

/-- The literals 44715 and one million. -/
theorem lit_cubic : Ideal.ofBits .f32 0x472EAB00#32 = ((44715 : ℝ) : EReal) := by
  simp [Ideal.ofBits, Ideal.ieee, -EReal.coe_mul]; norm_num
theorem lit_million : Ideal.ofBits .f32 0x49742400#32 = ((1000000 : ℝ) : EReal) := by
  simp [Ideal.ofBits, Ideal.ieee, -EReal.coe_mul]; norm_num

/-- The argument arrays hold the rows `R` and the weights `w`. -/
structure Holds (R : Fin 8192 → Row) (w : Wts) (x0 : FVec Ideal S8192x1024 .f32) (x1 x2 x3 x4 x5 x6 x7 : FVec Ideal S8192x512 .f32)
    (x8 : FVec Ideal S8192x7168 .f32) (x9 x10 x11 : FVec Ideal S512x1024 .bf16) (x12 : FVec Ideal S1024x1024 .bf16) : Prop where
  dx : ∀ (i : Fin 8192) (k : Fin 1024), x0 (ix2 i k) = (((R i).dx k : ℝ) : EReal)
  o0 : ∀ (i : Fin 8192) (k : Fin 512), x1 (ix2 i k) = (((R i).o 0 k : ℝ) : EReal)
  l0 : ∀ (i : Fin 8192) (k : Fin 512), x2 (ix2 i k) = (((R i).l 0 k : ℝ) : EReal)
  o1 : ∀ (i : Fin 8192) (k : Fin 512), x3 (ix2 i k) = (((R i).o 1 k : ℝ) : EReal)
  l1 : ∀ (i : Fin 8192) (k : Fin 512), x4 (ix2 i k) = (((R i).l 1 k : ℝ) : EReal)
  o2 : ∀ (i : Fin 8192) (k : Fin 512), x5 (ix2 i k) = (((R i).o 2 k : ℝ) : EReal)
  l2 : ∀ (i : Fin 8192) (k : Fin 512), x6 (ix2 i k) = (((R i).l 2 k : ℝ) : EReal)
  y : ∀ (i : Fin 8192) (k : Fin 512), x7 (ix2 i k) = (((R i).y k : ℝ) : EReal)
  ga : ∀ (i : Fin 8192) (k : Fin 1024), x8 (ix2 i ⟨5120 + k.val, by omega⟩) = (R i).ga k
  gs : ∀ (i : Fin 8192) (k : Fin 1024), x8 (ix2 i ⟨6144 + k.val, by omega⟩) = (R i).gs k
  wp : ∀ (k : Fin 512) (j : Fin 1024), x9 (ix2 k j) = ((w.wp k j : ℝ) : EReal)
  wa : ∀ (k : Fin 512) (j : Fin 1024), x10 (ix2 k j) = ((w.wa k j : ℝ) : EReal)
  wb : ∀ (k : Fin 512) (j : Fin 1024), x11 (ix2 k j) = ((w.wb k j : ℝ) : EReal)
  wo : ∀ (k : Fin 1024) (j : Fin 1024), x12 (ix2 k j) = ((w.wo k j : ℝ) : EReal)

/-- The array of minus infinities. -/
theorem bots (i : Fin 8192) (k : Fin 512) : val_main_v16 (F := Ideal) (ix2 i k) = ⊥ := by
  unfold val_main_v16
  exact lit_bot

variable {R : Fin 8192 → Row} {w : Wts} {x0 : FVec Ideal S8192x1024 .f32} {x1 x2 x3 x4 x5 x6 x7 : FVec Ideal S8192x512 .f32}
  {x8 : FVec Ideal S8192x7168 .f32} {x9 x10 x11 : FVec Ideal S512x1024 .bf16} {x12 : FVec Ideal S1024x1024 .bf16}
  (h : Holds R w x0 x1 x2 x3 x4 x5 x6 x7 x8 x9 x10 x11 x12)

include h

/-- The stacked logarithms. -/
theorem l (g : Fin 3) (i : Fin 8192) (k : Fin 512) : val_main_v9 (F := Ideal) x2 x4 x6 (ix3 g i k) = (((R i).l g k : ℝ) : EReal) := by
  fin_cases g <;> pointwise [val_main_v9, val_main_v8, val_main_v7, val_main_v6, h.l0, h.l1, h.l2]

/-- The stacked outputs. -/
theorem o (g : Fin 3) (i : Fin 8192) (k : Fin 512) : val_main_v41 (F := Ideal) x1 x3 x5 (ix3 g i k) = (((R i).o g k : ℝ) : EReal) := by
  fin_cases g <;> pointwise [val_main_v41, val_main_v40, val_main_v39, val_main_v38, h.o0, h.o1, h.o2]

/-- The largest logarithm. -/
theorem lm (i : Fin 8192) (k : Fin 512) : val_main_v17 (F := Ideal) x2 x4 x6 (ix2 i k) = (((R i).lm k : ℝ) : EReal) := by
  unfold val_main_v17
  refine max_bot _ _ _ _ (bots i k) ?_
  unfold val_main_v10
  exact max_three _ _ _ _ i k (fun g => (R i).l g k) lit_bot (fun g => l h g i k)

/-- The shifted exponentials. -/
theorem e (g : Fin 3) (i : Fin 8192) (k : Fin 512) : val_main_v30 (F := Ideal) x2 x4 x6 (ix3 g i k) = (((R i).e g k : ℝ) : EReal) := by
  pointwise [val_main_v30, val_main_v29, val_main_v28, val_main_v27, lm h, l h]
  simp only [← EReal.coe_sub, Ideal.exp_coe]
  rfl

/-- Their sum. -/
theorem s (i : Fin 8192) (k : Fin 512) : val_main_v31 (F := Ideal) x2 x4 x6 (ix2 i k) = (((R i).s k : ℝ) : EReal) := by
  pointwise [val_main_v31, val_main_cst_7, e h]
  rw [Fin.sum_univ_three]
  simp only [← EReal.coe_add, zero_add]
  rfl

/-- The merge weights. -/
theorem wt (g : Fin 3) (i : Fin 8192) (k : Fin 512) : val_main_v34 (F := Ideal) x2 x4 x6 (ix3 g i k) = (((R i).wt g k : ℝ) : EReal) := by
  pointwise [val_main_v34, val_main_v33, val_main_v32, s h, e h]
  exact coe_div _ ((R i).s_ne k)

/-- The merged output. -/
theorem a (i : Fin 8192) (k : Fin 512) : val_main_v43 (F := Ideal) x1 x2 x3 x4 x5 x6 (ix2 i k) = (((R i).a k : ℝ) : EReal) := by
  pointwise [val_main_v43, val_main_v42, val_main_cst_9, wt h, o h]
  rw [Fin.sum_univ_three]
  simp only [← EReal.coe_mul, ← EReal.coe_add, zero_add]
  rfl

/-- Its projection. -/
theorem aout (i : Fin 8192) (j : Fin 1024) :
    val_main_v44 (F := Ideal) x1 x2 x3 x4 x5 x6 x9 (ix2 i j) = (((R i).aout w j : ℝ) : EReal) := by
  pointwise [val_main_v44, val_main_v0, a h, h.wp]
  simp only [← EReal.coe_mul, coe_sum]
  rfl

/-- The hyperbolic tangent inside GELU. -/
theorem th (i : Fin 8192) (k : Fin 512) : val_main_v59 (F := Ideal) x7 (ix2 i k) = (((R i).th k : ℝ) : EReal) := by
  pointwise [val_main_v59, val_main_v58, val_main_v57, val_main_cst_14, val_main_v56, val_main_v55, val_main_v54, val_main_cst_13,
    val_main_v53, val_main_v52, val_main_cst_12, val_main_v48, val_main_v47, h.y]
  simp only [lit_geluK, lit_cubic, lit_million, ← EReal.coe_mul, coe_div _ (by norm_num : (1000000 : ℝ) ≠ 0), ← EReal.coe_add, Ideal.tanh_coe]
  congr 2
  ring

/-- GELU. -/
theorem yg (i : Fin 8192) (k : Fin 512) : val_main_v67 (F := Ideal) x7 (ix2 i k) = (((R i).yg k : ℝ) : EReal) := by
  pointwise [val_main_v67, val_main_v66, val_main_v65, val_main_cst_17, val_main_v46, val_main_v45, val_main_cst_10, th h, h.y]
  rw [← EReal.coe_one]
  simp only [lit_half, ← EReal.coe_mul, ← EReal.coe_add]
  rfl

/-- The two halves of the gated linear unit. -/
theorem pa (i : Fin 8192) (j : Fin 1024) : val_main_v68 (F := Ideal) x7 x10 (ix2 i j) = (((R i).pa w j : ℝ) : EReal) := by
  pointwise [val_main_v68, val_main_v1, yg h, h.wa]
  simp only [← EReal.coe_mul, coe_sum]
  rfl

theorem pb (i : Fin 8192) (j : Fin 1024) : val_main_v69 (F := Ideal) x7 x11 (ix2 i j) = (((R i).pb w j : ℝ) : EReal) := by
  pointwise [val_main_v69, val_main_v2, yg h, h.wb]
  simp only [← EReal.coe_mul, coe_sum]
  rfl

/-- Three logistic values. -/
theorem sb (i : Fin 8192) (j : Fin 1024) : val_main_v75 (F := Ideal) x7 x11 (ix2 i j) = (((R i).sb w j : ℝ) : EReal) := by
  pointwise [val_main_v75, val_main_v74, val_main_cst_19, val_main_v73, val_main_v72, val_main_cst_18, val_main_v71, val_main_v70, pb h]
  exact sg_of_exp _

theorem sa (i : Fin 8192) (j : Fin 1024) : val_main_v85 (F := Ideal) x8 (ix2 i j) = (((R i).sa j : ℝ) : EReal) := by
  pointwise [val_main_v85, val_main_v84, val_main_cst_22, val_main_v83, val_main_v82, val_main_cst_21, val_main_v81, val_main_v80,
    val_main_v4, h.ga]
  exact sg_of_exp _

theorem ss (i : Fin 8192) (j : Fin 1024) : val_main_v95 (F := Ideal) x8 (ix2 i j) = (((R i).ss j : ℝ) : EReal) := by
  pointwise [val_main_v95, val_main_v94, val_main_cst_25, val_main_v93, val_main_v92, val_main_cst_24, val_main_v91, val_main_v90,
    val_main_v5, h.gs]
  exact sg_of_exp _

/-- The gated merge. -/
theorem mix (i : Fin 8192) (j : Fin 1024) :
    val_main_v167 (F := Ideal) x1 x2 x3 x4 x5 x6 x7 x8 x9 x10 x11 (ix2 i j) = (((R i).mix w j : ℝ) : EReal) := by
  pointwise [val_main_v167, val_main_v100, val_main_v99, val_main_v89, val_main_v79, sa h, ss h, sb h, pa h, aout h]
  simp only [← EReal.coe_mul, ← EReal.coe_add]
  rfl

/-- The gradient of the merge. -/
theorem dmix (i : Fin 8192) (j : Fin 1024) : val_main_v102 (F := Ideal) x0 x12 (ix2 i j) = (((R i).dmix w j : ℝ) : EReal) := by
  pointwise [val_main_v102, val_main_v3, h.dx, h.wo]
  simp only [← EReal.coe_mul, coe_sum]
  rfl

/-- The gradients of the merge's operands. -/
theorem dao (i : Fin 8192) (j : Fin 1024) : val_main_v106 (F := Ideal) x0 x8 x12 (ix2 i j) = (((R i).dao w j : ℝ) : EReal) := by
  pointwise [val_main_v106, sa h, dmix h]
  simp only [← EReal.coe_mul]
  rfl

theorem dpa (i : Fin 8192) (j : Fin 1024) :
    val_main_v110 (F := Ideal) x0 x7 x8 x11 x12 (ix2 i j) = (((R i).dpa w j : ℝ) : EReal) := by
  pointwise [val_main_v110, val_main_v103, ss h, sb h, dmix h]
  simp only [← EReal.coe_mul]
  rfl

theorem dpb (i : Fin 8192) (j : Fin 1024) :
    val_main_v111 (F := Ideal) x0 x7 x8 x10 x11 x12 (ix2 i j) = (((R i).dpb w j : ℝ) : EReal) := by
  pointwise [val_main_v111, val_main_v109, val_main_v103, val_main_v78, val_main_v77, val_main_v76, val_main_cst_20, ss h, sb h, pa h, dmix h]
  rw [← EReal.coe_one]
  simp only [← EReal.coe_sub, ← EReal.coe_mul]
  congr 1
  unfold Row.dpb
  ring

theorem dga (i : Fin 8192) (j : Fin 1024) :
    val_main_v163 (F := Ideal) x0 x1 x2 x3 x4 x5 x6 x8 x9 x12 (ix2 i j) = (((R i).dga w j : ℝ) : EReal) := by
  pointwise [val_main_v163, val_main_v108, val_main_v107, val_main_v88, val_main_v87, val_main_v86, val_main_cst_23, sa h, aout h, dmix h]
  rw [← EReal.coe_one]
  simp only [← EReal.coe_sub, ← EReal.coe_mul]
  congr 1
  unfold Row.dga
  ring

theorem dgs (i : Fin 8192) (j : Fin 1024) :
    val_main_v164 (F := Ideal) x0 x7 x8 x10 x11 x12 (ix2 i j) = (((R i).dgs w j : ℝ) : EReal) := by
  pointwise [val_main_v164, val_main_v105, val_main_v104, val_main_v98, val_main_v97, val_main_v96, val_main_cst_26, val_main_v79,
    ss h, sb h, pa h, dmix h]
  rw [← EReal.coe_one]
  simp only [← EReal.coe_sub, ← EReal.coe_mul]
  congr 1
  unfold Row.dgs
  ring

/-- The gradient of the recurrence's output. -/
theorem dyg (i : Fin 8192) (k : Fin 512) :
    val_main_v114 (F := Ideal) x0 x7 x8 x10 x11 x12 (ix2 i k) = (((R i).dyg w k : ℝ) : EReal) := by
  pointwise [val_main_v114, val_main_v113, val_main_v112, val_main_v1, val_main_v2, dpa h, dpb h, h.wa, h.wb]
  simp only [← EReal.coe_mul, coe_sum, ← EReal.coe_add]
  rw [add_comm]
  rfl

theorem dy (i : Fin 8192) (k : Fin 512) :
    val_main_v128 (F := Ideal) x0 x7 x8 x10 x11 x12 (ix2 i k) = (((R i).dy w k : ℝ) : EReal) := by
  pointwise [val_main_v128, val_main_v127, val_main_v126, val_main_cst_30, val_main_v125, val_main_v124, val_main_v123, val_main_v122,
    val_main_cst_29, val_main_v121, val_main_v120, val_main_cst_28, val_main_v119, val_main_v118, val_main_cst_27, val_main_v117,
    val_main_v116, val_main_v115, val_main_v66, val_main_v65, val_main_cst_17, val_main_v64, val_main_v63, val_main_v62,
    val_main_cst_16, val_main_v61, val_main_v60, val_main_cst_15, val_main_v51, val_main_v50, val_main_cst_11, val_main_v49,
    val_main_v46, val_main_v45, val_main_cst_10, th h, dyg h, h.y]
  rw [← EReal.coe_one]
  simp only [lit_half, lit_three, lit_geluK, lit_cubic, lit_million, ← EReal.coe_add, ← EReal.coe_sub, ← EReal.coe_mul,
    coe_div _ (by norm_num : (1000000 : ℝ) ≠ 0)]
  congr 1
  unfold Row.dy Row.gd
  ring

/-- The gradient of the merged output. -/
theorem da (i : Fin 8192) (k : Fin 512) : val_main_v129 (F := Ideal) x0 x8 x9 x12 (ix2 i k) = (((R i).da w k : ℝ) : EReal) := by
  pointwise [val_main_v129, val_main_v0, dao h, h.wp]
  simp only [← EReal.coe_mul, coe_sum]
  rfl

/-- The gradients of the three groups' outputs, stacked. -/
theorem dO (g : Fin 3) (i : Fin 8192) (k : Fin 512) :
    val_main_v131 (F := Ideal) x0 x2 x4 x6 x8 x9 x12 (ix3 g i k) = (((R i).dO w g k : ℝ) : EReal) := by
  pointwise [val_main_v131, val_main_v130, da h, wt h]
  simp only [← EReal.coe_mul]
  rfl

theorem do0 (i : Fin 8192) (k : Fin 512) :
    val_main_v134 (F := Ideal) x0 x2 x4 x6 x8 x9 x12 (ix2 i k) = (((R i).dO w 0 k : ℝ) : EReal) := by
  pointwise [val_main_v134, val_main_v133, dO h]

theorem do1 (i : Fin 8192) (k : Fin 512) :
    val_main_v136 (F := Ideal) x0 x2 x4 x6 x8 x9 x12 (ix2 i k) = (((R i).dO w 1 k : ℝ) : EReal) := by
  pointwise [val_main_v136, val_main_v135, dO h]

theorem do2 (i : Fin 8192) (k : Fin 512) :
    val_main_v138 (F := Ideal) x0 x2 x4 x6 x8 x9 x12 (ix2 i k) = (((R i).dO w 2 k : ℝ) : EReal) := by
  pointwise [val_main_v138, val_main_v137, dO h]

/-- One group's product of output and gradient. -/
theorem dot (g : Fin 3) (i : Fin 8192) (k : Fin 512) :
    val_main_v132 (F := Ideal) x0 x1 x3 x5 x8 x9 x12 (ix3 g i k) = (((R i).da w k * (R i).o g k : ℝ) : EReal) := by
  pointwise [val_main_v132, val_main_v130, da h, o h]
  simp only [← EReal.coe_mul]

/-- The correction common to the three groups. -/
theorem cor (i : Fin 8192) (k : Fin 512) :
    val_main_v142 (F := Ideal) x0 x1 x2 x3 x4 x5 x6 x8 x9 x12 (ix2 i k) = (((R i).da w k * (R i).a k / (R i).s k : ℝ) : EReal) := by
  pointwise [val_main_v142, val_main_cst_31, val_main_v141, val_main_v140, val_main_v139, val_main_v37, val_main_v36, val_main_cst_8,
    val_main_v35, val_main_v32, s h, e h, dot h]
  rw [Fin.sum_univ_three, ← EReal.coe_one]
  simp only [← EReal.coe_mul, coe_div _ (mul_ne_zero ((R i).s_ne k) ((R i).s_ne k)), ← EReal.coe_add, zero_add]
  congr 1
  have := (R i).s_ne k
  unfold Row.a Row.wt
  field_simp

/-- Its opposite, with a leading axis of one entry. -/
theorem neg_row (i : Fin 8192) (k : Fin 512) :
    val_main_v144 (F := Ideal) x0 x1 x2 x3 x4 x5 x6 x8 x9 x12 (ix3 0 i k) = ((-((R i).da w k * (R i).a k / (R i).s k) : ℝ) : EReal) := by
  pointwise [val_main_v144, val_main_v143, cor h]
  rw [EReal.coe_neg]

theorem neg_cor (i : Fin 8192) (k : Fin 512) :
    val_main_v147 (F := Ideal) x0 x1 x2 x3 x4 x5 x6 x8 x9 x12 (ix2 i k) = ((-((R i).da w k * (R i).a k / (R i).s k) : ℝ) : EReal) := by
  unfold val_main_v147
  exact sum_one _ _ _ _ i k _ (Ideal.ofBits_zero .f32) (neg_row h i k)

/-- A group's gradient through the softmax. -/
theorem dsm (g : Fin 3) (i : Fin 8192) (k : Fin 512) :
    val_main_v150 (F := Ideal) x0 x1 x2 x3 x4 x5 x6 x8 x9 x12 (ix3 g i k)
      = (((R i).da w k * (R i).o g k * (R i).wt g k - (R i).da w k * (R i).a k * (R i).wt g k : ℝ) : EReal) := by
  pointwise [val_main_v150, val_main_v149, val_main_v148, val_main_v146, val_main_v145, val_main_v32, neg_cor h, s h, e h, dot h]
  simp only [coe_div _ ((R i).s_ne k), ← EReal.coe_mul, ← EReal.coe_add]
  congr 1
  unfold Row.wt
  ring

/-- The corrections of the three groups' logarithms. -/
theorem dl0 (i : Fin 8192) (k : Fin 512) :
    val_main_v158 (F := Ideal) x0 x1 x2 x3 x4 x5 x6 x8 x9 x12 (ix2 i k) = (((R i).dl w 0 k : ℝ) : EReal) := by
  pointwise [val_main_v158, val_main_v157, val_main_v152, val_main_v151, do0 h, dsm h, h.o0]
  simp only [← EReal.coe_mul, ← EReal.coe_sub]
  congr 1
  unfold Row.dl Row.dO
  ring

theorem dl1 (i : Fin 8192) (k : Fin 512) :
    val_main_v160 (F := Ideal) x0 x1 x2 x3 x4 x5 x6 x8 x9 x12 (ix2 i k) = (((R i).dl w 1 k : ℝ) : EReal) := by
  pointwise [val_main_v160, val_main_v159, val_main_v154, val_main_v153, do1 h, dsm h, h.o1]
  simp only [← EReal.coe_mul, ← EReal.coe_sub]
  congr 1
  unfold Row.dl Row.dO
  ring

theorem dl2 (i : Fin 8192) (k : Fin 512) :
    val_main_v162 (F := Ideal) x0 x1 x2 x3 x4 x5 x6 x8 x9 x12 (ix2 i k) = (((R i).dl w 2 k : ℝ) : EReal) := by
  pointwise [val_main_v162, val_main_v161, val_main_v156, val_main_v155, do2 h, dsm h, h.o2]
  simp only [← EReal.coe_mul, ← EReal.coe_sub]
  congr 1
  unfold Row.dl Row.dO
  ring

/-- The quantities stored in half precision, which is the identity over the reals. -/
theorem a16 (i : Fin 8192) (k : Fin 512) : val_main_v165 (F := Ideal) x1 x2 x3 x4 x5 x6 (ix2 i k) = (((R i).a k : ℝ) : EReal) := by
  pointwise [val_main_v165, a h]

theorem yg16 (i : Fin 8192) (k : Fin 512) : val_main_v166 (F := Ideal) x7 (ix2 i k) = (((R i).yg k : ℝ) : EReal) := by
  pointwise [val_main_v166, yg h]

theorem dao16 (i : Fin 8192) (j : Fin 1024) : val_main_v168 (F := Ideal) x0 x8 x12 (ix2 i j) = (((R i).dao w j : ℝ) : EReal) := by
  pointwise [val_main_v168, dao h]

theorem dpa16 (i : Fin 8192) (j : Fin 1024) :
    val_main_v169 (F := Ideal) x0 x7 x8 x11 x12 (ix2 i j) = (((R i).dpa w j : ℝ) : EReal) := by
  pointwise [val_main_v169, dpa h]

theorem dpb16 (i : Fin 8192) (j : Fin 1024) :
    val_main_v170 (F := Ideal) x0 x7 x8 x10 x11 x12 (ix2 i j) = (((R i).dpb w j : ℝ) : EReal) := by
  pointwise [val_main_v170, dpb h]

end Cert.Proof.MixRef

end
-- ==== Proof.MixKernel.lean ====
/- What the merge-gradient kernel's body computes, entry by entry: with blocks whose row `p` is a given row of real numbers,
   each stored value at row `p` is the row's quantity of MixSpec.lean. -/
module

public import proofs.«01_k».proof.Proof.MixSpec
public import proofs.«01_k».proof.Proof.Gen.KernelIdeal.Skeleton
public import Idealize.ShloMosaic.Lib.Pointwise.Index
public import Idealize.ShloMosaic.PureOps.IdealRules
import Idealize.ShloMosaic.Lib.Pipeline.ValueKit
import Idealize.ShloMosaic.Lib.Pointwise

@[expose] public section

set_option maxRecDepth 16384

noncomputable section

namespace Cert.Proof.MixKernel

open Idealize.ShloMosaic Idealize.ShloMosaic.TcCoe Idealize.SL.Sem
open Cert.KernelIdeal Cert.KernelIdeal.Gen

/-- The blocks of one grid point hold, at row `p`, the row `r`, and the weights `w`. -/
structure Holds (p : Fin 256) (r : Row) (w : Wts) (x0 : Vec Ideal S256x1024 .f32) (x1 x2 x3 x4 x5 x6 x7 : Vec Ideal S256x512 .f32)
    (x8 x9 : Vec Ideal S256x1024 .f32) (x10 x11 x12 : Vec Ideal S512x1024 .bf16) (x13 : Vec Ideal S1024x1024 .bf16) : Prop where
  dx : ∀ k : Fin 1024, x0 (ix2 p k) = ((r.dx k : ℝ) : EReal)
  o0 : ∀ k : Fin 512, x1 (ix2 p k) = ((r.o 0 k : ℝ) : EReal)
  l0 : ∀ k : Fin 512, x2 (ix2 p k) = ((r.l 0 k : ℝ) : EReal)
  o1 : ∀ k : Fin 512, x3 (ix2 p k) = ((r.o 1 k : ℝ) : EReal)
  l1 : ∀ k : Fin 512, x4 (ix2 p k) = ((r.l 1 k : ℝ) : EReal)
  o2 : ∀ k : Fin 512, x5 (ix2 p k) = ((r.o 2 k : ℝ) : EReal)
  l2 : ∀ k : Fin 512, x6 (ix2 p k) = ((r.l 2 k : ℝ) : EReal)
  y : ∀ k : Fin 512, x7 (ix2 p k) = ((r.y k : ℝ) : EReal)
  ga : ∀ k : Fin 1024, x8 (ix2 p k) = r.ga k
  gs : ∀ k : Fin 1024, x9 (ix2 p k) = r.gs k
  wp : ∀ (k : Fin 512) (j : Fin 1024), x10 (ix2 k j) = ((w.wp k j : ℝ) : EReal)
  wa : ∀ (k : Fin 512) (j : Fin 1024), x11 (ix2 k j) = ((w.wa k j : ℝ) : EReal)
  wb : ∀ (k : Fin 512) (j : Fin 1024), x12 (ix2 k j) = ((w.wb k j : ℝ) : EReal)
  wo : ∀ (k : Fin 1024) (j : Fin 1024), x13 (ix2 k j) = ((w.wo k j : ℝ) : EReal)

theorem named_c : Named.named (F := Ideal) (φ := .f32) κ "gelu_c" 0x3D372713#32 = ((8943 / 200000 : ℝ) : EReal) :=
  IdealRules.named_const.ideal_named_scalar _ _ _ _ rfl

theorem named_3c : Named.named (F := Ideal) (φ := .f32) κ "gelu_3c" 0x3E095D4F#32 = ((26829 / 200000 : ℝ) : EReal) :=
  IdealRules.named_const.ideal_named_scalar _ _ _ _ rfl

variable {p : Fin 256} {r : Row} {w : Wts} {x0 : Vec Ideal S256x1024 .f32} {x1 x2 x3 x4 x5 x6 x7 : Vec Ideal S256x512 .f32}
  {x8 x9 : Vec Ideal S256x1024 .f32} {x10 x11 x12 : Vec Ideal S512x1024 .bf16} {x13 : Vec Ideal S1024x1024 .bf16}
  (h : Holds p r w x0 x1 x2 x3 x4 x5 x6 x7 x8 x9 x10 x11 x12 x13)

include h

/-- The reciprocal of the sum of the exponentials. -/
theorem inv (k : Fin 512) : k0_pay9 (F := Ideal) x2 x4 x6 (ix2 p k) = ((1 / r.s k : ℝ) : EReal) := by
  pointwise [k0_pay9, k0_pay8, k0_pay7, k0_pay6, k0_pay5, h.l0, h.l1, h.l2]
  simp only [coe_max, ← EReal.coe_sub, Ideal.exp_coe, ← EReal.coe_add]
  rw [← EReal.coe_one]
  exact coe_div 1 (r.s_ne k)

/-- The merge weights of the three groups. -/
theorem wt0 (k : Fin 512) : k0_pay10 (F := Ideal) x2 x4 x6 (ix2 p k) = ((r.wt 0 k : ℝ) : EReal) := by
  pointwise [k0_pay10, k0_pay6, k0_pay5, inv h, h.l0, h.l1, h.l2]
  simp only [coe_max, ← EReal.coe_sub, Ideal.exp_coe, ← EReal.coe_mul, mul_one_div]
  rfl

theorem wt1 (k : Fin 512) : k0_pay11 (F := Ideal) x2 x4 x6 (ix2 p k) = ((r.wt 1 k : ℝ) : EReal) := by
  pointwise [k0_pay11, k0_pay7, k0_pay5, inv h, h.l0, h.l1, h.l2]
  simp only [coe_max, ← EReal.coe_sub, Ideal.exp_coe, ← EReal.coe_mul, mul_one_div]
  rfl

theorem wt2 (k : Fin 512) : k0_pay12 (F := Ideal) x2 x4 x6 (ix2 p k) = ((r.wt 2 k : ℝ) : EReal) := by
  pointwise [k0_pay12, k0_pay8, k0_pay5, inv h, h.l0, h.l1, h.l2]
  simp only [coe_max, ← EReal.coe_sub, Ideal.exp_coe, ← EReal.coe_mul, mul_one_div]
  rfl

/-- The merged attention output. -/
theorem a (k : Fin 512) : k0_pay13 (F := Ideal) x2 x4 x6 x1 x3 x5 (ix2 p k) = ((r.a k : ℝ) : EReal) := by
  pointwise [k0_pay13, wt0 h, wt1 h, wt2 h, h.o0, h.o1, h.o2]
  simp only [← EReal.coe_mul, ← EReal.coe_add]
  rfl

theorem a16 (k : Fin 512) : k0_pay14 (F := Ideal) x2 x4 x6 x1 x3 x5 (ix2 p k) = ((r.a k : ℝ) : EReal) := by
  pointwise [k0_pay14, a h]

/-- Its projection. -/
theorem aout (j : Fin 1024) :
    k0_pay15 (F := Ideal) x2 x4 x6 x1 x3 x5 x10 (ix2 p j) = ((r.aout w j : ℝ) : EReal) := by
  pointwise [k0_pay15, a16 h, h.wp]
  simp only [← EReal.coe_mul, coe_sum]
  rfl

/-- GELU of the recurrence's output. -/
theorem yg (k : Fin 512) :
    k0_pay19 (F := Ideal) (k0_pay16 x7) (k0_pay17 x7) k0_pay18 (ix2 p k) = ((r.yg k : ℝ) : EReal) := by
  pointwise [k0_pay19, k0_pay16, k0_pay17, k0_pay18, h.y, named_c]
  simp only [lit_half, lit_geluK, ← EReal.coe_one, ← EReal.coe_mul, ← EReal.coe_add, Ideal.tanh_coe]
  rfl

/-- The two halves of the gated linear unit, the second through the logistic function. -/
theorem pa (j : Fin 1024) :
    k0_pay20 (F := Ideal) (k0_pay16 x7) (k0_pay17 x7) k0_pay18 x11 (ix2 p j) = ((r.pa w j : ℝ) : EReal) := by
  pointwise [k0_pay20, yg h, h.wa]
  simp only [← EReal.coe_mul, coe_sum]
  rfl

theorem sb (j : Fin 1024) :
    k0_pay21 (F := Ideal) (k0_pay16 x7) (k0_pay17 x7) k0_pay18 x12 (ix2 p j) = ((r.sb w j : ℝ) : EReal) := by
  pointwise [k0_pay21, yg h, h.wb]
  rw [lit_half, sg_of_tanh]
  simp only [← EReal.coe_mul, coe_sum]
  rfl

/-- The logistic values of the two gates. -/
theorem sa (j : Fin 1024) : k0_pay23 (F := Ideal) x8 (ix2 p j) = ((r.sa j : ℝ) : EReal) := by
  pointwise [k0_pay23, h.ga]
  rw [lit_half, sg_of_tanh]
  rfl

theorem ss (j : Fin 1024) : k0_pay24 (F := Ideal) x9 (ix2 p j) = ((r.ss j : ℝ) : EReal) := by
  pointwise [k0_pay24, h.gs]
  rw [lit_half, sg_of_tanh]
  rfl

theorem sout (j : Fin 1024) :
    k0_pay22 (F := Ideal) (k0_pay16 x7) (k0_pay17 x7) k0_pay18 x11 x12 (ix2 p j) = ((r.pa w j * r.sb w j : ℝ) : EReal) := by
  pointwise [k0_pay22, pa h, sb h]
  rw [← EReal.coe_mul]

/-- The gated merge. -/
theorem mix (j : Fin 1024) :
    k0_pay25 (F := Ideal) (k0_pay15 x2 x4 x6 x1 x3 x5 x10) (k0_pay16 x7) (k0_pay17 x7) k0_pay18 x11 x12 x8 x9 (ix2 p j)
      = ((r.mix w j : ℝ) : EReal) := by
  pointwise [k0_pay25, sa h, ss h, sout h, aout h]
  simp only [← EReal.coe_mul, ← EReal.coe_add]
  rfl

/-- Its gradient. -/
theorem dmix (i : Fin 1024) : k0_pay26 (F := Ideal) x0 x13 (ix2 p i) = ((r.dmix w i : ℝ) : EReal) := by
  pointwise [k0_pay26, h.dx, h.wo]
  simp only [← EReal.coe_mul, coe_sum]
  rfl

/-- The gradients of the merge's operands. -/
theorem dao (j : Fin 1024) : k0_pay27 (F := Ideal) (k0_pay23 x8) x0 x13 (ix2 p j) = ((r.dao w j : ℝ) : EReal) := by
  pointwise [k0_pay27, sa h, dmix h]
  rw [← EReal.coe_mul]
  rfl

theorem ds (j : Fin 1024) : k0_pay28 (F := Ideal) (k0_pay24 x9) x0 x13 (ix2 p j) = ((r.ss j * r.dmix w j : ℝ) : EReal) := by
  pointwise [k0_pay28, ss h, dmix h]
  rw [← EReal.coe_mul]

theorem dpa (j : Fin 1024) :
    k0_pay29 (F := Ideal) (k0_pay21 (k0_pay16 x7) (k0_pay17 x7) k0_pay18 x12) (k0_pay24 x9) x0 x13 (ix2 p j)
      = ((r.dpa w j : ℝ) : EReal) := by
  pointwise [k0_pay29, ds h, sb h]
  rw [← EReal.coe_mul]
  rfl

theorem dpb (j : Fin 1024) :
    k0_pay30 (F := Ideal) (k0_pay20 (k0_pay16 x7) (k0_pay17 x7) k0_pay18 x11) (k0_pay21 (k0_pay16 x7) (k0_pay17 x7) k0_pay18 x12)
        (k0_pay24 x9) x0 x13 (ix2 p j)
      = ((r.dpb w j : ℝ) : EReal) := by
  pointwise [k0_pay30, ds h, sb h, pa h]
  simp only [← EReal.coe_one, ← EReal.coe_mul, ← EReal.coe_sub]
  rfl

theorem dga (j : Fin 1024) :
    k0_pay31 (F := Ideal) (k0_pay15 x2 x4 x6 x1 x3 x5 x10) (k0_pay23 x8) x0 x13 (ix2 p j) = ((r.dga w j : ℝ) : EReal) := by
  pointwise [k0_pay31, dmix h, aout h, sa h]
  simp only [← EReal.coe_one, ← EReal.coe_mul, ← EReal.coe_sub]
  rfl

theorem dgs (j : Fin 1024) :
    k0_pay32 (F := Ideal) (k0_pay22 (k0_pay16 x7) (k0_pay17 x7) k0_pay18 x11 x12) (k0_pay24 x9) x0 x13 (ix2 p j)
      = ((r.dgs w j : ℝ) : EReal) := by
  pointwise [k0_pay32, dmix h, sout h, ss h]
  simp only [← EReal.coe_one, ← EReal.coe_mul, ← EReal.coe_sub]
  rfl

/-- The gradient of the recurrence's output, before and after GELU's derivative. -/
theorem dyg (k : Fin 512) :
    k0_pay33 (F := Ideal) (k0_pay20 (k0_pay16 x7) (k0_pay17 x7) k0_pay18 x11) (k0_pay21 (k0_pay16 x7) (k0_pay17 x7) k0_pay18 x12)
        (k0_pay24 x9) x0 x13 x11 x12 (ix2 p k)
      = ((r.dyg w k : ℝ) : EReal) := by
  pointwise [k0_pay33, dpa h, dpb h, h.wa, h.wb]
  simp only [← EReal.coe_mul, coe_sum, ← EReal.coe_add]
  rfl

theorem dy (k : Fin 512) :
    k0_pay35 (F := Ideal) x7
        (k0_pay33 (k0_pay20 (k0_pay16 x7) (k0_pay17 x7) k0_pay18 x11) (k0_pay21 (k0_pay16 x7) (k0_pay17 x7) k0_pay18 x12)
          (k0_pay24 x9) x0 x13 x11 x12) (k0_pay34 x7) (ix2 p k)
      = ((r.dy w k : ℝ) : EReal) := by
  pointwise [k0_pay35, k0_pay34, dyg h, h.y, named_c, named_3c]
  simp only [lit_half, lit_geluK, ← EReal.coe_one, ← EReal.coe_mul, ← EReal.coe_add, ← EReal.coe_sub, Ideal.tanh_coe]
  rfl

/-- The gradient of the merged attention output, of a group's output, and the correction of a group's logarithm. -/
theorem da (k : Fin 512) :
    k0_pay36 (F := Ideal) (k0_pay27 (k0_pay23 x8) x0 x13) x10 (ix2 p k) = ((r.da w k : ℝ) : EReal) := by
  pointwise [k0_pay36, dao h, h.wp]
  simp only [← EReal.coe_mul, coe_sum]
  rfl

theorem do0 (k : Fin 512) :
    k0_pay37 (F := Ideal) (k0_pay10 x2 x4 x6) (k0_pay27 (k0_pay23 x8) x0 x13) x10 (ix2 p k) = ((r.dO w 0 k : ℝ) : EReal) := by
  pointwise [k0_pay37, wt0 h, da h]
  rw [← EReal.coe_mul]
  rfl

theorem do1 (k : Fin 512) :
    k0_pay39 (F := Ideal) (k0_pay11 x2 x4 x6) (k0_pay27 (k0_pay23 x8) x0 x13) x10 (ix2 p k) = ((r.dO w 1 k : ℝ) : EReal) := by
  pointwise [k0_pay39, wt1 h, da h]
  rw [← EReal.coe_mul]
  rfl

theorem do2 (k : Fin 512) :
    k0_pay2 (F := Ideal) (k0_pay12 x2 x4 x6) (k0_pay36 (k0_pay27 (k0_pay23 x8) x0 x13) x10) (ix2 p k)
      = ((r.dO w 2 k : ℝ) : EReal) := by
  pointwise [k0_pay2, wt2 h, da h]
  rw [← EReal.coe_mul]
  rfl

theorem dl0 (k : Fin 512) :
    k0_pay38 (F := Ideal) (k0_pay10 x2 x4 x6) (k0_pay13 x2 x4 x6 x1 x3 x5) (k0_pay27 (k0_pay23 x8) x0 x13) x10 (ix2 p k)
      = ((r.dl w 0 k : ℝ) : EReal) := by
  pointwise [k0_pay38, wt0 h, da h, a h]
  simp only [← EReal.coe_zero, ← EReal.coe_mul, ← EReal.coe_sub, zero_sub]
  rfl

theorem dl1 (k : Fin 512) :
    k0_pay1 (F := Ideal) (k0_pay13 x2 x4 x6 x1 x3 x5) (k0_pay40 (k0_pay11 x2 x4 x6) (k0_pay27 (k0_pay23 x8) x0 x13) x10) (ix2 p k)
      = ((r.dl w 1 k : ℝ) : EReal) := by
  pointwise [k0_pay1, k0_pay40, wt1 h, da h, a h]
  simp only [← EReal.coe_zero, ← EReal.coe_mul, ← EReal.coe_sub, zero_sub]
  rfl

theorem dl2 (k : Fin 512) :
    k0_pay3 (F := Ideal) (k0_pay12 x2 x4 x6) (k0_pay13 x2 x4 x6 x1 x3 x5) (k0_pay36 (k0_pay27 (k0_pay23 x8) x0 x13) x10) (ix2 p k)
      = ((r.dl w 2 k : ℝ) : EReal) := by
  pointwise [k0_pay3, wt2 h, da h, a h]
  simp only [← EReal.coe_zero, ← EReal.coe_mul, ← EReal.coe_sub, zero_sub]
  rfl

end Cert.Proof.MixKernel

end
-- ==== Proof.MixOut.lean ====
/- What the merge-gradient body stores in each of its output blocks, entry by entry. -/
module

public import proofs.«01_k».proof.Proof.MixKernel
public import proofs.«01_k».proof.Proof.MixFrameIdeal
import Idealize.ShloMosaic.Lib.Pipeline.ValueKit
import Idealize.ShloMosaic.Lib.Pointwise

@[expose] public section

set_option maxRecDepth 16384

noncomputable section

namespace Cert.Proof.MixOut

open Idealize.ShloMosaic Idealize.ShloMosaic.TcCoe Idealize.SL.Sem
open Cert.KernelIdeal Cert.KernelIdeal.Gen Cert.KernelIdeal.Mix

variable {p : Fin 256} {r : Row} {w : Wts} {x0 : Vec Ideal S256x1024 .f32} {x1 x2 x3 x4 x5 x6 x7 : Vec Ideal S256x512 .f32}
  {x8 x9 : Vec Ideal S256x1024 .f32} {x10 x11 x12 : Vec Ideal S512x1024 .bf16} {x13 : Vec Ideal S1024x1024 .bf16}
  (h : MixKernel.Holds p r w x0 x1 x2 x3 x4 x5 x6 x7 x8 x9 x10 x11 x12 x13)

include h

/-- The stored gradient of the first group's output, at row `p`. -/
theorem out14 (k : Fin 512) : out0_14 (F := Ideal) x0 x1 x2 x3 x4 x5 x6 x7 x8 x9 x10 x11 x12 x13 (ix2 p k) = ((r.dO w 0 k : ℝ) : EReal) := by
  simp only [out0_14, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.do0 h k

/-- The stored correction of the first group's logarithm, at row `p`. -/
theorem out15 (k : Fin 512) : out0_15 (F := Ideal) x0 x1 x2 x3 x4 x5 x6 x7 x8 x9 x10 x11 x12 x13 (ix2 p k) = ((r.dl w 0 k : ℝ) : EReal) := by
  simp only [out0_15, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dl0 h k

/-- The stored gradient of the second group's output, at row `p`. -/
theorem out16 (k : Fin 512) : out0_16 (F := Ideal) x0 x1 x2 x3 x4 x5 x6 x7 x8 x9 x10 x11 x12 x13 (ix2 p k) = ((r.dO w 1 k : ℝ) : EReal) := by
  simp only [out0_16, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.do1 h k

/-- The stored correction of the second group's logarithm, at row `p`. -/
theorem out17 (k : Fin 512) : out0_17 (F := Ideal) x0 x1 x2 x3 x4 x5 x6 x7 x8 x9 x10 x11 x12 x13 (ix2 p k) = ((r.dl w 1 k : ℝ) : EReal) := by
  simp only [out0_17, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dl1 h k

/-- The stored gradient of the third group's output, at row `p`. -/
theorem out18 (k : Fin 512) : out0_18 (F := Ideal) x0 x1 x2 x3 x4 x5 x6 x7 x8 x9 x10 x11 x12 x13 (ix2 p k) = ((r.dO w 2 k : ℝ) : EReal) := by
  simp only [out0_18, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.do2 h k

/-- The stored correction of the third group's logarithm, at row `p`. -/
theorem out19 (k : Fin 512) : out0_19 (F := Ideal) x0 x1 x2 x3 x4 x5 x6 x7 x8 x9 x10 x11 x12 x13 (ix2 p k) = ((r.dl w 2 k : ℝ) : EReal) := by
  simp only [out0_19, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dl2 h k

/-- The stored gradient of the recurrence's output, at row `p`. -/
theorem out20 (k : Fin 512) : out0_20 (F := Ideal) x0 x1 x2 x3 x4 x5 x6 x7 x8 x9 x10 x11 x12 x13 (ix2 p k) = ((r.dy w k : ℝ) : EReal) := by
  simp only [out0_20, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dy h k

/-- The stored gradient of the first gate, at row `p`. -/
theorem out21 (k : Fin 1024) : out0_21 (F := Ideal) x0 x1 x2 x3 x4 x5 x6 x7 x8 x9 x10 x11 x12 x13 (ix2 p k) = ((r.dga w k : ℝ) : EReal) := by
  simp only [out0_21, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dga h k

/-- The stored gradient of the second gate, at row `p`. -/
theorem out22 (k : Fin 1024) : out0_22 (F := Ideal) x0 x1 x2 x3 x4 x5 x6 x7 x8 x9 x10 x11 x12 x13 (ix2 p k) = ((r.dgs w k : ℝ) : EReal) := by
  simp only [out0_22, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dgs h k

/-- The stored merged attention output, at row `p`. -/
theorem out23 (k : Fin 512) : out0_23 (F := Ideal) x0 x1 x2 x3 x4 x5 x6 x7 x8 x9 x10 x11 x12 x13 (ix2 p k) = ((r.a k : ℝ) : EReal) := by
  simp only [out0_23, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.a16 h k

/-- The stored GELU of the recurrence's output, at row `p`. -/
theorem out24 (k : Fin 512) : out0_24 (F := Ideal) x0 x1 x2 x3 x4 x5 x6 x7 x8 x9 x10 x11 x12 x13 (ix2 p k) = ((r.yg k : ℝ) : EReal) := by
  simp only [out0_24, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.yg h k

/-- The stored gated merge, at row `p`. -/
theorem out25 (k : Fin 1024) : out0_25 (F := Ideal) x0 x1 x2 x3 x4 x5 x6 x7 x8 x9 x10 x11 x12 x13 (ix2 p k) = ((r.mix w k : ℝ) : EReal) := by
  simp only [out0_25, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.mix h k

/-- The stored gradient of the projected attention output, at row `p`. -/
theorem out26 (k : Fin 1024) : out0_26 (F := Ideal) x0 x1 x2 x3 x4 x5 x6 x7 x8 x9 x10 x11 x12 x13 (ix2 p k) = ((r.dao w k : ℝ) : EReal) := by
  simp only [out0_26, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dao h k

/-- The stored gradient of the first half of the gated unit, at row `p`. -/
theorem out27 (k : Fin 1024) : out0_27 (F := Ideal) x0 x1 x2 x3 x4 x5 x6 x7 x8 x9 x10 x11 x12 x13 (ix2 p k) = ((r.dpa w k : ℝ) : EReal) := by
  simp only [out0_27, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dpa h k

/-- The stored gradient of its second half, at row `p`. -/
theorem out28 (k : Fin 1024) : out0_28 (F := Ideal) x0 x1 x2 x3 x4 x5 x6 x7 x8 x9 x10 x11 x12 x13 (ix2 p k) = ((r.dpb w k : ℝ) : EReal) := by
  simp only [out0_28, k0_pay41, k0_pay42, k0_pay43, k0_pay44, k0_pay45, k0_pay46, k0_pay47, k0_pay48, k0_pay49, k0_pay50, k0_pay51, k0_pay52, k0_pay53, k0_pay54]
  simp (disch := decide) only [View.canon_cons_unit_lit', View.ld_unit_lit']
  exact MixKernel.dpb h k

end Cert.Proof.MixOut

end
-- ==== Proof.MixValue.lean ====
/- What the merge-gradient call leaves in each of its result arrays: the quantities of MixSpec.lean, row by row. -/
module

public import proofs.«01_k».proof.Proof.MixRows
public import proofs.«01_k».proof.Proof.MixOut
import Idealize.ShloMosaic.Lib.Pipeline.ValueKit
import Idealize.ShloMosaic.Lib.Pointwise

@[expose] public section

set_option maxRecDepth 16384

noncomputable section

namespace Cert.Proof.MixValue

open Idealize.ShloMosaic Idealize.ShloMosaic.TcCoe Idealize.SL.Sem
open Cert.KernelIdeal Cert.KernelIdeal.Gen Cert.KernelIdeal.Mix

variable (m : (ℓ : Loc nD τ sig) → Buf (Elt Ideal) ℓ) (c : Dev nD)

/-- The index maps: the row blocks follow the grid, the two gates are the sixth and seventh block of columns, the weights
    are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 5] ∧ win0_9.index t = ![t.val, 6] ∧ win0_10.index t = ![0, 0]
    ∧ win0_11.index t = ![0, 0] ∧ win0_12.index t = ![0, 0] ∧ win0_13.index t = ![0, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![t.val, 0]
    ∧ win0_24.index t = ![t.val, 0] ∧ win0_25.index t = ![t.val, 0] ∧ win0_26.index t = ![t.val, 0] ∧ win0_27.index t = ![t.val, 0]
    ∧ win0_28.index t = ![t.val, 0] :=
  fun t => by
    have p0 := (by decide +kernel :
      ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 5] ∧ win0_9.index t = ![t.val, 6]) t
    have p1 := (by decide +kernel :
      ∀ t : Fin grid0.N, win0_10.index t = ![0, 0] ∧ win0_11.index t = ![0, 0] ∧ win0_12.index t = ![0, 0] ∧ win0_13.index t = ![0, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0]) t
    have p2 := (by decide +kernel :
      ∀ t : Fin grid0.N, win0_20.index t = ![t.val, 0] ∧ win0_21.index t = ![t.val, 0] ∧ win0_22.index t = ![t.val, 0] ∧ win0_23.index t = ![t.val, 0] ∧ win0_24.index t = ![t.val, 0] ∧ win0_25.index t = ![t.val, 0] ∧ win0_26.index t = ![t.val, 0] ∧ win0_27.index t = ![t.val, 0] ∧ win0_28.index t = ![t.val, 0]) t
    simp only [p0, p1, p2, and_self]

/-- The rows that the arguments hold, and the weights. -/
def R (i : Fin 8192) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) i

def w : Wts :=
  wtsOf (m ((c : Thread nD τ).loc main_arg9)) (m ((c : Thread nD τ).loc main_arg10)) (m ((c : Thread nD τ).loc main_arg11))
    (m ((c : Thread nD τ).loc main_arg12))

/-- Every argument but the gates' is real. -/
structure Ok : Prop where
  h0 : IsReal (s := S8192x1024) (m ((c : Thread nD τ).loc main_arg0))
  h1 : IsReal (s := S8192x512) (m ((c : Thread nD τ).loc main_arg1))
  h2 : IsReal (s := S8192x512) (m ((c : Thread nD τ).loc main_arg2))
  h3 : IsReal (s := S8192x512) (m ((c : Thread nD τ).loc main_arg3))
  h4 : IsReal (s := S8192x512) (m ((c : Thread nD τ).loc main_arg4))
  h5 : IsReal (s := S8192x512) (m ((c : Thread nD τ).loc main_arg5))
  h6 : IsReal (s := S8192x512) (m ((c : Thread nD τ).loc main_arg6))
  h7 : IsReal (s := S8192x512) (m ((c : Thread nD τ).loc main_arg7))
  h9 : IsReal (s := S512x1024) (m ((c : Thread nD τ).loc main_arg9))
  h10 : IsReal (s := S512x1024) (m ((c : Thread nD τ).loc main_arg10))
  h11 : IsReal (s := S512x1024) (m ((c : Thread nD τ).loc main_arg11))
  h12 : IsReal (s := S1024x1024) (m ((c : Thread nD τ).loc main_arg12))

variable {m c} (h : Ok m c)

/-- Row `p` of block `t`. -/
def at_ (t : Fin cfg0.N) (p : Fin 256) : Fin 8192 :=
  ⟨t.val * 256 + p.val, by have h1 : t.val < 32 := t.isLt; have h2 := p.isLt; omega⟩

include h in
/-- The blocks of grid point `t` hold, at row `p`, row `256 t + p` of the arguments. -/
theorem blk (t : Fin cfg0.N) (p : Fin 256) :
    MixKernel.Holds p (R m c (at_ t p)) (w m c) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) := by
  constructor
  · intro k; refine Eq.trans ?_ (h.h0 (ix2 (at_ t p) k)).symm; blk_point [iblk, V, idx t, at_]
  · intro k; refine Eq.trans ?_ (h.h1 (ix2 (at_ t p) k)).symm; blk_point [iblk, V, idx t, at_]
  · intro k; refine Eq.trans ?_ (h.h2 (ix2 (at_ t p) k)).symm; blk_point [iblk, V, idx t, at_]
  · intro k; refine Eq.trans ?_ (h.h3 (ix2 (at_ t p) k)).symm; blk_point [iblk, V, idx t, at_]
  · intro k; refine Eq.trans ?_ (h.h4 (ix2 (at_ t p) k)).symm; blk_point [iblk, V, idx t, at_]
  · intro k; refine Eq.trans ?_ (h.h5 (ix2 (at_ t p) k)).symm; blk_point [iblk, V, idx t, at_]
  · intro k; refine Eq.trans ?_ (h.h6 (ix2 (at_ t p) k)).symm; blk_point [iblk, V, idx t, at_]
  · intro k; refine Eq.trans ?_ (h.h7 (ix2 (at_ t p) k)).symm; blk_point [iblk, V, idx t, at_]
  · intro k
    show _ = m ((c : Thread nD τ).loc main_arg8) (ix2 (n0 := 8192) (n1 := 7168) (at_ t p) ⟨5120 + k.val, by omega⟩)
    blk_point [iblk, V, idx t, at_]
  · intro k
    show _ = m ((c : Thread nD τ).loc main_arg8) (ix2 (n0 := 8192) (n1 := 7168) (at_ t p) ⟨6144 + k.val, by omega⟩)
    blk_point [iblk, V, idx t, at_]
  · intro k j; refine Eq.trans ?_ (h.h9 (ix2 k j)).symm; blk_point [iblk, V, idx t]
  · intro k j; refine Eq.trans ?_ (h.h10 (ix2 k j)).symm; blk_point [iblk, V, idx t]
  · intro k j; refine Eq.trans ?_ (h.h11 (ix2 k j)).symm; blk_point [iblk, V, idx t]
  · intro k j; refine Eq.trans ?_ (h.h12 (ix2 k j)).symm; blk_point [iblk, V, idx t]

include h

/-- The whole array: gradient of the first group's output. -/
theorem final14 : (dats m 0 c).arrAt 14 (cfgs 0).N = arr (R m c) (fun r => r.dO (w m c) 0) := by
  refine (dats m 0 c).arrAt_eq_of_covers 14 _ (by decide +kernel) fun t _ y => ?_
  have e : (win0_14.blk t).view.emb y = ix2 (at_ t (y 0)) (y 1) := by
    blk_ext! [idx t, at_]
  blk_simp
  rw [after0_14, e]
  obtain ⟨p, k, rfl⟩ : ∃ (p : Fin 256) (k : Fin 512), y = ix2 p k := ⟨y 0, y 1, eq_ix2 y⟩
  exact MixOut.out14 (blk h t p) k

/-- The whole array: correction of the first group's logarithm. -/
theorem final15 : (dats m 0 c).arrAt 15 (cfgs 0).N = arr (R m c) (fun r => r.dl (w m c) 0) := by
  refine (dats m 0 c).arrAt_eq_of_covers 15 _ (by decide +kernel) fun t _ y => ?_
  have e : (win0_15.blk t).view.emb y = ix2 (at_ t (y 0)) (y 1) := by
    blk_ext! [idx t, at_]
  blk_simp
  rw [after0_15, e]
  obtain ⟨p, k, rfl⟩ : ∃ (p : Fin 256) (k : Fin 512), y = ix2 p k := ⟨y 0, y 1, eq_ix2 y⟩
  exact MixOut.out15 (blk h t p) k

/-- The whole array: gradient of the second group's output. -/
theorem final16 : (dats m 0 c).arrAt 16 (cfgs 0).N = arr (R m c) (fun r => r.dO (w m c) 1) := by
  refine (dats m 0 c).arrAt_eq_of_covers 16 _ (by decide +kernel) fun t _ y => ?_
  have e : (win0_16.blk t).view.emb y = ix2 (at_ t (y 0)) (y 1) := by
    blk_ext! [idx t, at_]
  blk_simp
  rw [after0_16, e]
  obtain ⟨p, k, rfl⟩ : ∃ (p : Fin 256) (k : Fin 512), y = ix2 p k := ⟨y 0, y 1, eq_ix2 y⟩
  exact MixOut.out16 (blk h t p) k

/-- The whole array: correction of the second group's logarithm. -/
theorem final17 : (dats m 0 c).arrAt 17 (cfgs 0).N = arr (R m c) (fun r => r.dl (w m c) 1) := by
  refine (dats m 0 c).arrAt_eq_of_covers 17 _ (by decide +kernel) fun t _ y => ?_
  have e : (win0_17.blk t).view.emb y = ix2 (at_ t (y 0)) (y 1) := by
    blk_ext! [idx t, at_]
  blk_simp
  rw [after0_17, e]
  obtain ⟨p, k, rfl⟩ : ∃ (p : Fin 256) (k : Fin 512), y = ix2 p k := ⟨y 0, y 1, eq_ix2 y⟩
  exact MixOut.out17 (blk h t p) k

/-- The whole array: gradient of the third group's output. -/
theorem final18 : (dats m 0 c).arrAt 18 (cfgs 0).N = arr (R m c) (fun r => r.dO (w m c) 2) := by
  refine (dats m 0 c).arrAt_eq_of_covers 18 _ (by decide +kernel) fun t _ y => ?_
  have e : (win0_18.blk t).view.emb y = ix2 (at_ t (y 0)) (y 1) := by
    blk_ext! [idx t, at_]
  blk_simp
  rw [after0_18, e]
  obtain ⟨p, k, rfl⟩ : ∃ (p : Fin 256) (k : Fin 512), y = ix2 p k := ⟨y 0, y 1, eq_ix2 y⟩
  exact MixOut.out18 (blk h t p) k

/-- The whole array: correction of the third group's logarithm. -/
theorem final19 : (dats m 0 c).arrAt 19 (cfgs 0).N = arr (R m c) (fun r => r.dl (w m c) 2) := by
  refine (dats m 0 c).arrAt_eq_of_covers 19 _ (by decide +kernel) fun t _ y => ?_
  have e : (win0_19.blk t).view.emb y = ix2 (at_ t (y 0)) (y 1) := by
    blk_ext! [idx t, at_]
  blk_simp
  rw [after0_19, e]
  obtain ⟨p, k, rfl⟩ : ∃ (p : Fin 256) (k : Fin 512), y = ix2 p k := ⟨y 0, y 1, eq_ix2 y⟩
  exact MixOut.out19 (blk h t p) k

/-- The whole array: gradient of the recurrence's output. -/
theorem final20 : (dats m 0 c).arrAt 20 (cfgs 0).N = arr (R m c) (fun r => r.dy (w m c)) := by
  refine (dats m 0 c).arrAt_eq_of_covers 20 _ (by decide +kernel) fun t _ y => ?_
  have e : (win0_20.blk t).view.emb y = ix2 (at_ t (y 0)) (y 1) := by
    blk_ext! [idx t, at_]
  blk_simp
  rw [after0_20, e]
  obtain ⟨p, k, rfl⟩ : ∃ (p : Fin 256) (k : Fin 512), y = ix2 p k := ⟨y 0, y 1, eq_ix2 y⟩
  exact MixOut.out20 (blk h t p) k

/-- The whole array: gradient of the first gate. -/
theorem final21 : (dats m 0 c).arrAt 21 (cfgs 0).N = arr (R m c) (fun r => r.dga (w m c)) := by
  refine (dats m 0 c).arrAt_eq_of_covers 21 _ (by decide +kernel) fun t _ y => ?_
  have e : (win0_21.blk t).view.emb y = ix2 (at_ t (y 0)) (y 1) := by
    blk_ext! [idx t, at_]
  blk_simp
  rw [after0_21, e]
  obtain ⟨p, k, rfl⟩ : ∃ (p : Fin 256) (k : Fin 1024), y = ix2 p k := ⟨y 0, y 1, eq_ix2 y⟩
  exact MixOut.out21 (blk h t p) k

/-- The whole array: gradient of the second gate. -/
theorem final22 : (dats m 0 c).arrAt 22 (cfgs 0).N = arr (R m c) (fun r => r.dgs (w m c)) := by
  refine (dats m 0 c).arrAt_eq_of_covers 22 _ (by decide +kernel) fun t _ y => ?_
  have e : (win0_22.blk t).view.emb y = ix2 (at_ t (y 0)) (y 1) := by
    blk_ext! [idx t, at_]
  blk_simp
  rw [after0_22, e]
  obtain ⟨p, k, rfl⟩ : ∃ (p : Fin 256) (k : Fin 1024), y = ix2 p k := ⟨y 0, y 1, eq_ix2 y⟩
  exact MixOut.out22 (blk h t p) k

/-- The whole array: merged attention output. -/
theorem final23 : (dats m 0 c).arrAt 23 (cfgs 0).N = arr (R m c) (fun r => r.a) := by
  refine (dats m 0 c).arrAt_eq_of_covers 23 _ (by decide +kernel) fun t _ y => ?_
  have e : (win0_23.blk t).view.emb y = ix2 (at_ t (y 0)) (y 1) := by
    blk_ext! [idx t, at_]
  blk_simp
  rw [after0_23, e]
  obtain ⟨p, k, rfl⟩ : ∃ (p : Fin 256) (k : Fin 512), y = ix2 p k := ⟨y 0, y 1, eq_ix2 y⟩
  exact MixOut.out23 (blk h t p) k

/-- The whole array: GELU of the recurrence's output. -/
theorem final24 : (dats m 0 c).arrAt 24 (cfgs 0).N = arr (R m c) (fun r => r.yg) := by
  refine (dats m 0 c).arrAt_eq_of_covers 24 _ (by decide +kernel) fun t _ y => ?_
  have e : (win0_24.blk t).view.emb y = ix2 (at_ t (y 0)) (y 1) := by
    blk_ext! [idx t, at_]
  blk_simp
  rw [after0_24, e]
  obtain ⟨p, k, rfl⟩ : ∃ (p : Fin 256) (k : Fin 512), y = ix2 p k := ⟨y 0, y 1, eq_ix2 y⟩
  exact MixOut.out24 (blk h t p) k

/-- The whole array: gated merge. -/
theorem final25 : (dats m 0 c).arrAt 25 (cfgs 0).N = arr (R m c) (fun r => r.mix (w m c)) := by
  refine (dats m 0 c).arrAt_eq_of_covers 25 _ (by decide +kernel) fun t _ y => ?_
  have e : (win0_25.blk t).view.emb y = ix2 (at_ t (y 0)) (y 1) := by
    blk_ext! [idx t, at_]
  blk_simp
  rw [after0_25, e]
  obtain ⟨p, k, rfl⟩ : ∃ (p : Fin 256) (k : Fin 1024), y = ix2 p k := ⟨y 0, y 1, eq_ix2 y⟩
  exact MixOut.out25 (blk h t p) k

/-- The whole array: gradient of the projected attention output. -/
theorem final26 : (dats m 0 c).arrAt 26 (cfgs 0).N = arr (R m c) (fun r => r.dao (w m c)) := by
  refine (dats m 0 c).arrAt_eq_of_covers 26 _ (by decide +kernel) fun t _ y => ?_
  have e : (win0_26.blk t).view.emb y = ix2 (at_ t (y 0)) (y 1) := by
    blk_ext! [idx t, at_]
  blk_simp
  rw [after0_26, e]
  obtain ⟨p, k, rfl⟩ : ∃ (p : Fin 256) (k : Fin 1024), y = ix2 p k := ⟨y 0, y 1, eq_ix2 y⟩
  exact MixOut.out26 (blk h t p) k

/-- The whole array: gradient of the first half of the gated unit. -/
theorem final27 : (dats m 0 c).arrAt 27 (cfgs 0).N = arr (R m c) (fun r => r.dpa (w m c)) := by
  refine (dats m 0 c).arrAt_eq_of_covers 27 _ (by decide +kernel) fun t _ y => ?_
  have e : (win0_27.blk t).view.emb y = ix2 (at_ t (y 0)) (y 1) := by
    blk_ext! [idx t, at_]
  blk_simp
  rw [after0_27, e]
  obtain ⟨p, k, rfl⟩ : ∃ (p : Fin 256) (k : Fin 1024), y = ix2 p k := ⟨y 0, y 1, eq_ix2 y⟩
  exact MixOut.out27 (blk h t p) k

/-- The whole array: gradient of its second half. -/
theorem final28 : (dats m 0 c).arrAt 28 (cfgs 0).N = arr (R m c) (fun r => r.dpb (w m c)) := by
  refine (dats m 0 c).arrAt_eq_of_covers 28 _ (by decide +kernel) fun t _ y => ?_
  have e : (win0_28.blk t).view.emb y = ix2 (at_ t (y 0)) (y 1) := by
    blk_ext! [idx t, at_]
  blk_simp
  rw [after0_28, e]
  obtain ⟨p, k, rfl⟩ : ∃ (p : Fin 256) (k : Fin 1024), y = ix2 p k := ⟨y 0, y 1, eq_ix2 y⟩
  exact MixOut.out28 (blk h t p) k

end Cert.Proof.MixValue

end
-- ==== Proof.MixClaim.lean ====
/- The reference of the merge-gradient call, array by array, and its equality with the call. -/
module

public import proofs.«01_k».proof.Proof.MixPre
public import proofs.«01_k».proof.Proof.MixRef
public import proofs.«01_k».proof.Proof.MixValue
public import proofs.«01_k».proof.Proof.Gen.ReferenceIdeal.Run
import Idealize.ShloMosaic.Lib.Claim
import Idealize.ShloMosaic.Lib.Pipeline.ValueKit

@[expose] public section

set_option maxRecDepth 16384

noncomputable section

namespace Cert.Proof.MixClaim

open Idealize.ShloMosaic Idealize.ShloMosaic.TcCoe Idealize.SL.Sem
open Cert.ReferenceIdeal Cert.ReferenceIdeal.Gen Cert.ReferenceIdeal.Read

section
variable {R : Fin 8192 → Row} {w : Wts} {x0 : FVec Ideal S8192x1024 .f32} {x1 x2 x3 x4 x5 x6 x7 : FVec Ideal S8192x512 .f32}
  {x8 : FVec Ideal S8192x7168 .f32} {x9 x10 x11 : FVec Ideal S512x1024 .bf16} {x12 : FVec Ideal S1024x1024 .bf16}
  (h : MixRef.Holds R w x0 x1 x2 x3 x4 x5 x6 x7 x8 x9 x10 x11 x12)
include h

/-- The reference's gradient of the first group's output. -/
theorem ref_do0 : val_main_v134 (F := Ideal) x0 x2 x4 x6 x8 x9 x12 = arr R (fun r => r.dO w 0) :=
  funext fun y => by rw [eq_ix2 y]; exact MixRef.do0 h _ _

/-- The reference's correction of the first group's logarithm. -/
theorem ref_dl0 : val_main_v158 (F := Ideal) x0 x1 x2 x3 x4 x5 x6 x8 x9 x12 = arr R (fun r => r.dl w 0) :=
  funext fun y => by rw [eq_ix2 y]; exact MixRef.dl0 h _ _

/-- The reference's gradient of the second group's output. -/
theorem ref_do1 : val_main_v136 (F := Ideal) x0 x2 x4 x6 x8 x9 x12 = arr R (fun r => r.dO w 1) :=
  funext fun y => by rw [eq_ix2 y]; exact MixRef.do1 h _ _

/-- The reference's correction of the second group's logarithm. -/
theorem ref_dl1 : val_main_v160 (F := Ideal) x0 x1 x2 x3 x4 x5 x6 x8 x9 x12 = arr R (fun r => r.dl w 1) :=
  funext fun y => by rw [eq_ix2 y]; exact MixRef.dl1 h _ _

/-- The reference's gradient of the third group's output. -/
theorem ref_do2 : val_main_v138 (F := Ideal) x0 x2 x4 x6 x8 x9 x12 = arr R (fun r => r.dO w 2) :=
  funext fun y => by rw [eq_ix2 y]; exact MixRef.do2 h _ _

/-- The reference's correction of the third group's logarithm. -/
theorem ref_dl2 : val_main_v162 (F := Ideal) x0 x1 x2 x3 x4 x5 x6 x8 x9 x12 = arr R (fun r => r.dl w 2) :=
  funext fun y => by rw [eq_ix2 y]; exact MixRef.dl2 h _ _

/-- The reference's gradient of the scan's output. -/
theorem ref_dy : val_main_v128 (F := Ideal) x0 x7 x8 x10 x11 x12 = arr R (fun r => r.dy w) :=
  funext fun y => by rw [eq_ix2 y]; exact MixRef.dy h _ _

/-- The reference's gradient of the attention gate. -/
theorem ref_dga : val_main_v163 (F := Ideal) x0 x1 x2 x3 x4 x5 x6 x8 x9 x12 = arr R (fun r => r.dga w) :=
  funext fun y => by rw [eq_ix2 y]; exact MixRef.dga h _ _

/-- The reference's gradient of the scan gate. -/
theorem ref_dgs : val_main_v164 (F := Ideal) x0 x7 x8 x10 x11 x12 = arr R (fun r => r.dgs w) :=
  funext fun y => by rw [eq_ix2 y]; exact MixRef.dgs h _ _

/-- The reference's merged attention. -/
theorem ref_a16 : val_main_v165 (F := Ideal) x1 x2 x3 x4 x5 x6 = arr R (fun r => r.a) :=
  funext fun y => by rw [eq_ix2 y]; exact MixRef.a16 h _ _

/-- The reference's activated scan. -/
theorem ref_yg16 : val_main_v166 (F := Ideal) x7 = arr R (fun r => r.yg) :=
  funext fun y => by rw [eq_ix2 y]; exact MixRef.yg16 h _ _

/-- The reference's mixed branches. -/
theorem ref_mix : val_main_v167 (F := Ideal) x1 x2 x3 x4 x5 x6 x7 x8 x9 x10 x11 = arr R (fun r => r.mix w) :=
  funext fun y => by rw [eq_ix2 y]; exact MixRef.mix h _ _

/-- The reference's gradient of the attention projection. -/
theorem ref_dao16 : val_main_v168 (F := Ideal) x0 x8 x12 = arr R (fun r => r.dao w) :=
  funext fun y => by rw [eq_ix2 y]; exact MixRef.dao16 h _ _

/-- The reference's gradient of the gated linear unit's value. -/
theorem ref_dpa16 : val_main_v169 (F := Ideal) x0 x7 x8 x11 x12 = arr R (fun r => r.dpa w) :=
  funext fun y => by rw [eq_ix2 y]; exact MixRef.dpa16 h _ _

/-- The reference's gradient of the gated linear unit's gate. -/
theorem ref_dpb16 : val_main_v170 (F := Ideal) x0 x7 x8 x10 x11 x12 = arr R (fun r => r.dpb w) :=
  funext fun y => by rw [eq_ix2 y]; exact MixRef.dpb16 h _ _

end

/-- The precondition makes the arguments real. -/
theorem ok [Cert.Pre_finite.Facts] {m : (ℓ : Loc Cert.KernelIdeal.nD Cert.KernelIdeal.τ Cert.KernelIdeal.sig) → Buf (Elt Ideal) ℓ}
    (hpre : Cert.Pre_KernelIdeal_finite m) (c : Dev Cert.KernelIdeal.nD) : MixValue.Ok m c := by
  obtain ⟨h0, h1, h2, h3, h4, h5, h6, h7, h9, h10, h11, h12⟩ := MixPre.real _ _ _ _ _ _ _ _ _ _ _ _ _ (hpre c)
  exact ⟨h0, h1, h2, h3, h4, h5, h6, h7, h9, h10, h11, h12⟩

/-- Arrays equal to the kernel's arguments hold the rows and the weights of its memory. -/
theorem holds {m : (ℓ : Loc Cert.KernelIdeal.nD Cert.KernelIdeal.τ Cert.KernelIdeal.sig) → Buf (Elt Ideal) ℓ}
    {c : Dev Cert.KernelIdeal.nD} (h : MixValue.Ok m c) :
    MixRef.Holds (MixValue.R m c) (MixValue.w m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) where
  dx i k := (h.h0 (ix2 i k)).symm
  o0 i k := (h.h1 (ix2 i k)).symm
  l0 i k := (h.h2 (ix2 i k)).symm
  o1 i k := (h.h3 (ix2 i k)).symm
  l1 i k := (h.h4 (ix2 i k)).symm
  o2 i k := (h.h5 (ix2 i k)).symm
  l2 i k := (h.h6 (ix2 i k)).symm
  y i k := (h.h7 (ix2 i k)).symm
  ga i k := rfl
  gs i k := rfl
  wp k j := (h.h9 (ix2 k j)).symm
  wa k j := (h.h10 (ix2 k j)).symm
  wb k j := (h.h11 (ix2 k j)).symm
  wo k j := (h.h12 (ix2 k j)).symm

set_option maxHeartbeats 8000000 in
/-- The merge-gradient call and its reference end with equal results. -/
theorem algebraic [Cert.Pre_finite.Facts] : Cert.algebraic_KernelIdeal_ReferenceIdeal_pre_finite := by
  intro m g m' g' hpre hagree
  refine ⟨fun c => (Cert.KernelIdeal.Mix.dats m 0 c).arrAt 14 (Cert.KernelIdeal.cfgs 0).N,
    fun c => (Cert.KernelIdeal.Mix.dats m 0 c).arrAt 15 (Cert.KernelIdeal.cfgs 0).N,
    fun c => (Cert.KernelIdeal.Mix.dats m 0 c).arrAt 16 (Cert.KernelIdeal.cfgs 0).N,
    fun c => (Cert.KernelIdeal.Mix.dats m 0 c).arrAt 17 (Cert.KernelIdeal.cfgs 0).N,
    fun c => (Cert.KernelIdeal.Mix.dats m 0 c).arrAt 18 (Cert.KernelIdeal.cfgs 0).N,
    fun c => (Cert.KernelIdeal.Mix.dats m 0 c).arrAt 19 (Cert.KernelIdeal.cfgs 0).N,
    fun c => (Cert.KernelIdeal.Mix.dats m 0 c).arrAt 20 (Cert.KernelIdeal.cfgs 0).N,
    fun c => (Cert.KernelIdeal.Mix.dats m 0 c).arrAt 21 (Cert.KernelIdeal.cfgs 0).N,
    fun c => (Cert.KernelIdeal.Mix.dats m 0 c).arrAt 22 (Cert.KernelIdeal.cfgs 0).N,
    fun c => (Cert.KernelIdeal.Mix.dats m 0 c).arrAt 23 (Cert.KernelIdeal.cfgs 0).N,
    fun c => (Cert.KernelIdeal.Mix.dats m 0 c).arrAt 24 (Cert.KernelIdeal.cfgs 0).N,
    fun c => (Cert.KernelIdeal.Mix.dats m 0 c).arrAt 25 (Cert.KernelIdeal.cfgs 0).N,
    fun c => (Cert.KernelIdeal.Mix.dats m 0 c).arrAt 26 (Cert.KernelIdeal.cfgs 0).N,
    fun c => (Cert.KernelIdeal.Mix.dats m 0 c).arrAt 27 (Cert.KernelIdeal.cfgs 0).N,
    fun c => (Cert.KernelIdeal.Mix.dats m 0 c).arrAt 28 (Cert.KernelIdeal.cfgs 0).N, ?_, ?_⟩
  · exact (θ_run _ _ _).mono (fun r h c => ⟨(h.1 c).1 14, (h.1 c).1 15, (h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, (h.1 c).1 28, h.2 c⟩)
      (θ_run_and (Cert.KernelIdeal.Mix.run_main m g) (Cert.KernelIdeal.Mix.unchanged m g))
  · refine (θ_run _ _ _).mono (fun r hr c => ?_) (Cert.ReferenceIdeal.Value.run (F := Ideal) m' g')
    have hm := ok hpre c
    have hh := holds hm
    obtain ⟨a0, a1, a2, a3, a4, a5, a6, a7, a8, a9, a10, a11, a12⟩ := hagree c
    rw [← a0, ← a1, ← a2, ← a3, ← a4, ← a5, ← a6, ← a7, ← a8, ← a9, ← a10, ← a11, ← a12] at hh
    have hc := hr c
    refine ⟨?_, ?_, ?_, ?_, ?_, ?_, ?_, ?_, ?_, ?_, ?_, ?_, ?_, ?_, ?_, hc.2.2.2.2.2.2.2.2.2.2.2.2.2.2.2⟩
    · exact hc.1.trans ((val_main_v134_eq (F := Ideal) _).trans ((ref_do0 hh).trans (MixValue.final14 hm).symm))
    · exact hc.2.1.trans ((val_main_v158_eq (F := Ideal) _).trans ((ref_dl0 hh).trans (MixValue.final15 hm).symm))
    · exact hc.2.2.1.trans ((val_main_v136_eq (F := Ideal) _).trans ((ref_do1 hh).trans (MixValue.final16 hm).symm))
    · exact hc.2.2.2.1.trans ((val_main_v160_eq (F := Ideal) _).trans ((ref_dl1 hh).trans (MixValue.final17 hm).symm))
    · exact hc.2.2.2.2.1.trans ((val_main_v138_eq (F := Ideal) _).trans ((ref_do2 hh).trans (MixValue.final18 hm).symm))
    · exact hc.2.2.2.2.2.1.trans ((val_main_v162_eq (F := Ideal) _).trans ((ref_dl2 hh).trans (MixValue.final19 hm).symm))
    · exact hc.2.2.2.2.2.2.1.trans ((val_main_v128_eq (F := Ideal) _).trans ((ref_dy hh).trans (MixValue.final20 hm).symm))
    · exact hc.2.2.2.2.2.2.2.1.trans ((val_main_v163_eq (F := Ideal) _).trans ((ref_dga hh).trans (MixValue.final21 hm).symm))
    · exact hc.2.2.2.2.2.2.2.2.1.trans ((val_main_v164_eq (F := Ideal) _).trans ((ref_dgs hh).trans (MixValue.final22 hm).symm))
    · exact hc.2.2.2.2.2.2.2.2.2.1.trans ((val_main_v165_eq (F := Ideal) _).trans ((ref_a16 hh).trans (MixValue.final23 hm).symm))
    · exact hc.2.2.2.2.2.2.2.2.2.2.1.trans ((val_main_v166_eq (F := Ideal) _).trans ((ref_yg16 hh).trans (MixValue.final24 hm).symm))
    · exact hc.2.2.2.2.2.2.2.2.2.2.2.1.trans ((val_main_v167_eq (F := Ideal) _).trans ((ref_mix hh).trans (MixValue.final25 hm).symm))
    · exact hc.2.2.2.2.2.2.2.2.2.2.2.2.1.trans ((val_main_v168_eq (F := Ideal) _).trans ((ref_dao16 hh).trans (MixValue.final26 hm).symm))
    · exact hc.2.2.2.2.2.2.2.2.2.2.2.2.2.1.trans ((val_main_v169_eq (F := Ideal) _).trans ((ref_dpa16 hh).trans (MixValue.final27 hm).symm))
    · exact hc.2.2.2.2.2.2.2.2.2.2.2.2.2.2.1.trans ((val_main_v170_eq (F := Ideal) _).trans ((ref_dpb16 hh).trans (MixValue.final28 hm).symm))

/-- The reference runs, its arguments end unchanged and every counter ends at zero. -/
theorem frame : Cert.quiescent_ReferenceIdeal := fun m ρ _ =>
  (θ_run _ _ _).mono (fun r h => ⟨fun c => (h c).2.2.2.2.2.2.2.2.2.2.2.2.2.2.2, sem_eq_zero_of_no_sems (by decide) r.2⟩)
    (Cert.ReferenceIdeal.Value.run (F := Ideal) m ρ)

end Cert.Proof.MixClaim

end
-- ==== Proof.GradDown.lean ====
/- The weight gradient of the down projection: the sum over all tokens, found block by block and four pieces of tokens
   at a time. -/
module

public import proofs.«01_k».proof.Defs
public import proofs.«01_k».proof.Proof.Gen.DownIdeal.Frame
public import proofs.«01_k».proof.Proof.Gen.DownRefIdeal
public import proofs.«01_k».proof.Proof.Gen.DownRefIdeal.Run
public import proofs.«01_k».proof.Proof.Gen.DownRefIdeal.Read
public import Idealize.ShloMosaic.Lib.Pointwise.Index
import Idealize.ShloMosaic.Lib.Claim
import Idealize.ShloMosaic.Lib.Pipeline.ValueKit
import Idealize.ShloMosaic.Lib.Pointwise

@[expose] public section

set_option maxRecDepth 16384

noncomputable section

namespace Cert.Proof.GradDown

open Idealize.ShloMosaic Idealize.ShloMosaic.TcCoe Idealize.SL.Sem
open Cert.DownIdeal Cert.DownIdeal.Gen

/-- The zero that a block begins with. -/
theorem hzero (j) : k0_pay1 (F := Ideal) j = 0 := by pointwise [k0_pay1]

/-- One step adds the products of 2048 tokens. -/
theorem hpay (acc : Vec Ideal S1024x1024 .f32) (x0 : Vec Ideal S2048x1024 .bf16) (x1 : Vec Ideal S2048x1024 .f32) (j) :
    k0_pay2 (F := Ideal) acc x0 x1 j = acc j + ∑ k : Fin 2048, x0 (ix2 k (j 0)) * x1 (ix2 k (j 1)) := by
  pointwise [k0_pay2]

/-- The reference is the sum over all tokens. -/
theorem href (X0 : FVec Ideal S8192x3072 .bf16) (X1 : FVec Ideal S8192x1024 .f32) (j) :
    Cert.DownRefIdeal.Read.val_main_v4 (F := Ideal) X0 X1 j = ∑ l : Fin 8192, X0 (ix2 l (j 0)) * X1 (ix2 l (j 1)) := by
  pointwise [Cert.DownRefIdeal.Read.val_main_v4, Cert.DownRefIdeal.Read.val_main_v3, Cert.DownRefIdeal.Read.val_main_v2, Cert.DownRefIdeal.Read.val_main_v1, Cert.DownRefIdeal.Read.val_main_v0]
  exact Finset.sum_congr rfl fun l _ => mul_comm _ _

/-- The index maps: the tokens follow the last coordinate of the grid, the block of the result the first two. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The whole result. -/
theorem final (m : (ℓ : Loc nD τ sig) → Buf (Elt Ideal) ℓ) (c : Dev nD) :
    (dats m 0 c).arrAt 2 (cfgs 0).N
      = Cert.DownRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [hpay, hzero]) (fun t h j => by rw [outsAt0_B m c t h]; frame_out; rw [hpay])
    t ((flush0_2 t).mp hf) _, zero_add, href]
  refine Fin.sum_mul_add_congr fun s k hl => ?_
  have hr := idx ⟨_, Pipeline.run_point_lt_of_flush t ((flush0_2 t).mp hf) s⟩
  blk_point [iblk, V, idx t, hr]

/-- The call and its reference end with equal results. -/
theorem algebraic : Cert.algebraic_DownIdeal_DownRefIdeal := by
  pair_intro
  · run_from Cert.DownIdeal.Gen.run_main m g
  · run_from Cert.DownRefIdeal.Value.run m' g'
    rw [Cert.DownRefIdeal.Read.val_main_v4_eq]
    exact (final m c).symm

/-- The reference runs, its arguments end unchanged and every counter ends at zero. -/
theorem frame : Cert.quiescent_DownRefIdeal := fun m ρ _ =>
  (θ_run _ _ _).mono (fun r h => ⟨fun c => (h c).2, sem_eq_zero_of_no_sems (by decide) r.2⟩)
    (Cert.DownRefIdeal.Value.run (F := Ideal) m ρ)

end Cert.Proof.GradDown

end
-- ==== Proof.GradUp.lean ====
/- The weight gradient of the gate and up projections: the sum over all tokens, found block by block and four pieces of tokens
   at a time. -/
module

public import proofs.«01_k».proof.Defs
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import Idealize.ShloMosaic.Lib.Pointwise.Index
import Idealize.ShloMosaic.Lib.Claim
import Idealize.ShloMosaic.Lib.Pipeline.ValueKit
import Idealize.ShloMosaic.Lib.Pointwise

@[expose] public section

set_option maxRecDepth 16384

noncomputable section

namespace Cert.Proof.GradUp

open Idealize.ShloMosaic Idealize.ShloMosaic.TcCoe Idealize.SL.Sem
open Cert.UpIdeal Cert.UpIdeal.Gen

/-- The zero that a block begins with. -/
theorem hzero (j) : k0_pay1 (F := Ideal) j = 0 := by pointwise [k0_pay1]

/-- One step adds the products of 2048 tokens. -/
theorem hpay (acc : Vec Ideal S1024x1024 .f32) (x0 : Vec Ideal S2048x1024 .bf16) (x1 : Vec Ideal S2048x1024 .bf16) (j) :
    k0_pay2 (F := Ideal) acc x0 x1 j = acc j + ∑ k : Fin 2048, x0 (ix2 k (j 0)) * x1 (ix2 k (j 1)) := by
  pointwise [k0_pay2]

/-- The reference is the sum over all tokens. -/
theorem href (X0 : FVec Ideal S8192x1024 .bf16) (X1 : FVec Ideal S8192x3072 .bf16) (j) :
    Cert.UpRefIdeal.Read.val_main_v3 (F := Ideal) X0 X1 j = ∑ l : Fin 8192, X0 (ix2 l (j 0)) * X1 (ix2 l (j 1)) := by
  pointwise [Cert.UpRefIdeal.Read.val_main_v3, Cert.UpRefIdeal.Read.val_main_v2, Cert.UpRefIdeal.Read.val_main_v1, Cert.UpRefIdeal.Read.val_main_v0]
  exact Finset.sum_congr rfl fun l _ => mul_comm _ _

/-- The index maps: the tokens follow the last coordinate of the grid, the block of the result the first two. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The whole result. -/
theorem final (m : (ℓ : Loc nD τ sig) → Buf (Elt Ideal) ℓ) (c : Dev nD) :
    (dats m 0 c).arrAt 2 (cfgs 0).N
      = Cert.UpRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [hpay, hzero]) (fun t h j => by rw [outsAt0_B m c t h]; frame_out; rw [hpay])
    t ((flush0_2 t).mp hf) _, zero_add, href]
  refine Fin.sum_mul_add_congr fun s k hl => ?_
  have hr := idx ⟨_, Pipeline.run_point_lt_of_flush t ((flush0_2 t).mp hf) s⟩
  blk_point [iblk, V, idx t, hr]

/-- The call and its reference end with equal results. -/
theorem algebraic : Cert.algebraic_UpIdeal_UpRefIdeal := by
  pair_intro
  · run_from Cert.UpIdeal.Gen.run_main m g
  · run_from Cert.UpRefIdeal.Value.run m' g'
    rw [Cert.UpRefIdeal.Read.val_main_v3_eq]
    exact (final m c).symm

/-- The reference runs, its arguments end unchanged and every counter ends at zero. -/
theorem frame : Cert.quiescent_UpRefIdeal := fun m ρ _ =>
  (θ_run _ _ _).mono (fun r h => ⟨fun c => (h c).2, sem_eq_zero_of_no_sems (by decide) r.2⟩)
    (Cert.UpRefIdeal.Value.run (F := Ideal) m ρ)

end Cert.Proof.GradUp

end
-- ==== Proof.GradOut.lean ====
/- The weight gradient of the output projection: the sum over all tokens, found block by block and four pieces of tokens
   at a time. -/
module

public import proofs.«01_k».proof.Defs
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import Idealize.ShloMosaic.Lib.Pointwise.Index
import Idealize.ShloMosaic.Lib.Claim
import Idealize.ShloMosaic.Lib.Pipeline.ValueKit
import Idealize.ShloMosaic.Lib.Pointwise

@[expose] public section

set_option maxRecDepth 16384

noncomputable section

namespace Cert.Proof.GradOut

open Idealize.ShloMosaic Idealize.ShloMosaic.TcCoe Idealize.SL.Sem
open Cert.OutIdeal Cert.OutIdeal.Gen

/-- The zero that a block begins with. -/
theorem hzero (j) : k0_pay1 (F := Ideal) j = 0 := by pointwise [k0_pay1]

/-- One step adds the products of 2048 tokens. -/
theorem hpay (acc : Vec Ideal S1024x1024 .f32) (x0 : Vec Ideal S2048x1024 .bf16) (x1 : Vec Ideal S2048x1024 .f32) (j) :
    k0_pay2 (F := Ideal) acc x0 x1 j = acc j + ∑ k : Fin 2048, x0 (ix2 k (j 0)) * x1 (ix2 k (j 1)) := by
  pointwise [k0_pay2]

/-- The reference is the sum over all tokens. -/
theorem href (X0 : FVec Ideal S8192x1024 .bf16) (X1 : FVec Ideal S8192x1024 .f32) (j) :
    Cert.OutRefIdeal.Read.val_main_v4 (F := Ideal) X0 X1 j = ∑ l : Fin 8192, X0 (ix2 l (j 0)) * X1 (ix2 l (j 1)) := by
  pointwise [Cert.OutRefIdeal.Read.val_main_v4, Cert.OutRefIdeal.Read.val_main_v3, Cert.OutRefIdeal.Read.val_main_v2, Cert.OutRefIdeal.Read.val_main_v1, Cert.OutRefIdeal.Read.val_main_v0]
  exact Finset.sum_congr rfl fun l _ => mul_comm _ _

/-- The index maps: the tokens follow the last coordinate of the grid, the block of the result the first two. -/
theorem idx : ∀ t : Fin cfg0.N, win0_0.index t = ![t.val % 4, 0] ∧ win0_1.index t = ![t.val % 4, 0] ∧ win0_2.index t = ![0, 0] :=
  (by decide +kernel : ∀ t : Fin grid0.N, _)

/-- The whole result. -/
theorem final (m : (ℓ : Loc nD τ sig) → Buf (Elt Ideal) ℓ) (c : Dev nD) :
    (dats m 0 c).arrAt 2 (cfgs 0).N
      = Cert.OutRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [hpay, hzero]) (fun t h j => by rw [outsAt0_B m c t h]; frame_out; rw [hpay])
    t ((flush0_2 t).mp hf) _, zero_add, href]
  refine Fin.sum_mul_add_congr fun s k hl => ?_
  have hr := idx ⟨_, Pipeline.run_point_lt_of_flush t ((flush0_2 t).mp hf) s⟩
  blk_point [iblk, V, idx t, hr]

/-- The call and its reference end with equal results. -/
theorem algebraic : Cert.algebraic_OutIdeal_OutRefIdeal := by
  pair_intro
  · run_from Cert.OutIdeal.Gen.run_main m g
  · run_from Cert.OutRefIdeal.Value.run m' g'
    rw [Cert.OutRefIdeal.Read.val_main_v4_eq]
    exact (final m c).symm

/-- The reference runs, its arguments end unchanged and every counter ends at zero. -/
theorem frame : Cert.quiescent_OutRefIdeal := fun m ρ _ =>
  (θ_run _ _ _).mono (fun r h => ⟨fun c => (h c).2, sem_eq_zero_of_no_sems (by decide) r.2⟩)
    (Cert.OutRefIdeal.Value.run (F := Ideal) m ρ)

end Cert.Proof.GradOut

end
-- ==== Proof.GradProj.lean ====
/- The weight gradient of the merge's attention projection and gated linear unit: the sum over all tokens, found block by block and four pieces of tokens
   at a time. -/
module

public import proofs.«01_k».proof.Defs
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import Idealize.ShloMosaic.Lib.Pointwise.Index
import Idealize.ShloMosaic.Lib.Claim
import Idealize.ShloMosaic.Lib.Pipeline.ValueKit
import Idealize.ShloMosaic.Lib.Pointwise

@[expose] public section

set_option maxRecDepth 16384

noncomputable section

namespace Cert.Proof.GradProj

open Idealize.ShloMosaic Idealize.ShloMosaic.TcCoe Idealize.SL.Sem
open Cert.ProjIdeal Cert.ProjIdeal.Gen

/-- The zero that a block begins with. -/
theorem hzero (j) : k0_pay1 (F := Ideal) j = 0 := by pointwise [k0_pay1]

/-- One step adds the products of 2048 tokens. -/
theorem hpay (acc : Vec Ideal S512x1024 .f32) (x0 : Vec Ideal S2048x512 .bf16) (x1 : Vec Ideal S2048x1024 .bf16) (j) :
    k0_pay2 (F := Ideal) acc x0 x1 j = acc j + ∑ k : Fin 2048, x0 (ix2 k (j 0)) * x1 (ix2 k (j 1)) := by
  pointwise [k0_pay2]

/-- The reference is the sum over all tokens. -/
theorem href (X0 : FVec Ideal S8192x512 .bf16) (X1 : FVec Ideal S8192x1024 .bf16) (j) :
    Cert.ProjRefIdeal.Read.val_main_v3 (F := Ideal) X0 X1 j = ∑ l : Fin 8192, X0 (ix2 l (j 0)) * X1 (ix2 l (j 1)) := by
  pointwise [Cert.ProjRefIdeal.Read.val_main_v3, Cert.ProjRefIdeal.Read.val_main_v2, Cert.ProjRefIdeal.Read.val_main_v1, Cert.ProjRefIdeal.Read.val_main_v0]
  exact Finset.sum_congr rfl fun l _ => mul_comm _ _

/-- The index maps: the tokens follow the last coordinate of the grid, the block of the result the first two. -/
theorem idx : ∀ t : Fin cfg0.N, win0_0.index t = ![t.val % 4, 0] ∧ win0_1.index t = ![t.val % 4, 0] ∧ win0_2.index t = ![0, 0] :=
  (by decide +kernel : ∀ t : Fin grid0.N, _)

/-- The whole result. -/
theorem final (m : (ℓ : Loc nD τ sig) → Buf (Elt Ideal) ℓ) (c : Dev nD) :
    (dats m 0 c).arrAt 2 (cfgs 0).N
      = Cert.ProjRefIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [hpay, hzero]) (fun t h j => by rw [outsAt0_B m c t h]; frame_out; rw [hpay])
    t ((flush0_2 t).mp hf) _, zero_add, href]
  refine Fin.sum_mul_add_congr fun s k hl => ?_
  have hr := idx ⟨_, Pipeline.run_point_lt_of_flush t ((flush0_2 t).mp hf) s⟩
  blk_point [iblk, V, idx t, hr]

/-- The call and its reference end with equal results. -/
theorem algebraic : Cert.algebraic_ProjIdeal_ProjRefIdeal := by
  pair_intro
  · run_from Cert.ProjIdeal.Gen.run_main m g
  · run_from Cert.ProjRefIdeal.Value.run m' g'
    rw [Cert.ProjRefIdeal.Read.val_main_v3_eq]
    exact (final m c).symm

/-- The reference runs, its arguments end unchanged and every counter ends at zero. -/
theorem frame : Cert.quiescent_ProjRefIdeal := fun m ρ _ =>
  (θ_run _ _ _).mono (fun r h => ⟨fun c => (h c).2, sem_eq_zero_of_no_sems (by decide) r.2⟩)
    (Cert.ProjRefIdeal.Value.run (F := Ideal) m ρ)

end Cert.Proof.GradProj

end
-- ==== Proof.Norm.lean ====
/- The gradient of the root-mean-square norm of one row of 1024 real numbers, in the form the kernels compute it and in the
   form the derivative of `x * rsqrt(mean(x * x) + 1e-6) * gain` has. -/
module

public import proofs.«01_k».proof.Proof.Real

@[expose] public section

noncomputable section

namespace Cert.Proof.Norm

open Idealize.ShloMosaic

/-- The mean of the squares of a row, plus the literal `1e-6`. -/
def msq (x : Fin 1024 → EReal) : EReal :=
  Ideal.div (∑ k, x k * x k) (Ideal.ofBits FTy.f32 1149239296#32) + Ideal.ofBits FTy.f32 897988541#32

/-- The factor of the norm. -/
def rs (x : Fin 1024 → EReal) : EReal := Ideal.rsqrt (msq x)

/-- The literal 1024. -/
theorem lit_1024 : Ideal.ofBits FTy.f32 1149239296#32 = ((1024 : ℝ) : EReal) := by
  simp [Ideal.ofBits, Ideal.ieee, -EReal.coe_mul]; norm_num

/-- The literal 1 / 1024. -/
theorem lit_inv1024 : Ideal.ofBits FTy.f32 981467136#32 = ((1 / 1024 : ℝ) : EReal) := by
  simp [Ideal.ofBits, Ideal.ieee, -EReal.coe_mul]; norm_num

/-- The literal minus one half. -/
theorem lit_neg_half : Ideal.ofBits FTy.f32 3204448256#32 = ((-(1 / 2) : ℝ) : EReal) := by
  simp [Ideal.ofBits, Ideal.ieee, -EReal.coe_mul]; norm_num

/-- The literal that stands for `1e-6`. -/
theorem lit_eps : Ideal.ofBits FTy.f32 897988541#32 = ((8796093 / 8796093022208 : ℝ) : EReal) := by
  simp [Ideal.ofBits, Ideal.ieee, -EReal.coe_mul]; norm_num

/-- The mean of the squares over the real numbers. -/
def q (a : Fin 1024 → ℝ) : ℝ := (∑ k, a k * a k) / 1024 + 8796093 / 8796093022208

theorem q_pos (a : Fin 1024 → ℝ) : 0 < q a := by
  have h : 0 ≤ ∑ k, a k * a k := Finset.sum_nonneg fun k _ => mul_self_nonneg _
  unfold q; positivity

theorem msq_coe (a : Fin 1024 → ℝ) : msq (fun k => ((a k : ℝ) : EReal)) = ((q a : ℝ) : EReal) := by
  simp only [msq, lit_1024, lit_eps, ← EReal.coe_mul]
  rw [coe_sum, coe_div _ (by norm_num), ← EReal.coe_add, q]

theorem rs_coe (a : Fin 1024 → ℝ) : rs (fun k => ((a k : ℝ) : EReal)) = (((Real.sqrt (q a))⁻¹ : ℝ) : EReal) := by
  rw [rs, msq_coe, Ideal.rsqrt_coe, if_neg (q_pos a).not_gt, if_neg (q_pos a).ne']

/-- The two forms of the gradient by the row agree, over the real numbers. -/
theorem dx_real (a g d : Fin 1024 → ℝ) (e : ℝ) (j : Fin 1024) (s : ℝ) (hs : s = (Real.sqrt (q a))⁻¹) (T : ℝ) :
    e + s * (d j * g j) - a j * (s * s * s * (1 / 1024) * T)
      = e + (d j * g j * s + a j * (T * (-(1 / 2) * (s / q a)) / 1024) + T * (-(1 / 2) * (s / q a)) / 1024 * a j) := by
  have h : s / q a = s * s * s := by
    have h2 : s * s = (q a)⁻¹ := by
      rw [hs, ← mul_inv, Real.mul_self_sqrt (q_pos a).le]
    rw [mul_assoc, h2, div_eq_mul_inv]
  rw [h]; ring

/-- The two forms of the gradient by a row of real numbers agree. -/
theorem dx (x g d : Fin 1024 → EReal) (e : EReal) (hx : ∀ k, ((EReal.toReal (x k) : ℝ) : EReal) = x k)
    (hg : ∀ k, ((EReal.toReal (g k) : ℝ) : EReal) = g k) (hd : ∀ k, ((EReal.toReal (d k) : ℝ) : EReal) = d k)
    (he : ((EReal.toReal e : ℝ) : EReal) = e) (j : Fin 1024) :
    e + rs x * (d j * g j)
        - x j * (rs x * rs x * rs x * Ideal.ofBits FTy.f32 981467136#32 * ∑ k, x k * (d k * g k))
      = e + (d j * g j * rs x
          + x j * (∑ _ : Fin 1, Ideal.div ((∑ k, x k * (d k * g k)) * (Ideal.ofBits FTy.f32 3204448256#32 * Ideal.div (rs x) (msq x)))
              (Ideal.ofBits FTy.f32 1149239296#32))
          + (∑ _ : Fin 1, Ideal.div ((∑ k, x k * (d k * g k)) * (Ideal.ofBits FTy.f32 3204448256#32 * Ideal.div (rs x) (msq x)))
              (Ideal.ofBits FTy.f32 1149239296#32)) * x j) := by
  obtain ⟨a, rfl⟩ : ∃ a : Fin 1024 → ℝ, x = fun k => ((a k : ℝ) : EReal) := ⟨fun k => (x k).toReal, funext fun k => (hx k).symm⟩
  obtain ⟨b, rfl⟩ : ∃ a : Fin 1024 → ℝ, g = fun k => ((a k : ℝ) : EReal) := ⟨fun k => (g k).toReal, funext fun k => (hg k).symm⟩
  obtain ⟨c, rfl⟩ : ∃ a : Fin 1024 → ℝ, d = fun k => ((a k : ℝ) : EReal) := ⟨fun k => (d k).toReal, funext fun k => (hd k).symm⟩
  rw [← he]
  generalize e.toReal = e
  simp only [rs_coe, msq_coe, lit_1024, lit_inv1024, lit_neg_half, ← EReal.coe_mul, coe_sum, Fin.sum_univ_one]
  rw [coe_div _ (q_pos a).ne', ← EReal.coe_mul, ← EReal.coe_mul, coe_div _ (by norm_num)]
  simp only [← EReal.coe_mul, ← EReal.coe_add, ← EReal.coe_sub]
  exact congrArg _ (dx_real a b c e j _ rfl _)

/-- A sum of products of real numbers is real. -/
theorem real_sum {n : ℕ} (f g : Fin n → EReal) (hf : ∀ k, ((EReal.toReal (f k) : ℝ) : EReal) = f k)
    (hg : ∀ k, ((EReal.toReal (g k) : ℝ) : EReal) = g k) :
    ((EReal.toReal (∑ k, f k * g k) : ℝ) : EReal) = ∑ k, f k * g k := by
  have h : ∑ k, f k * g k = ((∑ k, (f k).toReal * (g k).toReal : ℝ) : EReal) := by
    rw [← coe_sum]; exact Finset.sum_congr rfl fun k _ => by rw [EReal.coe_mul, hf, hg]
  rw [h, EReal.toReal_coe]

end Cert.Proof.Norm

end
-- ==== Proof.InBwdBody.lean ====
/- What one grid point of the input projection's backward call computes, entry by entry, and the reference's gradient by the
   normed rows: both are the sum over the fourteen pieces of 512 columns. -/
module

public import proofs.«01_k».proof.Proof.Norm
public import proofs.«01_k».proof.Proof.Gen.InBwdIdeal.Skeleton
public import proofs.«01_k».proof.Proof.Gen.InBwdRefIdeal.Read
public import Idealize.ShloMosaic.Lib.Pointwise.Index
import Idealize.ShloMosaic.Lib.Pipeline.ValueKit
import Idealize.ShloMosaic.Lib.Pointwise

@[expose] public section

set_option maxRecDepth 16384

noncomputable section

namespace Cert.Proof.InBwdBody

open Idealize.ShloMosaic Idealize.ShloMosaic.TcCoe Idealize.SL.Sem
open Cert.InBwdIdeal Cert.InBwdIdeal.Gen

/-- A sum over `512 + m` is the sum over the first 512 and the sum over the rest. -/
theorem peel {m N : ℕ} (h : N = 512 + m) (f : Fin N → EReal) :
    ∑ x, f x = ∑ k : Fin 512, f ⟨k.val, by omega⟩ + ∑ k : Fin m, f ⟨512 + k.val, by omega⟩ := by
  subst h; exact Fin.sum_univ_add f

theorem not_lt_512 (k : ℕ) : ¬512 + k < 512 := by omega

/-- The sum over four pieces side by side. -/
theorem four (a b c d : Fin 512 → EReal) (w : Fin 2048 → EReal) :
    ∑ x : Fin 2048, (if h : x.val < 512 then a ⟨x.val, h⟩
      else if h : x.val - 512 < 512 then b ⟨x.val - 512, h⟩
      else if h : x.val - 512 - 512 < 512 then c ⟨x.val - 512 - 512, h⟩
      else d ⟨x.val - 512 - 512 - 512, by omega⟩) * w x
    = ∑ k : Fin 512, a k * w ⟨k.val, by omega⟩ + (∑ k : Fin 512, b k * w ⟨512 + k.val, by omega⟩
      + (∑ k : Fin 512, c k * w ⟨1024 + k.val, by omega⟩ + ∑ k : Fin 512, d k * w ⟨1536 + k.val, by omega⟩)) := by
  rw [peel (m := 1536) rfl, peel (m := 1024) rfl, peel (m := 512) rfl]
  simp only [Fin.is_lt, dite_true, not_lt_512, dite_false, Nat.add_sub_cancel_left, Fin.eta]
  simp only [← Nat.add_assoc, Nat.reduceAdd]

/-- The gradient by the normed rows, from the blocks that a grid point reads. -/
theorem dh (v3 v4 v5 v6 : Vec Ideal S512x512 .bf16) (v8 : Vec Ideal S1024x2048 .bf16) (v10 v11 : Vec Ideal S512x512 .bf16)
    (v12 v14 : Vec Ideal S512x512 .f32) (v17 : Vec Ideal S1024x2048 .bf16) (v20 : Vec Ideal S512x512 .f32)
    (v22 v23 v24 : Vec Ideal S512x512 .bf16) (v26 : Vec Ideal S1024x2048 .bf16) (v29 v30 : Vec Ideal S512x512 .bf16)
    (v32 : Vec Ideal S1024x1024 .bf16) (j) :
    k0_pay5 (F := Ideal) (k0_pay3 v3 v4 v5 v6 v8 v10 v11 v12 v14 v17) (k0_pay4 v20 v22 v23 v24) v26 v29 v30 v32 j
      = ∑ k : Fin 512, v3 (ix2 (j 0) k) * v8 (ix2 (j 1) ⟨k.val, by omega⟩)
      + (∑ k : Fin 512, v4 (ix2 (j 0) k) * v8 (ix2 (j 1) ⟨512 + k.val, by omega⟩)
      + (∑ k : Fin 512, v5 (ix2 (j 0) k) * v8 (ix2 (j 1) ⟨1024 + k.val, by omega⟩)
      + (∑ k : Fin 512, v6 (ix2 (j 0) k) * v8 (ix2 (j 1) ⟨1536 + k.val, by omega⟩)
      + (∑ k : Fin 512, v10 (ix2 (j 0) k) * v17 (ix2 (j 1) ⟨k.val, by omega⟩)
      + (∑ k : Fin 512, v11 (ix2 (j 0) k) * v17 (ix2 (j 1) ⟨512 + k.val, by omega⟩)
      + (∑ k : Fin 512, v12 (ix2 (j 0) k) * v17 (ix2 (j 1) ⟨1024 + k.val, by omega⟩)
      + (∑ k : Fin 512, v14 (ix2 (j 0) k) * v17 (ix2 (j 1) ⟨1536 + k.val, by omega⟩)
      + (∑ k : Fin 512, v20 (ix2 (j 0) k) * v26 (ix2 (j 1) ⟨k.val, by omega⟩)
      + (∑ k : Fin 512, v22 (ix2 (j 0) k) * v26 (ix2 (j 1) ⟨512 + k.val, by omega⟩)
      + (∑ k : Fin 512, v23 (ix2 (j 0) k) * v26 (ix2 (j 1) ⟨1024 + k.val, by omega⟩)
      + (∑ k : Fin 512, v24 (ix2 (j 0) k) * v26 (ix2 (j 1) ⟨1536 + k.val, by omega⟩)
      + (∑ k : Fin 512, v29 (ix2 (j 0) k) * v32 (ix2 (j 1) ⟨k.val, by omega⟩)
      + ∑ k : Fin 512, v30 (ix2 (j 0) k) * v32 (ix2 (j 1) ⟨512 + k.val, by omega⟩))))))))))))) := by
  pointwise [k0_pay5, k0_pay4, k0_pay3]
  rw [four (fun k => v3 (ix2 (j 0) k)) (fun k => v4 (ix2 (j 0) k)) (fun k => v5 (ix2 (j 0) k)) (fun k => v6 (ix2 (j 0) k)) (fun k => v8 (ix2 (j 1) k)),
    four (fun k => v10 (ix2 (j 0) k)) (fun k => v11 (ix2 (j 0) k)) (fun k => v12 (ix2 (j 0) k)) (fun k => v14 (ix2 (j 0) k)) (fun k => v17 (ix2 (j 1) k)),
    four (fun k => v20 (ix2 (j 0) k)) (fun k => v22 (ix2 (j 0) k)) (fun k => v23 (ix2 (j 0) k)) (fun k => v24 (ix2 (j 0) k)) (fun k => v26 (ix2 (j 1) k))]
  simp only [add_assoc]

/-- The factor of the norm. -/
theorem rrow (x : Vec Ideal S512x1024 .f32) (j) : k0_pay6 (F := Ideal) x j = Norm.rs fun k => x (ix2 (j 0) k) := by
  pointwise [k0_pay6]
  rfl

set_option maxHeartbeats 4000000 in
/-- The sum over all twelve pieces side by side, the two wide ones in halves. -/
theorem twelve (a0 a1 a2 a3 a4 a5 a6 a7 a8 a9 : Fin 512 → EReal) (a10 a11 : Fin 1024 → EReal) (w : Fin 7168 → EReal) :
    ∑ x : Fin 7168, (if h : x.val < 512 then a0 ⟨x.val, h⟩ else if h : x.val - 512 < 512 then a1 ⟨x.val - 512, h⟩ else if h : x.val - 512 - 512 < 512 then a2 ⟨x.val - 512 - 512, h⟩ else if h : x.val - 512 - 512 - 512 < 512 then a3 ⟨x.val - 512 - 512 - 512, h⟩ else if h : x.val - 512 - 512 - 512 - 512 < 512 then a4 ⟨x.val - 512 - 512 - 512 - 512, h⟩ else if h : x.val - 512 - 512 - 512 - 512 - 512 < 512 then a5 ⟨x.val - 512 - 512 - 512 - 512 - 512, h⟩ else if h : x.val - 512 - 512 - 512 - 512 - 512 - 512 < 512 then a6 ⟨x.val - 512 - 512 - 512 - 512 - 512 - 512, h⟩ else if h : x.val - 512 - 512 - 512 - 512 - 512 - 512 - 512 < 512 then a7 ⟨x.val - 512 - 512 - 512 - 512 - 512 - 512 - 512, h⟩ else if h : x.val - 512 - 512 - 512 - 512 - 512 - 512 - 512 - 512 < 512 then a8 ⟨x.val - 512 - 512 - 512 - 512 - 512 - 512 - 512 - 512, h⟩ else if h : x.val - 512 - 512 - 512 - 512 - 512 - 512 - 512 - 512 - 512 < 512 then a9 ⟨x.val - 512 - 512 - 512 - 512 - 512 - 512 - 512 - 512 - 512, h⟩ else if h : x.val - 512 - 512 - 512 - 512 - 512 - 512 - 512 - 512 - 512 - 512 < 1024 then a10 ⟨x.val - 512 - 512 - 512 - 512 - 512 - 512 - 512 - 512 - 512 - 512, h⟩ else a11 ⟨x.val - 512 - 512 - 512 - 512 - 512 - 512 - 512 - 512 - 512 - 512 - 1024, by omega⟩) * w x
    = ∑ k : Fin 512, a0 k * w ⟨k.val, by omega⟩
      + (∑ k : Fin 512, a1 k * w ⟨512 + k.val, by omega⟩
      + (∑ k : Fin 512, a2 k * w ⟨1024 + k.val, by omega⟩
      + (∑ k : Fin 512, a3 k * w ⟨1536 + k.val, by omega⟩
      + (∑ k : Fin 512, a4 k * w ⟨2048 + k.val, by omega⟩
      + (∑ k : Fin 512, a5 k * w ⟨2560 + k.val, by omega⟩
      + (∑ k : Fin 512, a6 k * w ⟨3072 + k.val, by omega⟩
      + (∑ k : Fin 512, a7 k * w ⟨3584 + k.val, by omega⟩
      + (∑ k : Fin 512, a8 k * w ⟨4096 + k.val, by omega⟩
      + (∑ k : Fin 512, a9 k * w ⟨4608 + k.val, by omega⟩
      + (∑ k : Fin 512, a10 ⟨k.val, by omega⟩ * w ⟨5120 + k.val, by omega⟩
      + (∑ k : Fin 512, a10 ⟨512 + k.val, by omega⟩ * w ⟨5632 + k.val, by omega⟩
      + (∑ k : Fin 512, a11 ⟨k.val, by omega⟩ * w ⟨6144 + k.val, by omega⟩
      + (∑ k : Fin 512, a11 ⟨512 + k.val, by omega⟩ * w ⟨6656 + k.val, by omega⟩))))))))))))) := by
  rw [peel (m := 6656) rfl, peel (m := 6144) rfl, peel (m := 5632) rfl, peel (m := 5120) rfl, peel (m := 4608) rfl, peel (m := 4096) rfl, peel (m := 3584) rfl, peel (m := 3072) rfl, peel (m := 2560) rfl, peel (m := 2048) rfl, peel (m := 1536) rfl, peel (m := 1024) rfl, peel (m := 512) rfl]
  simp only [Fin.is_lt, dite_true, not_lt_512, dite_false, Nat.add_sub_cancel_left, Fin.eta,
    show ∀ k : Fin 512, k.val < 1024 from fun k => by omega, show ∀ k : Fin 512, 512 + k.val < 1024 from fun k => by omega,
    show ∀ k : ℕ, ¬512 + (512 + k) < 1024 from fun k => by omega, show ∀ k : ℕ, 512 + (512 + k) - 1024 = k from fun k => by omega]
  simp only [← Nat.add_assoc, Nat.reduceAdd]

section
open Cert.InBwdRefIdeal.Read
variable (x0 x1 x2 x3 x4 x5 : FVec Ideal S8192x512 .bf16) (x6 x7 x8 : FVec Ideal S8192x512 .f32) (x9 : FVec Ideal S8192x512 .bf16)
  (x10 x11 : FVec Ideal S8192x1024 .bf16) (x12 : FVec Ideal S1024x7168 .bf16)

set_option maxHeartbeats 4000000 in
/-- The pieces side by side. -/
theorem pieces (l : Fin 8192) (k : Fin 7168) : val_main_v9 (F := Ideal) x0 x1 x2 x3 x4 x5 x6 x7 x8 x9 x10 x11 (ix2 l k)
    = if h : k.val < 512 then x0 (ix2 l ⟨k.val, h⟩) else if h : k.val - 512 < 512 then x1 (ix2 l ⟨k.val - 512, h⟩) else if h : k.val - 512 - 512 < 512 then x2 (ix2 l ⟨k.val - 512 - 512, h⟩) else if h : k.val - 512 - 512 - 512 < 512 then x3 (ix2 l ⟨k.val - 512 - 512 - 512, h⟩) else if h : k.val - 512 - 512 - 512 - 512 < 512 then x4 (ix2 l ⟨k.val - 512 - 512 - 512 - 512, h⟩) else if h : k.val - 512 - 512 - 512 - 512 - 512 < 512 then x5 (ix2 l ⟨k.val - 512 - 512 - 512 - 512 - 512, h⟩) else if h : k.val - 512 - 512 - 512 - 512 - 512 - 512 < 512 then x6 (ix2 l ⟨k.val - 512 - 512 - 512 - 512 - 512 - 512, h⟩) else if h : k.val - 512 - 512 - 512 - 512 - 512 - 512 - 512 < 512 then x7 (ix2 l ⟨k.val - 512 - 512 - 512 - 512 - 512 - 512 - 512, h⟩) else if h : k.val - 512 - 512 - 512 - 512 - 512 - 512 - 512 - 512 < 512 then x8 (ix2 l ⟨k.val - 512 - 512 - 512 - 512 - 512 - 512 - 512 - 512, h⟩) else if h : k.val - 512 - 512 - 512 - 512 - 512 - 512 - 512 - 512 - 512 < 512 then x9 (ix2 l ⟨k.val - 512 - 512 - 512 - 512 - 512 - 512 - 512 - 512 - 512, h⟩) else if h : k.val - 512 - 512 - 512 - 512 - 512 - 512 - 512 - 512 - 512 - 512 < 1024 then x10 (ix2 l ⟨k.val - 512 - 512 - 512 - 512 - 512 - 512 - 512 - 512 - 512 - 512, h⟩) else x11 (ix2 l ⟨k.val - 512 - 512 - 512 - 512 - 512 - 512 - 512 - 512 - 512 - 512 - 1024, by omega⟩) := by
  pointwise [val_main_v9, val_main_v0, val_main_v1, val_main_v2, val_main_v3, val_main_v4, val_main_v5, val_main_v6, val_main_v7, val_main_v8]

/-- The reference's gradient by the normed rows is one product. -/
theorem dot (j) : val_main_v27 (F := Ideal) x0 x1 x2 x3 x4 x5 x6 x7 x8 x9 x10 x11 x12 j
    = ∑ k : Fin 7168, val_main_v9 (F := Ideal) x0 x1 x2 x3 x4 x5 x6 x7 x8 x9 x10 x11 (ix2 (j 0) k) * x12 (ix2 (j 1) k) := by
  pointwise [val_main_v27, val_main_v10]

/-- The reference's gradient by the normed rows, piece by piece. -/
theorem href (j) : val_main_v27 (F := Ideal) x0 x1 x2 x3 x4 x5 x6 x7 x8 x9 x10 x11 x12 j
    = ∑ k : Fin 512, x0 (ix2 (j 0) k) * x12 (ix2 (j 1) ⟨k.val, by omega⟩)
      + (∑ k : Fin 512, x1 (ix2 (j 0) k) * x12 (ix2 (j 1) ⟨512 + k.val, by omega⟩)
      + (∑ k : Fin 512, x2 (ix2 (j 0) k) * x12 (ix2 (j 1) ⟨1024 + k.val, by omega⟩)
      + (∑ k : Fin 512, x3 (ix2 (j 0) k) * x12 (ix2 (j 1) ⟨1536 + k.val, by omega⟩)
      + (∑ k : Fin 512, x4 (ix2 (j 0) k) * x12 (ix2 (j 1) ⟨2048 + k.val, by omega⟩)
      + (∑ k : Fin 512, x5 (ix2 (j 0) k) * x12 (ix2 (j 1) ⟨2560 + k.val, by omega⟩)
      + (∑ k : Fin 512, x6 (ix2 (j 0) k) * x12 (ix2 (j 1) ⟨3072 + k.val, by omega⟩)
      + (∑ k : Fin 512, x7 (ix2 (j 0) k) * x12 (ix2 (j 1) ⟨3584 + k.val, by omega⟩)
      + (∑ k : Fin 512, x8 (ix2 (j 0) k) * x12 (ix2 (j 1) ⟨4096 + k.val, by omega⟩)
      + (∑ k : Fin 512, x9 (ix2 (j 0) k) * x12 (ix2 (j 1) ⟨4608 + k.val, by omega⟩)
      + (∑ k : Fin 512, x10 (ix2 (j 0) ⟨k.val, by omega⟩) * x12 (ix2 (j 1) ⟨5120 + k.val, by omega⟩)
      + (∑ k : Fin 512, x10 (ix2 (j 0) ⟨512 + k.val, by omega⟩) * x12 (ix2 (j 1) ⟨5632 + k.val, by omega⟩)
      + (∑ k : Fin 512, x11 (ix2 (j 0) ⟨k.val, by omega⟩) * x12 (ix2 (j 1) ⟨6144 + k.val, by omega⟩)
      + (∑ k : Fin 512, x11 (ix2 (j 0) ⟨512 + k.val, by omega⟩) * x12 (ix2 (j 1) ⟨6656 + k.val, by omega⟩)))))))))))))) := by
  rw [dot]
  exact (Finset.sum_congr rfl fun k _ => congrArg (· * x12 (ix2 (j 1) k)) (pieces x0 x1 x2 x3 x4 x5 x6 x7 x8 x9 x10 x11 (j 0) k)).trans
    (twelve (fun k => x0 (ix2 (j 0) k)) (fun k => x1 (ix2 (j 0) k)) (fun k => x2 (ix2 (j 0) k)) (fun k => x3 (ix2 (j 0) k)) (fun k => x4 (ix2 (j 0) k)) (fun k => x5 (ix2 (j 0) k)) (fun k => x6 (ix2 (j 0) k)) (fun k => x7 (ix2 (j 0) k)) (fun k => x8 (ix2 (j 0) k)) (fun k => x9 (ix2 (j 0) k)) (fun k => x10 (ix2 (j 0) k)) (fun k => x11 (ix2 (j 0) k)) fun k => x12 (ix2 (j 1) k))
end

section
variable (v19 : Vec Ideal S512x1024 .f32) (v25 : Vec Ideal S512x2048 .bf16) (v26 : Vec Ideal S1024x2048 .bf16) (v29 v30 : Vec Ideal S512x512 .bf16)
  (v32 : Vec Ideal S1024x1024 .bf16) (x : Vec Ideal S512x1024 .f32) (g : Vec Ideal S1x1024 .f32) (e : Vec Ideal S512x1024 .f32)

/-- The rows' gradient of a block. -/
theorem pay7 (i : Fin 512) (j : Fin 1024) : k0_pay7 (F := Ideal) v19 v25 v26 v29 v30 v32 x g e (ix2 i j)
    = e (ix2 i j) + Norm.rs (fun k => x (ix2 i k)) * (k0_pay5 (F := Ideal) v19 v25 v26 v29 v30 v32 (ix2 i j) * g (ix2 0 j))
      - x (ix2 i j) * (Norm.rs (fun k => x (ix2 i k)) * Norm.rs (fun k => x (ix2 i k)) * Norm.rs (fun k => x (ix2 i k))
        * Ideal.ofBits FTy.f32 981467136#32
        * ∑ k, x (ix2 i k) * (k0_pay5 (F := Ideal) v19 v25 v26 v29 v30 v32 (ix2 i k) * g (ix2 0 k))) := by
  pointwise [k0_pay7]
  simp only [rrow]
  rfl

/-- The gain's gradient of a block, added to what is there. -/
theorem pay8 (acc : Vec Ideal S1x1024 .f32) (j) : k0_pay1 (F := Ideal) (k0_pay8 v19 v25 v26 v29 v30 v32 x) acc j
    = acc j + ∑ p : Fin 512, k0_pay5 (F := Ideal) v19 v25 v26 v29 v30 v32 (ix2 p (j 1)) * x (ix2 p (j 1)) * Norm.rs (fun k => x (ix2 p k)) := by
  pointwise [k0_pay1, k0_pay8]
  simp only [rrow]
  rfl

/-- The zero that the gain's gradient begins with. -/
theorem pay2 (j) : k0_pay2 (F := Ideal) j = 0 := by pointwise [k0_pay2]
end

end Cert.Proof.InBwdBody

end
-- ==== Proof.InBwdRef.lean ====
/- What the reference of the input projection's backward call computes, for real arguments: the gradient of the rows in the form
   that the kernel uses, and the gradient of the gain. -/
module

public import proofs.«01_k».proof.Proof.InBwdBody
public import proofs.«01_k».proof.Proof.MixRows
import Idealize.ShloMosaic.Lib.Pipeline.ValueKit
import Idealize.ShloMosaic.Lib.Pointwise

@[expose] public section

set_option maxRecDepth 16384

noncomputable section

namespace Cert.Proof.InBwdRef

open Idealize.ShloMosaic Idealize.ShloMosaic.TcCoe Idealize.SL.Sem
open Cert.InBwdRefIdeal Cert.InBwdRefIdeal.Gen Cert.InBwdRefIdeal.Read

variable {x0 x1 x2 x3 x4 x5 : FVec Ideal S8192x512 .bf16} {x6 x7 x8 : FVec Ideal S8192x512 .f32} {x9 : FVec Ideal S8192x512 .bf16}
  {x10 x11 : FVec Ideal S8192x1024 .bf16} {x12 : FVec Ideal S1024x7168 .bf16} {x13 : FVec Ideal S8192x1024 .f32} {x14 : FVec Ideal S1x1024 .f32}
  {x15 : FVec Ideal S8192x1024 .f32}

/-- A choice between real numbers is real. -/
theorem dite_real {p : Prop} [Decidable p] {a : p → EReal} {b : ¬p → EReal} (ha : ∀ h, ((EReal.toReal (a h) : ℝ) : EReal) = a h)
    (hb : ∀ h, ((EReal.toReal (b h) : ℝ) : EReal) = b h) : ((EReal.toReal (dite p a b) : ℝ) : EReal) = dite p a b := by
  by_cases h : p
  · rw [dif_pos h]; exact ha h
  · rw [dif_neg h]; exact hb h

/-- The gradient by the normed rows is real. -/
theorem real (h0 : IsReal x0) (h1 : IsReal x1) (h2 : IsReal x2) (h3 : IsReal x3) (h4 : IsReal x4) (h5 : IsReal x5) (h6 : IsReal x6) (h7 : IsReal x7) (h8 : IsReal x8) (h9 : IsReal x9) (h10 : IsReal x10) (h11 : IsReal x11) (h12 : IsReal x12) (j) :
    ((EReal.toReal (val_main_v27 (F := Ideal) x0 x1 x2 x3 x4 x5 x6 x7 x8 x9 x10 x11 x12 j) : ℝ) : EReal) = val_main_v27 (F := Ideal) x0 x1 x2 x3 x4 x5 x6 x7 x8 x9 x10 x11 x12 j := by
  rw [InBwdBody.dot]
  refine Norm.real_sum _ _ (fun k => ?_) fun k => h12 _
  have e := InBwdBody.pieces x0 x1 x2 x3 x4 x5 x6 x7 x8 x9 x10 x11 (j 0) k
  exact e ▸ dite_real (fun _ => h0 _) (fun _ => dite_real (fun _ => h1 _) (fun _ => dite_real (fun _ => h2 _) (fun _ => dite_real (fun _ => h3 _) (fun _ => dite_real (fun _ => h4 _) (fun _ => dite_real (fun _ => h5 _) (fun _ => dite_real (fun _ => h6 _) (fun _ => dite_real (fun _ => h7 _) (fun _ => dite_real (fun _ => h8 _) (fun _ => dite_real (fun _ => h9 _) (fun _ => dite_real (fun _ => h10 _) (fun _ => h11 _)))))))))))

/-- The gradient of the rows, in the kernel's form. -/
theorem dx (h0 : IsReal x0) (h1 : IsReal x1) (h2 : IsReal x2) (h3 : IsReal x3) (h4 : IsReal x4) (h5 : IsReal x5) (h6 : IsReal x6) (h7 : IsReal x7) (h8 : IsReal x8) (h9 : IsReal x9) (h10 : IsReal x10) (h11 : IsReal x11) (h12 : IsReal x12) (h13 : IsReal x13) (h14 : IsReal x14) (h15 : IsReal x15) (i : Fin 8192) (j : Fin 1024) :
    val_main_v47 (F := Ideal) x0 x1 x2 x3 x4 x5 x6 x7 x8 x9 x10 x11 x12 x13 x14 x15 (ix2 i j)
      = x15 (ix2 i j) + Norm.rs (fun k => x13 (ix2 i k)) * (val_main_v27 (F := Ideal) x0 x1 x2 x3 x4 x5 x6 x7 x8 x9 x10 x11 x12 (ix2 i j) * x14 (ix2 0 j))
        - x13 (ix2 i j) * (Norm.rs (fun k => x13 (ix2 i k)) * Norm.rs (fun k => x13 (ix2 i k)) * Norm.rs (fun k => x13 (ix2 i k))
          * Ideal.ofBits FTy.f32 981467136#32
          * ∑ k, x13 (ix2 i k) * (val_main_v27 (F := Ideal) x0 x1 x2 x3 x4 x5 x6 x7 x8 x9 x10 x11 x12 (ix2 i k) * x14 (ix2 0 k))) := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v21, val_main_v20, val_main_v19, val_main_v18, val_main_v17, val_main_v16, val_main_v15, val_main_v14, val_main_v13, val_main_v12, val_main_v11, val_main_cst, val_main_cst_0, val_main_cst_1, val_main_cst_2, val_main_cst_4, val_main_cst_5, val_main_cst_6]
  exact (Norm.dx (fun k => x13 (ix2 i k)) (fun k => x14 (ix2 0 k)) (fun k => val_main_v27 (F := Ideal) x0 x1 x2 x3 x4 x5 x6 x7 x8 x9 x10 x11 x12 (ix2 i k)) (x15 (ix2 i j))
    (fun _ => h13 _) (fun _ => h14 _) (fun _ => real h0 h1 h2 h3 h4 h5 h6 h7 h8 h9 h10 h11 h12 _) (h15 _) j).symm

/-- The gradient of the gain. -/
theorem dg (j) : val_main_v30 (F := Ideal) x0 x1 x2 x3 x4 x5 x6 x7 x8 x9 x10 x11 x12 x13 j
    = ∑ l : Fin 8192, val_main_v27 (F := Ideal) x0 x1 x2 x3 x4 x5 x6 x7 x8 x9 x10 x11 x12 (ix2 l (j 1)) * x13 (ix2 l (j 1)) * Norm.rs (fun k => x13 (ix2 l k)) := by
  pointwise [val_main_v30, val_main_v29, val_main_v28, val_main_v23, val_main_v22, val_main_v18, val_main_v17, val_main_v16, val_main_v15, val_main_v14, val_main_v13, val_main_v12, val_main_v11, val_main_cst, val_main_cst_0, val_main_cst_1, val_main_cst_3]
  refine Finset.sum_congr rfl fun l _ => ?_
  rw [mul_comm, mul_assoc]
  rfl

end Cert.Proof.InBwdRef

end
-- ==== Proof.InBwdPre.lean ====
/- What the precondition gives: every argument of the input projection's backward call is real. -/
module

public import proofs.«01_k».proof.Defs
public import proofs.«01_k».proof.Proof.MixPre
import Idealize.ShloMosaic.Lib.Pipeline.ValueKit
import Idealize.ShloMosaic.Lib.Pointwise

@[expose] public section

set_option maxRecDepth 16384

noncomputable section

namespace Cert.Proof.InBwdPre

open Idealize.ShloMosaic Idealize.ShloMosaic.TcCoe Idealize.SL.Sem
open Cert.Pre_in_proj_bwd_finite

/-- Every argument is real. -/
theorem real [Facts] (x0 x1 x2 x3 x4 x5 : FVec Ideal S8192x512 .bf16) (x6 x7 x8 : FVec Ideal S8192x512 .f32) (x9 : FVec Ideal S8192x512 .bf16)
    (x10 x11 : FVec Ideal S8192x1024 .bf16) (x12 : FVec Ideal S1024x7168 .bf16) (x13 : FVec Ideal S8192x1024 .f32) (x14 : FVec Ideal S1x1024 .f32)
    (x15 : FVec Ideal S8192x1024 .f32)
    (h : fn (F := Ideal) x0 x1 x2 x3 x4 x5 x6 x7 x8 x9 x10 x11 x12 x13 x14 x15 = fun _ => 1#1) :
    IsReal x0 ∧ IsReal x1 ∧ IsReal x2 ∧ IsReal x3 ∧ IsReal x4 ∧ IsReal x5 ∧ IsReal x6 ∧ IsReal x7 ∧ IsReal x8 ∧ IsReal x9 ∧ IsReal x10 ∧ IsReal x11 ∧ IsReal x12 ∧ IsReal x13 ∧ IsReal x14 ∧ IsReal x15 := by
  have q0 := congrFun h (fun a => a.elim0)
  simp only [fn, fn_part1, fn_part2, fn_part3, fn_part4, fn_part5] at q0
  obtain ⟨q0, q15⟩ := MixPre.split _ _ _ q0
  obtain ⟨q0, q14⟩ := MixPre.split _ _ _ q0
  obtain ⟨q0, q13⟩ := MixPre.split _ _ _ q0
  obtain ⟨q0, q12⟩ := MixPre.split _ _ _ q0
  obtain ⟨q0, q11⟩ := MixPre.split _ _ _ q0
  obtain ⟨q0, q10⟩ := MixPre.split _ _ _ q0
  obtain ⟨q0, q9⟩ := MixPre.split _ _ _ q0
  obtain ⟨q0, q8⟩ := MixPre.split _ _ _ q0
  obtain ⟨q0, q7⟩ := MixPre.split _ _ _ q0
  obtain ⟨q0, q6⟩ := MixPre.split _ _ _ q0
  obtain ⟨q0, q5⟩ := MixPre.split _ _ _ q0
  obtain ⟨q0, q4⟩ := MixPre.split _ _ _ q0
  obtain ⟨q0, q3⟩ := MixPre.split _ _ _ q0
  obtain ⟨q0, q2⟩ := MixPre.split _ _ _ q0
  obtain ⟨q0, q1⟩ := MixPre.split _ _ _ q0
  exact ⟨real_of_all (s := S8192x512) x0 _ _ _ _ _ rfl (fun _ => lit_top) q0,
    real_of_all (s := S8192x512) x1 _ _ _ _ _ rfl (fun _ => lit_top) q1,
    real_of_all (s := S8192x512) x2 _ _ _ _ _ rfl (fun _ => lit_top) q2,
    real_of_all (s := S8192x512) x3 _ _ _ _ _ rfl (fun _ => lit_top) q3,
    real_of_all (s := S8192x512) x4 _ _ _ _ _ rfl (fun _ => lit_top) q4,
    real_of_all (s := S8192x512) x5 _ _ _ _ _ rfl (fun _ => lit_top) q5,
    real_of_all _ _ _ _ _ _ rfl (fun _ => lit_top) q6,
    real_of_all _ _ _ _ _ _ rfl (fun _ => lit_top) q7,
    real_of_all _ _ _ _ _ _ rfl (fun _ => lit_top) q8,
    real_of_all (s := S8192x512) x9 _ _ _ _ _ rfl (fun _ => lit_top) q9,
    real_of_all (s := S8192x1024) x10 _ _ _ _ _ rfl (fun _ => lit_top) q10,
    real_of_all (s := S8192x1024) x11 _ _ _ _ _ rfl (fun _ => lit_top) q11,
    real_of_all (s := S1024x7168) x12 _ _ _ _ _ rfl (fun _ => lit_top) q12,
    real_of_all _ _ _ _ _ _ rfl (fun _ => lit_top) q13,
    real_of_all _ _ _ _ _ _ rfl (fun _ => lit_top) q14,
    real_of_all _ _ _ _ _ _ rfl (fun _ => lit_top) q15⟩

end Cert.Proof.InBwdPre

end
-- ==== Proof.InBwdValue.lean ====
/- What the input projection's backward call leaves in its two results, and that the reference leaves the same. -/
module

public import proofs.«01_k».proof.Defs
public import proofs.«01_k».proof.Proof.InBwdRef
public import proofs.«01_k».proof.Proof.InBwdPre
public import proofs.«01_k».proof.Proof.Gen.InBwdIdeal.Frame
public import proofs.«01_k».proof.Proof.Gen.InBwdRefIdeal
public import proofs.«01_k».proof.Proof.Gen.InBwdRefIdeal.Run
import Idealize.ShloMosaic.Lib.Claim
import Idealize.ShloMosaic.Lib.Pipeline.ValueKit
import Idealize.ShloMosaic.Lib.Pointwise

@[expose] public section

set_option maxRecDepth 16384

noncomputable section

namespace Cert.Proof.InBwdValue

open Idealize.ShloMosaic Idealize.ShloMosaic.TcCoe Idealize.SL.Sem
open Cert.InBwdIdeal Cert.InBwdIdeal.Gen

variable (m : (ℓ : Loc nD τ sig) → Buf (Elt Ideal) ℓ) (c : Dev nD)

/-- The index maps: the row blocks follow the grid; the gain and its gradient are whole. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![0, 0] ∧ win0_14.index t = ![t.val, 0] ∧ win0_15.index t = ![t.val, 0] ∧ win0_16.index t = ![0, 0] :=
  fun t => by
    have p0 := (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0]) t
    have p1 := (by decide +kernel : ∀ t : Fin grid0.N, win0_9.index t = ![t.val, 0] ∧ win0_10.index t = ![t.val, 0] ∧ win0_11.index t = ![t.val, 0] ∧ win0_12.index t = ![t.val, 0] ∧ win0_13.index t = ![0, 0] ∧ win0_14.index t = ![t.val, 0] ∧ win0_15.index t = ![t.val, 0] ∧ win0_16.index t = ![0, 0]) t
    simp only [p0, p1, and_self]

/-- The weight, as the program finds it. -/
def W : Vec Ideal S1024x7168 .bf16 := V m c main_arg12

/-- One store over a whole array leaves what was stored. -/
theorem canon_whole (s : Shape) {e : EltTy} (w : s.Idx → Elt Ideal e) : View.canon [(⟨Rect.whole s, w⟩ : View.Piece (Elt Ideal) s e)] = w := by
  funext y
  have h := View.canon_cons_emb (Val := Elt Ideal) (Rect.whole s) w [] y
  rwa [Rect.emb_whole_apply] at h

/-- A read of what one store over the whole array left. -/
theorem readCov_whole (v : View sig .tc .vmem S1024x7168 .bf16) (w : S1024x7168.Idx → Elt Ideal .bf16) (r : Rect S1024x7168) :
    v.readCov [(⟨Rect.whole S1024x7168, w⟩ : View.Piece (Elt Ideal) S1024x7168 .bf16)] r.toLoadRect = View.ld w r := by
  rw [View.readCov_eq_canon']
  funext j
  exact congrFun (canon_whole S1024x7168 w) _

/-- A read of the scratch gives what it holds. -/
theorem read_scratch (h : scM0_0.IsWhole) (x) : View.read (Elt Ideal) (View.whole cc0_scratch0) (h.unread x) = x := h.read_unread x

set_option maxHeartbeats 4000000 in
/-- The first point copies the weight into the scratch. -/
theorem scratchA (t : Fin cfg0.N) (h : t.val % 16 = 0) : (outsAt0 m c t.val t.isLt).2.2 = W m c := by
  rw [outsAt0_A m c t h]; frame_out
  rw [canon_whole]
  rfl

/-- A later point leaves the scratch as it is. -/
theorem scratchB (t : Fin cfg0.N) (h : ¬t.val % 16 = 0) :
    (outsAt0 m c t.val t.isLt).2.2 = (outsAt0 m c (t.val - 1) (Nat.lt_of_le_of_lt (Nat.sub_le _ _) t.isLt)).2.2 := by
  rw [outsAt0_B m c t h]
  dsimp only [sout0_B_0]

/-- The scratch holds the weight after every point. -/
theorem scratch (n : ℕ) (h : n < cfg0.N) : (outsAt0 m c n h).2.2 = W m c := by
  induction n with
  | zero => exact scratchA m c ⟨0, h⟩ (Nat.zero_mod _)
  | succ n ih =>
    have hn : n + 1 < 16 := lt_of_lt_of_eq h (show cfg0.N = 16 from N_0)
    exact (scratchB m c ⟨n + 1, h⟩ (by dsimp only; omega)).trans (ih _)

/-- The gradient by the normed rows of one block. -/
def D (t : Fin cfg0.N) : Vec Ideal S512x1024 .f32 :=
  k0_pay5 (k0_pay3 (iblk m c 0 t) (iblk m c 1 t) (iblk m c 2 t) (iblk m c 3 t) (View.ld (W m c) (Rect.unit ![0, 0] ![1024, 2048] inb_S1024x7168_S1024x2048_0_0)) (iblk m c 4 t) (iblk m c 5 t) (iblk m c 6 t) (iblk m c 7 t) (View.ld (W m c) (Rect.unit ![0, 2048] ![1024, 2048] inb_S1024x7168_S1024x2048_0_2048)))
      (k0_pay4 (iblk m c 8 t) (iblk m c 9 t) (View.ld (iblk m c 10 t) (Rect.unit ![0, 0] ![512, 512] inb_S512x1024_S512x512_0_0)) (View.ld (iblk m c 10 t) (Rect.unit ![0, 512] ![512, 512] inb_S512x1024_S512x512_0_512)))
      (View.ld (W m c) (Rect.unit ![0, 4096] ![1024, 2048] inb_S1024x7168_S1024x2048_0_4096)) (View.ld (iblk m c 11 t) (Rect.unit ![0, 0] ![512, 512] inb_S512x1024_S512x512_0_0)) (View.ld (iblk m c 11 t) (Rect.unit ![0, 512] ![512, 512] inb_S512x1024_S512x512_0_512))
      (View.ld (W m c) (Rect.unit ![0, 6144] ![1024, 1024] inb_S1024x7168_S1024x1024_0_6144))

set_option maxHeartbeats 4000000 in
/-- What a point leaves in the block of the rows' gradient. -/
theorem out15 (t : Fin cfg0.N) : (outsAt0 m c t.val t.isLt).1
    = k0_pay7 (k0_pay3 (iblk m c 0 t) (iblk m c 1 t) (iblk m c 2 t) (iblk m c 3 t) (View.ld (W m c) (Rect.unit ![0, 0] ![1024, 2048] inb_S1024x7168_S1024x2048_0_0)) (iblk m c 4 t) (iblk m c 5 t) (iblk m c 6 t) (iblk m c 7 t) (View.ld (W m c) (Rect.unit ![0, 2048] ![1024, 2048] inb_S1024x7168_S1024x2048_0_2048)))
      (k0_pay4 (iblk m c 8 t) (iblk m c 9 t) (View.ld (iblk m c 10 t) (Rect.unit ![0, 0] ![512, 512] inb_S512x1024_S512x512_0_0)) (View.ld (iblk m c 10 t) (Rect.unit ![0, 512] ![512, 512] inb_S512x1024_S512x512_0_512)))
      (View.ld (W m c) (Rect.unit ![0, 4096] ![1024, 2048] inb_S1024x7168_S1024x2048_0_4096)) (View.ld (iblk m c 11 t) (Rect.unit ![0, 0] ![512, 512] inb_S512x1024_S512x512_0_0)) (View.ld (iblk m c 11 t) (Rect.unit ![0, 512] ![512, 512] inb_S512x1024_S512x512_0_512))
      (View.ld (W m c) (Rect.unit ![0, 6144] ![1024, 1024] inb_S1024x7168_S1024x1024_0_6144)) (iblk m c 12 t) (iblk m c 13 t) (iblk m c 14 t) := by
  by_cases h : t.val % 16 = 0
  · rw [outsAt0_A m c t h]; frame_out
    simp only [readCov_whole]
    rfl
  · rw [outsAt0_B m c t h]; frame_out
    simp only [scratch, read_scratch]
    rfl

set_option maxHeartbeats 4000000 in
/-- What the first point leaves in the block of the gain's gradient. -/
theorem out16A (t : Fin cfg0.N) (h : t.val % 16 = 0) : (outsAt0 m c t.val t.isLt).2.1
    = k0_pay1 (k0_pay8 (k0_pay3 (iblk m c 0 t) (iblk m c 1 t) (iblk m c 2 t) (iblk m c 3 t) (View.ld (W m c) (Rect.unit ![0, 0] ![1024, 2048] inb_S1024x7168_S1024x2048_0_0)) (iblk m c 4 t) (iblk m c 5 t) (iblk m c 6 t) (iblk m c 7 t) (View.ld (W m c) (Rect.unit ![0, 2048] ![1024, 2048] inb_S1024x7168_S1024x2048_0_2048)))
      (k0_pay4 (iblk m c 8 t) (iblk m c 9 t) (View.ld (iblk m c 10 t) (Rect.unit ![0, 0] ![512, 512] inb_S512x1024_S512x512_0_0)) (View.ld (iblk m c 10 t) (Rect.unit ![0, 512] ![512, 512] inb_S512x1024_S512x512_0_512)))
      (View.ld (W m c) (Rect.unit ![0, 4096] ![1024, 2048] inb_S1024x7168_S1024x2048_0_4096)) (View.ld (iblk m c 11 t) (Rect.unit ![0, 0] ![512, 512] inb_S512x1024_S512x512_0_0)) (View.ld (iblk m c 11 t) (Rect.unit ![0, 512] ![512, 512] inb_S512x1024_S512x512_0_512))
      (View.ld (W m c) (Rect.unit ![0, 6144] ![1024, 1024] inb_S1024x7168_S1024x1024_0_6144)) (iblk m c 12 t)) (k0_pay2 (F := Ideal)) := by
  rw [outsAt0_A m c t h]; frame_out
  simp only [readCov_whole]
  rfl

set_option maxHeartbeats 4000000 in
/-- What a later point leaves there. -/
theorem out16B (t : Fin cfg0.N) (h : ¬t.val % 16 = 0) : (outsAt0 m c t.val t.isLt).2.1
    = k0_pay1 (k0_pay8 (k0_pay3 (iblk m c 0 t) (iblk m c 1 t) (iblk m c 2 t) (iblk m c 3 t) (View.ld (W m c) (Rect.unit ![0, 0] ![1024, 2048] inb_S1024x7168_S1024x2048_0_0)) (iblk m c 4 t) (iblk m c 5 t) (iblk m c 6 t) (iblk m c 7 t) (View.ld (W m c) (Rect.unit ![0, 2048] ![1024, 2048] inb_S1024x7168_S1024x2048_0_2048)))
      (k0_pay4 (iblk m c 8 t) (iblk m c 9 t) (View.ld (iblk m c 10 t) (Rect.unit ![0, 0] ![512, 512] inb_S512x1024_S512x512_0_0)) (View.ld (iblk m c 10 t) (Rect.unit ![0, 512] ![512, 512] inb_S512x1024_S512x512_0_512)))
      (View.ld (W m c) (Rect.unit ![0, 4096] ![1024, 2048] inb_S1024x7168_S1024x2048_0_4096)) (View.ld (iblk m c 11 t) (Rect.unit ![0, 0] ![512, 512] inb_S512x1024_S512x512_0_0)) (View.ld (iblk m c 11 t) (Rect.unit ![0, 512] ![512, 512] inb_S512x1024_S512x512_0_512))
      (View.ld (W m c) (Rect.unit ![0, 6144] ![1024, 1024] inb_S1024x7168_S1024x1024_0_6144)) (iblk m c 12 t)) (outsAt0 m c (t.val - 1) (Nat.lt_of_le_of_lt (Nat.sub_le _ _) t.isLt)).2.1 := by
  rw [outsAt0_B m c t h]; frame_out
  simp only [scratch, read_scratch]
  rfl

/-- Row `j` of the block at point `t` is a row of the array. -/
theorem row_lt (t : Fin cfg0.N) (j : Fin 512) : 512 * t.val + j.val < 8192 := by
  have h : t.val < 16 := lt_of_lt_of_eq t.isLt (show cfg0.N = 16 from N_0)
  omega

/-- Sums of equal terms are equal. -/
theorem add_eq {a b a' b' : EReal} (h : a = a') (h' : b = b') : a + b = a' + b' := by rw [h, h']

set_option maxHeartbeats 8000000 in
/-- The gradient by the normed rows of a block is the reference's. -/
theorem D_eq (t : Fin cfg0.N) (i : Fin 512) (j : Fin 1024) : D m c t (ix2 i j)
    = Cert.InBwdRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 ⟨512 * t.val + i.val, row_lt t i⟩ j) := by
  unfold D
  rw [InBwdBody.dh, InBwdBody.href]
  refine add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (add_eq (Finset.sum_congr rfl fun k _ => ?_) (Finset.sum_congr rfl fun k _ => ?_)))))))))))))
  all_goals blk_point [iblk, V, W, idx t]

/-- The rows of the arrays that a block holds, and the gain. -/
theorem blk12 (t : Fin cfg0.N) (i : Fin 512) (j : Fin 1024) : iblk m c 12 t (ix2 i j) = (m ((c : Thread nD τ).loc main_arg13)) (ix2 ⟨512 * t.val + i.val, row_lt t i⟩ j) := by
  blk_point [iblk, V, idx t]

theorem blk13 (t : Fin cfg0.N) (j : Fin 1024) : iblk m c 13 t (ix2 0 j) = (m ((c : Thread nD τ).loc main_arg14)) (ix2 0 j) := by
  blk_point [iblk, V, idx t]

theorem blk14 (t : Fin cfg0.N) (i : Fin 512) (j : Fin 1024) : iblk m c 14 t (ix2 i j) = (m ((c : Thread nD τ).loc main_arg15)) (ix2 ⟨512 * t.val + i.val, row_lt t i⟩ j) := by
  blk_point [iblk, V, idx t]

/-- Every argument is real. -/
structure Ok : Prop where
  h0 : IsReal (s := S8192x512) (m ((c : Thread nD τ).loc main_arg0))
  h1 : IsReal (s := S8192x512) (m ((c : Thread nD τ).loc main_arg1))
  h2 : IsReal (s := S8192x512) (m ((c : Thread nD τ).loc main_arg2))
  h3 : IsReal (s := S8192x512) (m ((c : Thread nD τ).loc main_arg3))
  h4 : IsReal (s := S8192x512) (m ((c : Thread nD τ).loc main_arg4))
  h5 : IsReal (s := S8192x512) (m ((c : Thread nD τ).loc main_arg5))
  h6 : IsReal (s := S8192x512) (m ((c : Thread nD τ).loc main_arg6))
  h7 : IsReal (s := S8192x512) (m ((c : Thread nD τ).loc main_arg7))
  h8 : IsReal (s := S8192x512) (m ((c : Thread nD τ).loc main_arg8))
  h9 : IsReal (s := S8192x512) (m ((c : Thread nD τ).loc main_arg9))
  h10 : IsReal (s := S8192x1024) (m ((c : Thread nD τ).loc main_arg10))
  h11 : IsReal (s := S8192x1024) (m ((c : Thread nD τ).loc main_arg11))
  h12 : IsReal (s := S1024x7168) (m ((c : Thread nD τ).loc main_arg12))
  h13 : IsReal (s := S8192x1024) (m ((c : Thread nD τ).loc main_arg13))
  h14 : IsReal (s := S1x1024) (m ((c : Thread nD τ).loc main_arg14))
  h15 : IsReal (s := S8192x1024) (m ((c : Thread nD τ).loc main_arg15))

/-- What one row adds to the gain's gradient. -/
def term (l : Fin 8192) (j : Fin 1024) : EReal :=
  Cert.InBwdRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 l j) * (m ((c : Thread nD τ).loc main_arg13)) (ix2 l j) * Norm.rs (fun k => (m ((c : Thread nD τ).loc main_arg13)) (ix2 l k))

/-- What a point adds to the gain's gradient. -/
theorem add16 (t : Fin cfg0.N) (acc : Vec Ideal S1x1024 .f32) (j) : k0_pay1 (k0_pay8 (k0_pay3 (iblk m c 0 t) (iblk m c 1 t) (iblk m c 2 t) (iblk m c 3 t) (View.ld (W m c) (Rect.unit ![0, 0] ![1024, 2048] inb_S1024x7168_S1024x2048_0_0)) (iblk m c 4 t) (iblk m c 5 t) (iblk m c 6 t) (iblk m c 7 t) (View.ld (W m c) (Rect.unit ![0, 2048] ![1024, 2048] inb_S1024x7168_S1024x2048_0_2048)))
      (k0_pay4 (iblk m c 8 t) (iblk m c 9 t) (View.ld (iblk m c 10 t) (Rect.unit ![0, 0] ![512, 512] inb_S512x1024_S512x512_0_0)) (View.ld (iblk m c 10 t) (Rect.unit ![0, 512] ![512, 512] inb_S512x1024_S512x512_0_512)))
      (View.ld (W m c) (Rect.unit ![0, 4096] ![1024, 2048] inb_S1024x7168_S1024x2048_0_4096)) (View.ld (iblk m c 11 t) (Rect.unit ![0, 0] ![512, 512] inb_S512x1024_S512x512_0_0)) (View.ld (iblk m c 11 t) (Rect.unit ![0, 512] ![512, 512] inb_S512x1024_S512x512_0_512))
      (View.ld (W m c) (Rect.unit ![0, 6144] ![1024, 1024] inb_S1024x7168_S1024x1024_0_6144)) (iblk m c 12 t)) acc j
    = acc j + ∑ p : Fin 512, term m c ⟨512 * t.val + p.val, row_lt t p⟩ (j 1) := by
  rw [InBwdBody.pay8]
  refine congrArg (acc j + ·) (Finset.sum_congr rfl fun p _ => ?_)
  show D m c t (ix2 p (j 1)) * iblk m c 12 t (ix2 p (j 1)) * Norm.rs (fun k => iblk m c 12 t (ix2 p k)) = _
  have e := D_eq m c t p (j 1)
  have e' := fun k => blk12 m c t p k
  simp only [e']
  rw [e]
  exact congrArg (fun v => _ * v * _) (e' (j 1))

/-- The rows' block. -/
def x12 (t : Fin cfg0.N) : Vec Ideal S512x1024 .f32 := iblk m c 12 t
/-- The gain's block. -/
def x13 (t : Fin cfg0.N) : Vec Ideal S1x1024 .f32 := iblk m c 13 t
/-- The block of what is added. -/
def x14 (t : Fin cfg0.N) : Vec Ideal S512x1024 .f32 := iblk m c 14 t

/-- An entry of a block of the rows' gradient, from the blocks. -/
theorem block15 (t : Fin cfg0.N) (i : Fin 512) (j : Fin 1024) : (outsAt0 m c t.val t.isLt).1 (ix2 i j)
    = x14 m c t (ix2 i j) + Norm.rs (fun k => x12 m c t (ix2 i k)) * (D m c t (ix2 i j) * x13 m c t (ix2 0 j))
      - x12 m c t (ix2 i j) * (Norm.rs (fun k => x12 m c t (ix2 i k)) * Norm.rs (fun k => x12 m c t (ix2 i k))
        * Norm.rs (fun k => x12 m c t (ix2 i k)) * Ideal.ofBits FTy.f32 981467136#32
        * ∑ k, x12 m c t (ix2 i k) * (D m c t (ix2 i k) * x13 m c t (ix2 0 k))) := by
  rw [out15, InBwdBody.pay7]
  rfl

/-- The rows' block, read. -/
theorem x12_eq (t : Fin cfg0.N) (i : Fin 512) (j : Fin 1024) : x12 m c t (ix2 i j) = (m ((c : Thread nD τ).loc main_arg13)) (ix2 ⟨512 * t.val + i.val, row_lt t i⟩ j) :=
  blk12 m c t i j
/-- The gain's block, read. -/
theorem x13_eq (t : Fin cfg0.N) (j : Fin 1024) : x13 m c t (ix2 0 j) = (m ((c : Thread nD τ).loc main_arg14)) (ix2 0 j) := blk13 m c t j
/-- The block of what is added, read. -/
theorem x14_eq (t : Fin cfg0.N) (i : Fin 512) (j : Fin 1024) : x14 m c t (ix2 i j) = (m ((c : Thread nD τ).loc main_arg15)) (ix2 ⟨512 * t.val + i.val, row_lt t i⟩ j) :=
  blk14 m c t i j

/-- An entry of the rows' gradient. -/
theorem point15 (ok : Ok m c) (t : Fin cfg0.N) (i : Fin 512) (j : Fin 1024) : (outsAt0 m c t.val t.isLt).1 (ix2 i j)
    = Cert.InBwdRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 ⟨512 * t.val + i.val, row_lt t i⟩ j) := by
  rw [block15, InBwdRef.dx ok.h0 ok.h1 ok.h2 ok.h3 ok.h4 ok.h5 ok.h6 ok.h7 ok.h8 ok.h9 ok.h10 ok.h11 ok.h12 ok.h13 ok.h14 ok.h15]
  simp only [D_eq, x12_eq, x13_eq, x14_eq]

/-- The rows' gradient. -/
theorem final15 (ok : Ok m c) : (dats m 0 c).arrAt 15 (cfgs 0).N
    = Cert.InBwdRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 15 _ (by decide +kernel) fun t hf y => ?_
  have e : (win0_15.blk t).view.emb y = ix2 ⟨512 * t.val + (y 0).val, row_lt t (y 0)⟩ (y 1) := by
    blk_ext! [idx t]
  blk_simp
  rw [after0_15, e]
  obtain ⟨p, k, rfl⟩ : ∃ (p : Fin 512) (k : Fin 1024), y = ix2 p k := ⟨y 0, y 1, eq_ix2 y⟩
  exact point15 m c ok t p k

/-- The gain's gradient. -/
theorem final16 : (dats m 0 c).arrAt 16 (cfgs 0).N
    = Cert.InBwdRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 16 _ (by decide +kernel) fun t hf y => ?_
  blk_simp
  rw [after0_16, Pipeline.eq_sum_fin_of_reset_step_apply_of_flush (fun n h => (outsAt0 m c n h).2.1) 16 (fun _ => 0) _
    (fun t h j => by rw [out16A m c t h, add16, InBwdBody.pay2]) (fun t h j => by rw [out16B m c t h, add16])
    t ((flush0_16 t).mp hf) _, zero_add, InBwdRef.dg]
  refine Fin.sum_mul_add_congr fun s k hl => ?_
  have ht : t.val / 16 = 0 := Nat.div_eq_of_lt (lt_of_lt_of_eq t.isLt (show cfg0.N = 16 from N_0))
  have e : (win0_16.blk t).view.emb y = ix2 (y 0) (y 1) := by
    blk_ext! [idx t]
  rw [e]
  exact congrArg (term m c · (y 1)) (Fin.ext (by dsimp only; omega))

set_option maxHeartbeats 8000000 in
/-- The call and its reference end with equal results. -/
theorem algebraic [Cert.Pre_in_proj_bwd_finite.Facts] : Cert.algebraic_InBwdIdeal_InBwdRefIdeal_pre_in_proj_bwd_finite := by
  intro m g m' g' hpre hagree
  refine ⟨fun c => (dats m 0 c).arrAt 15 (cfgs 0).N, fun c => (dats m 0 c).arrAt 16 (cfgs 0).N, ?_, ?_⟩
  · exact (θ_run _ _ _).mono (fun r h c => ⟨(h.1 c).1 15, (h.1 c).1 16, h.2 c⟩) (θ_run_and (run_main m g) (unchanged m g))
  · refine (θ_run _ _ _).mono (fun r hr c => ?_) (Cert.InBwdRefIdeal.Value.run (F := Ideal) m' g')
    obtain ⟨h0, h1, h2, h3, h4, h5, h6, h7, h8, h9, h10, h11, h12, h13, h14, h15⟩ := InBwdPre.real _ _ _ _ _ _ _ _ _ _ _ _ _ _ _ _ (hpre c)
    obtain ⟨a0, a1, a2, a3, a4, a5, a6, a7, a8, a9, a10, a11, a12, a13, a14, a15⟩ := hagree c
    have hc := hr c
    refine ⟨hc.1.trans ((Cert.InBwdRefIdeal.Read.val_main_v47_eq (F := Ideal) _ _).trans ?_),
      hc.2.1.trans ((Cert.InBwdRefIdeal.Read.val_main_v30_eq (F := Ideal) _ _ _ _ _ _ _ _ _ _ _ _ _ _).trans ?_), hc.2.2⟩
    · show _ = (dats m 0 c).arrAt 15 (cfgs 0).N
      rw [final15 m c ⟨h0, h1, h2, h3, h4, h5, h6, h7, h8, h9, h10, h11, h12, h13, h14, h15⟩, a0, a1, a2, a3, a4, a5, a6, a7, a8, a9, a10, a11, a12, a13, a14, a15]
    · show _ = (dats m 0 c).arrAt 16 (cfgs 0).N
      rw [final16 m c, a0, a1, a2, a3, a4, a5, a6, a7, a8, a9, a10, a11, a12, a13]

/-- The reference runs, its arguments end unchanged and every counter ends at zero. -/
theorem frame : Cert.quiescent_InBwdRefIdeal := fun m ρ _ =>
  (θ_run _ _ _).mono (fun r h => ⟨fun c => (h c).2.2, sem_eq_zero_of_no_sems (by decide) r.2⟩)
    (Cert.InBwdRefIdeal.Value.run (F := Ideal) m ρ)

end Cert.Proof.InBwdValue

end
-- ==== Proof.PcsBody.lean ====
/- What one grid point of the weight gradient over pieces adds to its block, entry by entry, and the reference's result: the
   sum over all tokens against the pieces side by side, whose column blocks of 1024 columns are two pieces, or one wide
   piece, each. -/
module

public import proofs.«01_k».proof.Proof.Gen.PcsIdeal.Skeleton
public import proofs.«01_k».proof.Proof.Gen.PcsRefIdeal.Read
public import Idealize.ShloMosaic.Lib.Pointwise.Index
import Idealize.ShloMosaic.Lib.Pipeline.ValueKit
import Idealize.ShloMosaic.Lib.Pointwise

@[expose] public section

set_option maxRecDepth 16384

noncomputable section

namespace Cert.Proof.PcsBody

open Idealize.ShloMosaic Idealize.ShloMosaic.TcCoe Idealize.SL.Sem
open Cert.PcsIdeal Cert.PcsIdeal.Gen

/-- The zero that a block begins with. -/
theorem zero (j) : k0_pay1 (F := Ideal) j = 0 := by pointwise [k0_pay1]

/-- Row `k` of two pieces side by side. -/
def side (u v : Fin 512 → EReal) (q : Fin 1024) : EReal := if h : q.val < 512 then u ⟨q.val, h⟩ else v ⟨q.val - 512, by omega⟩

/-- A step with pieces of the types bf16 and bf16 adds the products of 1024 tokens. -/
theorem pay2 (u : Vec Ideal S1024x512 .bf16) (v : Vec Ideal S1024x512 .bf16) (acc : Vec Ideal S1024x1024 .f32) (a : Vec Ideal S1024x1024 .bf16) (j) :
    k0_pay2 (F := Ideal) u v acc a j
      = acc j + ∑ k : Fin 1024, a (ix2 k (j 0)) * side (fun q => u (ix2 k q)) (fun q => v (ix2 k q)) (j 1) := by
  pointwise [k0_pay2]
  rfl

/-- A step with pieces of the types f32 and f32 adds the products of 1024 tokens. -/
theorem pay5 (u : Vec Ideal S1024x512 .f32) (v : Vec Ideal S1024x512 .f32) (acc : Vec Ideal S1024x1024 .f32) (a : Vec Ideal S1024x1024 .bf16) (j) :
    k0_pay5 (F := Ideal) u v acc a j
      = acc j + ∑ k : Fin 1024, a (ix2 k (j 0)) * side (fun q => u (ix2 k q)) (fun q => v (ix2 k q)) (j 1) := by
  pointwise [k0_pay5]
  rfl

/-- A step with pieces of the types f32 and bf16 adds the products of 1024 tokens. -/
theorem pay6 (u : Vec Ideal S1024x512 .f32) (v : Vec Ideal S1024x512 .bf16) (acc : Vec Ideal S1024x1024 .f32) (a : Vec Ideal S1024x1024 .bf16) (j) :
    k0_pay6 (F := Ideal) u v acc a j
      = acc j + ∑ k : Fin 1024, a (ix2 k (j 0)) * side (fun q => u (ix2 k q)) (fun q => v (ix2 k q)) (j 1) := by
  pointwise [k0_pay6]
  rfl

section
open Cert.PcsRefIdeal.Read
variable (x0 : FVec Ideal S8192x1024 .bf16) (x1 x2 x3 x4 x5 x6 : FVec Ideal S8192x512 .bf16) (x7 x8 x9 : FVec Ideal S8192x512 .f32)
  (x10 : FVec Ideal S8192x512 .bf16) (x11 x12 : FVec Ideal S8192x1024 .bf16)

/-- The reference is the sum over all tokens. -/
theorem href (j) : val_main_v12 (F := Ideal) x0 x1 x2 x3 x4 x5 x6 x7 x8 x9 x10 x11 x12 j
    = ∑ l : Fin 8192, x0 (ix2 l (j 0)) * val_main_v10 (F := Ideal) x1 x2 x3 x4 x5 x6 x7 x8 x9 x10 x11 x12 (ix2 l (j 1)) := by
  pointwise [val_main_v12, val_main_v11, val_main_v0]
  exact Finset.sum_congr rfl fun l _ => mul_comm _ _

set_option maxHeartbeats 4000000 in
/-- The pieces side by side. -/
theorem pieces (l : Fin 8192) (k : Fin 7168) : val_main_v10 (F := Ideal) x1 x2 x3 x4 x5 x6 x7 x8 x9 x10 x11 x12 (ix2 l k)
    = if h : k.val < 512 then x1 (ix2 l ⟨k.val, h⟩) else if h : k.val - 512 < 512 then x2 (ix2 l ⟨k.val - 512, h⟩) else if h : k.val - 512 - 512 < 512 then x3 (ix2 l ⟨k.val - 512 - 512, h⟩) else if h : k.val - 512 - 512 - 512 < 512 then x4 (ix2 l ⟨k.val - 512 - 512 - 512, h⟩) else if h : k.val - 512 - 512 - 512 - 512 < 512 then x5 (ix2 l ⟨k.val - 512 - 512 - 512 - 512, h⟩) else if h : k.val - 512 - 512 - 512 - 512 - 512 < 512 then x6 (ix2 l ⟨k.val - 512 - 512 - 512 - 512 - 512, h⟩) else if h : k.val - 512 - 512 - 512 - 512 - 512 - 512 < 512 then x7 (ix2 l ⟨k.val - 512 - 512 - 512 - 512 - 512 - 512, h⟩) else if h : k.val - 512 - 512 - 512 - 512 - 512 - 512 - 512 < 512 then x8 (ix2 l ⟨k.val - 512 - 512 - 512 - 512 - 512 - 512 - 512, h⟩) else if h : k.val - 512 - 512 - 512 - 512 - 512 - 512 - 512 - 512 < 512 then x9 (ix2 l ⟨k.val - 512 - 512 - 512 - 512 - 512 - 512 - 512 - 512, h⟩) else if h : k.val - 512 - 512 - 512 - 512 - 512 - 512 - 512 - 512 - 512 < 512 then x10 (ix2 l ⟨k.val - 512 - 512 - 512 - 512 - 512 - 512 - 512 - 512 - 512, h⟩) else if h : k.val - 512 - 512 - 512 - 512 - 512 - 512 - 512 - 512 - 512 - 512 < 1024 then x11 (ix2 l ⟨k.val - 512 - 512 - 512 - 512 - 512 - 512 - 512 - 512 - 512 - 512, h⟩) else x12 (ix2 l ⟨k.val - 512 - 512 - 512 - 512 - 512 - 512 - 512 - 512 - 512 - 512 - 1024, by omega⟩) := by
  pointwise [val_main_v10, val_main_v1, val_main_v2, val_main_v3, val_main_v4, val_main_v5, val_main_v6, val_main_v7, val_main_v8, val_main_v9]

/-- Column block 0 of the pieces. -/
theorem col0 (l : Fin 8192) (k : Fin 7168) (y : Fin 1024) (hk : k.val = 0 + y.val) :
    val_main_v10 (F := Ideal) x1 x2 x3 x4 x5 x6 x7 x8 x9 x10 x11 x12 (ix2 l k) = side (fun i => x1 (ix2 l i)) (fun i => x2 (ix2 l i)) y := by
  rw [pieces, side]
  by_cases h : y.val < 512
  · rw [dif_pos h]
    refine (dif_pos (by omega)).trans ?_
    exact congrArg (fun i => x1 (ix2 l i)) (Fin.ext (by dsimp only; omega))
  · rw [dif_neg h]
    refine (dif_neg (by omega)).trans ((dif_pos (by omega)).trans ?_)
    exact congrArg (fun i => x2 (ix2 l i)) (Fin.ext (by dsimp only; omega))

/-- Column block 1 of the pieces. -/
theorem col1 (l : Fin 8192) (k : Fin 7168) (y : Fin 1024) (hk : k.val = 1024 + y.val) :
    val_main_v10 (F := Ideal) x1 x2 x3 x4 x5 x6 x7 x8 x9 x10 x11 x12 (ix2 l k) = side (fun i => x3 (ix2 l i)) (fun i => x4 (ix2 l i)) y := by
  rw [pieces, side]
  by_cases h : y.val < 512
  · rw [dif_pos h]
    refine (dif_neg (by omega)).trans ((dif_neg (by omega)).trans ((dif_pos (by omega)).trans ?_))
    exact congrArg (fun i => x3 (ix2 l i)) (Fin.ext (by dsimp only; omega))
  · rw [dif_neg h]
    refine (dif_neg (by omega)).trans ((dif_neg (by omega)).trans ((dif_neg (by omega)).trans ((dif_pos (by omega)).trans ?_)))
    exact congrArg (fun i => x4 (ix2 l i)) (Fin.ext (by dsimp only; omega))

/-- Column block 2 of the pieces. -/
theorem col2 (l : Fin 8192) (k : Fin 7168) (y : Fin 1024) (hk : k.val = 2048 + y.val) :
    val_main_v10 (F := Ideal) x1 x2 x3 x4 x5 x6 x7 x8 x9 x10 x11 x12 (ix2 l k) = side (fun i => x5 (ix2 l i)) (fun i => x6 (ix2 l i)) y := by
  rw [pieces, side]
  by_cases h : y.val < 512
  · rw [dif_pos h]
    refine (dif_neg (by omega)).trans ((dif_neg (by omega)).trans ((dif_neg (by omega)).trans ((dif_neg (by omega)).trans ((dif_pos (by omega)).trans ?_))))
    exact congrArg (fun i => x5 (ix2 l i)) (Fin.ext (by dsimp only; omega))
  · rw [dif_neg h]
    refine (dif_neg (by omega)).trans ((dif_neg (by omega)).trans ((dif_neg (by omega)).trans ((dif_neg (by omega)).trans ((dif_neg (by omega)).trans ((dif_pos (by omega)).trans ?_)))))
    exact congrArg (fun i => x6 (ix2 l i)) (Fin.ext (by dsimp only; omega))

/-- Column block 3 of the pieces. -/
theorem col3 (l : Fin 8192) (k : Fin 7168) (y : Fin 1024) (hk : k.val = 3072 + y.val) :
    val_main_v10 (F := Ideal) x1 x2 x3 x4 x5 x6 x7 x8 x9 x10 x11 x12 (ix2 l k) = side (fun i => x7 (ix2 l i)) (fun i => x8 (ix2 l i)) y := by
  rw [pieces, side]
  by_cases h : y.val < 512
  · rw [dif_pos h]
    refine (dif_neg (by omega)).trans ((dif_neg (by omega)).trans ((dif_neg (by omega)).trans ((dif_neg (by omega)).trans ((dif_neg (by omega)).trans ((dif_neg (by omega)).trans ((dif_pos (by omega)).trans ?_))))))
    exact congrArg (fun i => x7 (ix2 l i)) (Fin.ext (by dsimp only; omega))
  · rw [dif_neg h]
    refine (dif_neg (by omega)).trans ((dif_neg (by omega)).trans ((dif_neg (by omega)).trans ((dif_neg (by omega)).trans ((dif_neg (by omega)).trans ((dif_neg (by omega)).trans ((dif_neg (by omega)).trans ((dif_pos (by omega)).trans ?_)))))))
    exact congrArg (fun i => x8 (ix2 l i)) (Fin.ext (by dsimp only; omega))

/-- Column block 4 of the pieces. -/
theorem col4 (l : Fin 8192) (k : Fin 7168) (y : Fin 1024) (hk : k.val = 4096 + y.val) :
    val_main_v10 (F := Ideal) x1 x2 x3 x4 x5 x6 x7 x8 x9 x10 x11 x12 (ix2 l k) = side (fun i => x9 (ix2 l i)) (fun i => x10 (ix2 l i)) y := by
  rw [pieces, side]
  by_cases h : y.val < 512
  · rw [dif_pos h]
    refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ?_))))))))
    exact congrArg (fun i => x9 (ix2 l i)) (Fin.ext (by dsimp only; omega))
  · rw [dif_neg h]
    refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ?_)))))))))
    exact congrArg (fun i => x10 (ix2 l i)) (Fin.ext (by dsimp only; omega))

/-- Column block 5 of the pieces. -/
theorem col5 (l : Fin 8192) (k : Fin 7168) (y : Fin 1024) (hk : k.val = 5120 + y.val) :
    val_main_v10 (F := Ideal) x1 x2 x3 x4 x5 x6 x7 x8 x9 x10 x11 x12 (ix2 l k) = side (fun i => x11 (ix2 l ⟨i.val, by omega⟩)) (fun i => x11 (ix2 l ⟨512 + i.val, by omega⟩)) y := by
  rw [pieces, side]
  by_cases h : y.val < 512
  · rw [dif_pos h]
    refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ?_))))))))))
    exact congrArg (fun i => x11 (ix2 l i)) (Fin.ext (by dsimp only; omega))
  · rw [dif_neg h]
    refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ?_))))))))))
    exact congrArg (fun i => x11 (ix2 l i)) (Fin.ext (by dsimp only; omega))

/-- Column block 6 of the pieces. -/
theorem col6 (l : Fin 8192) (k : Fin 7168) (y : Fin 1024) (hk : k.val = 6144 + y.val) :
    val_main_v10 (F := Ideal) x1 x2 x3 x4 x5 x6 x7 x8 x9 x10 x11 x12 (ix2 l k) = side (fun i => x12 (ix2 l ⟨i.val, by omega⟩)) (fun i => x12 (ix2 l ⟨512 + i.val, by omega⟩)) y := by
  rw [pieces, side]
  by_cases h : y.val < 512
  · rw [dif_pos h]
    refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ?_))))))))))
    exact congrArg (fun i => x12 (ix2 l i)) (Fin.ext (by dsimp only; omega))
  · rw [dif_neg h]
    refine (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ?_))))))))))
    exact congrArg (fun i => x12 (ix2 l i)) (Fin.ext (by dsimp only; omega))

end

end Cert.Proof.PcsBody

end
-- ==== Proof.PcsValue.lean ====
/- The weight gradient over pieces: the sum over all tokens, found block by block, one block of 1024 tokens at a time. -/
module

public import proofs.«01_k».proof.Proof.PcsBody
public import proofs.«01_k».proof.Defs
public import proofs.«01_k».proof.Proof.Gen.PcsIdeal.Frame
public import proofs.«01_k».proof.Proof.Gen.PcsRefIdeal
public import proofs.«01_k».proof.Proof.Gen.PcsRefIdeal.Run
import Idealize.ShloMosaic.Lib.Claim
import Idealize.ShloMosaic.Lib.Pipeline.ValueKit
import Idealize.ShloMosaic.Lib.Pointwise

@[expose] public section

set_option maxRecDepth 16384

noncomputable section

namespace Cert.Proof.PcsValue

open Idealize.ShloMosaic Idealize.ShloMosaic.TcCoe Idealize.SL.Sem
open Cert.PcsIdeal Cert.PcsIdeal.Gen

/-- The index maps of the tokens and of the result. -/
theorem idx : ∀ t : Fin cfg0.N, win0_0.index t = ![t.val % 8, 0] ∧ win0_13.index t = ![0, t.val / 8] :=
  (by decide +kernel : ∀ t : Fin grid0.N, _)

/-- The index map of piece 1, in its column block. -/
theorem idx1 : ∀ t : Fin cfg0.N, t.val / 8 = 0 → win0_1.index t = ![t.val % 8, 0] :=
  (by decide +kernel : ∀ t : Fin grid0.N, _)

/-- The index map of piece 2, in its column block. -/
theorem idx2 : ∀ t : Fin cfg0.N, t.val / 8 = 0 → win0_2.index t = ![t.val % 8, 0] :=
  (by decide +kernel : ∀ t : Fin grid0.N, _)

/-- The index map of piece 3, in its column block. -/
theorem idx3 : ∀ t : Fin cfg0.N, t.val / 8 = 1 → win0_3.index t = ![t.val % 8, 0] :=
  (by decide +kernel : ∀ t : Fin grid0.N, _)

/-- The index map of piece 4, in its column block. -/
theorem idx4 : ∀ t : Fin cfg0.N, t.val / 8 = 1 → win0_4.index t = ![t.val % 8, 0] :=
  (by decide +kernel : ∀ t : Fin grid0.N, _)

/-- The index map of piece 5, in its column block. -/
theorem idx5 : ∀ t : Fin cfg0.N, t.val / 8 = 2 → win0_5.index t = ![t.val % 8, 0] :=
  (by decide +kernel : ∀ t : Fin grid0.N, _)

/-- The index map of piece 6, in its column block. -/
theorem idx6 : ∀ t : Fin cfg0.N, t.val / 8 = 2 → win0_6.index t = ![t.val % 8, 0] :=
  (by decide +kernel : ∀ t : Fin grid0.N, _)

/-- The index map of piece 7, in its column block. -/
theorem idx7 : ∀ t : Fin cfg0.N, t.val / 8 = 3 → win0_7.index t = ![t.val % 8, 0] :=
  (by decide +kernel : ∀ t : Fin grid0.N, _)

/-- The index map of piece 8, in its column block. -/
theorem idx8 : ∀ t : Fin cfg0.N, t.val / 8 = 3 → win0_8.index t = ![t.val % 8, 0] :=
  (by decide +kernel : ∀ t : Fin grid0.N, _)

/-- The index map of piece 9, in its column block. -/
theorem idx9 : ∀ t : Fin cfg0.N, t.val / 8 = 4 → win0_9.index t = ![t.val % 8, 0] :=
  (by decide +kernel : ∀ t : Fin grid0.N, _)

/-- The index map of piece 10, in its column block. -/
theorem idx10 : ∀ t : Fin cfg0.N, t.val / 8 = 4 → win0_10.index t = ![t.val % 8, 0] :=
  (by decide +kernel : ∀ t : Fin grid0.N, _)

/-- The index map of piece 11, in its column block. -/
theorem idx11 : ∀ t : Fin cfg0.N, t.val / 8 = 5 → win0_11.index t = ![t.val % 8, 0] :=
  (by decide +kernel : ∀ t : Fin grid0.N, _)

/-- The index map of piece 12, in its column block. -/
theorem idx12 : ∀ t : Fin cfg0.N, t.val / 8 = 6 → win0_12.index t = ![t.val % 8, 0] :=
  (by decide +kernel : ∀ t : Fin grid0.N, _)

variable (m : (ℓ : Loc nD τ sig) → Buf (Elt Ideal) ℓ) (c : Dev nD)

/-- There are 56 points. -/
theorem point_lt (t : Fin cfg0.N) : t.val < 56 := lt_of_lt_of_eq t.isLt (show cfg0.N = 56 from N_0)

/-- The row of a block lies in the array. -/
theorem row_lt (t : Fin cfg0.N) (k : Fin 1024) : 1024 * (t.val % 8) + k.val < 8192 := by omega

/-- The column of a block lies in the array. -/
theorem col_lt (t : Fin cfg0.N) (y : Fin 1024) : 1024 * (t.val / 8) + y.val < 7168 := by
  have := point_lt t; omega

/-- Products of equals are equal. -/
theorem mul_eq {a a' b b' : EReal} (h : a = a') (h' : b = b') : a * b = a' * b' := by rw [h, h']

/-- The part of a product's entry that the rows of one block give. -/
def addend (x : FVec Ideal S8192x1024 .bf16) (v : FVec Ideal Cert.PcsRefIdeal.S8192x7168 .f32) (t : Fin cfg0.N) (j : S1024x1024.Idx) : EReal :=
  ∑ k : Fin 1024, x (ix2 ⟨1024 * (t.val % 8) + k.val, row_lt t k⟩ (j 0))
    * v (ix2 ⟨1024 * (t.val % 8) + k.val, row_lt t k⟩ ⟨1024 * (t.val / 8) + (j 1).val, col_lt t (j 1)⟩)

/-- What a point adds to an entry of its block. -/
def term (t : Fin cfg0.N) (j : S1024x1024.Idx) : EReal :=
  addend ((m ((c : Thread nD τ).loc main_arg0))) (Cert.PcsRefIdeal.Read.val_main_v10 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) t j

/-- A block of the tokens. -/
theorem blk0 (t : Fin cfg0.N) (i : Fin 1024) (j : Fin 1024) : iblk m c 0 t (ix2 i j) = (m ((c : Thread nD τ).loc main_arg0)) (ix2 ⟨1024 * (t.val % 8) + i.val, row_lt t i⟩ j) := by
  blk_point [iblk, V, idx t]

/-- A block of piece 1. -/
theorem blk1 (t : Fin cfg0.N) (ht : t.val / 8 = 0) (i : Fin 1024) (j : Fin 512) : iblk m c 1 t (ix2 i j) = (m ((c : Thread nD τ).loc main_arg1)) (ix2 ⟨1024 * (t.val % 8) + i.val, row_lt t i⟩ j) := by
  blk_point [iblk, V, idx1 t ht]

/-- A block of piece 2. -/
theorem blk2 (t : Fin cfg0.N) (ht : t.val / 8 = 0) (i : Fin 1024) (j : Fin 512) : iblk m c 2 t (ix2 i j) = (m ((c : Thread nD τ).loc main_arg2)) (ix2 ⟨1024 * (t.val % 8) + i.val, row_lt t i⟩ j) := by
  blk_point [iblk, V, idx2 t ht]

/-- A block of piece 3. -/
theorem blk3 (t : Fin cfg0.N) (ht : t.val / 8 = 1) (i : Fin 1024) (j : Fin 512) : iblk m c 3 t (ix2 i j) = (m ((c : Thread nD τ).loc main_arg3)) (ix2 ⟨1024 * (t.val % 8) + i.val, row_lt t i⟩ j) := by
  blk_point [iblk, V, idx3 t ht]

/-- A block of piece 4. -/
theorem blk4 (t : Fin cfg0.N) (ht : t.val / 8 = 1) (i : Fin 1024) (j : Fin 512) : iblk m c 4 t (ix2 i j) = (m ((c : Thread nD τ).loc main_arg4)) (ix2 ⟨1024 * (t.val % 8) + i.val, row_lt t i⟩ j) := by
  blk_point [iblk, V, idx4 t ht]

/-- A block of piece 5. -/
theorem blk5 (t : Fin cfg0.N) (ht : t.val / 8 = 2) (i : Fin 1024) (j : Fin 512) : iblk m c 5 t (ix2 i j) = (m ((c : Thread nD τ).loc main_arg5)) (ix2 ⟨1024 * (t.val % 8) + i.val, row_lt t i⟩ j) := by
  blk_point [iblk, V, idx5 t ht]

/-- A block of piece 6. -/
theorem blk6 (t : Fin cfg0.N) (ht : t.val / 8 = 2) (i : Fin 1024) (j : Fin 512) : iblk m c 6 t (ix2 i j) = (m ((c : Thread nD τ).loc main_arg6)) (ix2 ⟨1024 * (t.val % 8) + i.val, row_lt t i⟩ j) := by
  blk_point [iblk, V, idx6 t ht]

/-- A block of piece 7. -/
theorem blk7 (t : Fin cfg0.N) (ht : t.val / 8 = 3) (i : Fin 1024) (j : Fin 512) : iblk m c 7 t (ix2 i j) = (m ((c : Thread nD τ).loc main_arg7)) (ix2 ⟨1024 * (t.val % 8) + i.val, row_lt t i⟩ j) := by
  blk_point [iblk, V, idx7 t ht]

/-- A block of piece 8. -/
theorem blk8 (t : Fin cfg0.N) (ht : t.val / 8 = 3) (i : Fin 1024) (j : Fin 512) : iblk m c 8 t (ix2 i j) = (m ((c : Thread nD τ).loc main_arg8)) (ix2 ⟨1024 * (t.val % 8) + i.val, row_lt t i⟩ j) := by
  blk_point [iblk, V, idx8 t ht]

/-- A block of piece 9. -/
theorem blk9 (t : Fin cfg0.N) (ht : t.val / 8 = 4) (i : Fin 1024) (j : Fin 512) : iblk m c 9 t (ix2 i j) = (m ((c : Thread nD τ).loc main_arg9)) (ix2 ⟨1024 * (t.val % 8) + i.val, row_lt t i⟩ j) := by
  blk_point [iblk, V, idx9 t ht]

/-- A block of piece 10. -/
theorem blk10 (t : Fin cfg0.N) (ht : t.val / 8 = 4) (i : Fin 1024) (j : Fin 512) : iblk m c 10 t (ix2 i j) = (m ((c : Thread nD τ).loc main_arg10)) (ix2 ⟨1024 * (t.val % 8) + i.val, row_lt t i⟩ j) := by
  blk_point [iblk, V, idx10 t ht]

/-- A block of piece 11. -/
theorem blk11 (t : Fin cfg0.N) (ht : t.val / 8 = 5) (i : Fin 1024) (j : Fin 1024) : iblk m c 11 t (ix2 i j) = (m ((c : Thread nD τ).loc main_arg11)) (ix2 ⟨1024 * (t.val % 8) + i.val, row_lt t i⟩ j) := by
  blk_point [iblk, V, idx11 t ht]

/-- A block of piece 12. -/
theorem blk12 (t : Fin cfg0.N) (ht : t.val / 8 = 6) (i : Fin 1024) (j : Fin 1024) : iblk m c 12 t (ix2 i j) = (m ((c : Thread nD τ).loc main_arg12)) (ix2 ⟨1024 * (t.val % 8) + i.val, row_lt t i⟩ j) := by
  blk_point [iblk, V, idx12 t ht]

/-- A half of a block of piece 11. -/
theorem blk11a (t : Fin cfg0.N) (ht : t.val / 8 = 5) (k : Fin 1024) (i : Fin 512) :
    View.ld (iblk m c 11 t) (Rect.unit ![0, 0] ![1024, 512] inb_S1024x1024_S1024x512_0_0) (ix2 k i)
    = (m ((c : Thread nD τ).loc main_arg11)) (ix2 ⟨1024 * (t.val % 8) + k.val, row_lt t k⟩ ⟨i.val, by omega⟩) := by
  blk_point [iblk, V, idx11 t ht]

/-- A half of a block of piece 11. -/
theorem blk11b (t : Fin cfg0.N) (ht : t.val / 8 = 5) (k : Fin 1024) (i : Fin 512) :
    View.ld (iblk m c 11 t) (Rect.unit ![0, 512] ![1024, 512] inb_S1024x1024_S1024x512_0_512) (ix2 k i)
    = (m ((c : Thread nD τ).loc main_arg11)) (ix2 ⟨1024 * (t.val % 8) + k.val, row_lt t k⟩ ⟨512 + i.val, by omega⟩) := by
  blk_point [iblk, V, idx11 t ht]

/-- A half of a block of piece 12. -/
theorem blk12a (t : Fin cfg0.N) (ht : t.val / 8 = 6) (k : Fin 1024) (i : Fin 512) :
    View.ld (iblk m c 12 t) (Rect.unit ![0, 0] ![1024, 512] inb_S1024x1024_S1024x512_0_0) (ix2 k i)
    = (m ((c : Thread nD τ).loc main_arg12)) (ix2 ⟨1024 * (t.val % 8) + k.val, row_lt t k⟩ ⟨i.val, by omega⟩) := by
  blk_point [iblk, V, idx12 t ht]

/-- A half of a block of piece 12. -/
theorem blk12b (t : Fin cfg0.N) (ht : t.val / 8 = 6) (k : Fin 1024) (i : Fin 512) :
    View.ld (iblk m c 12 t) (Rect.unit ![0, 512] ![1024, 512] inb_S1024x1024_S1024x512_0_512) (ix2 k i)
    = (m ((c : Thread nD τ).loc main_arg12)) (ix2 ⟨1024 * (t.val % 8) + k.val, row_lt t k⟩ ⟨512 + i.val, by omega⟩) := by
  blk_point [iblk, V, idx12 t ht]

/-- A first point of column block 0. -/
theorem outA (t : Fin cfg0.N) (ht : t.val / 8 = 0) (h : t.val % 8 = 0) (j) : outsAt0 m c t.val t.isLt j = 0 + term m c t j := by
  have hN := point_lt t
  rw [outsAt0_A m c t h (by omega) (by omega) (by omega) (by omega) (by omega) (by omega) (by omega)]
  frame_out
  rw [PcsBody.pay2, PcsBody.zero]
  unfold term addend
  refine congrArg (_ + ·) (Finset.sum_congr rfl fun k _ => ?_)
  refine mul_eq (blk0 m c t k (j 0)) ?_
  exact (congrArg₂ (fun u w => PcsBody.side u w (j 1)) (funext fun i => blk1 m c t ht k i) (funext fun i => blk2 m c t ht k i)).trans
    (PcsBody.col0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 0 + (j 1).val by omega)).symm

/-- A further point of column block 0. -/
theorem outB (t : Fin cfg0.N) (ht : t.val / 8 = 0) (h : ¬t.val % 8 = 0) (j) : outsAt0 m c t.val t.isLt j = outsAt0 m c (t.val - 1) (Nat.lt_of_le_of_lt (Nat.sub_le _ _) t.isLt) j + term m c t j := by
  have hN := point_lt t
  rw [outsAt0_B m c t h (by omega) (by omega) (by omega) (by omega) (by omega) (by omega) (by omega)]
  frame_out
  rw [PcsBody.pay2]
  unfold term addend
  refine congrArg (_ + ·) (Finset.sum_congr rfl fun k _ => ?_)
  refine mul_eq (blk0 m c t k (j 0)) ?_
  exact (congrArg₂ (fun u w => PcsBody.side u w (j 1)) (funext fun i => blk1 m c t ht k i) (funext fun i => blk2 m c t ht k i)).trans
    (PcsBody.col0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 0 + (j 1).val by omega)).symm

/-- A first point of column block 1. -/
theorem outC (t : Fin cfg0.N) (ht : t.val / 8 = 1) (h : t.val % 8 = 0) (j) : outsAt0 m c t.val t.isLt j = 0 + term m c t j := by
  have hN := point_lt t
  rw [outsAt0_C m c t h (by omega) (by omega) (by omega) (by omega) (by omega) (by omega) (by omega)]
  frame_out
  rw [show @k0_pay3 = @k0_pay2 from rfl, PcsBody.pay2, PcsBody.zero]
  unfold term addend
  refine congrArg (_ + ·) (Finset.sum_congr rfl fun k _ => ?_)
  refine mul_eq (blk0 m c t k (j 0)) ?_
  exact (congrArg₂ (fun u w => PcsBody.side u w (j 1)) (funext fun i => blk3 m c t ht k i) (funext fun i => blk4 m c t ht k i)).trans
    (PcsBody.col1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 1024 + (j 1).val by omega)).symm

/-- A further point of column block 1. -/
theorem outD (t : Fin cfg0.N) (ht : t.val / 8 = 1) (h : ¬t.val % 8 = 0) (j) : outsAt0 m c t.val t.isLt j = outsAt0 m c (t.val - 1) (Nat.lt_of_le_of_lt (Nat.sub_le _ _) t.isLt) j + term m c t j := by
  have hN := point_lt t
  rw [outsAt0_D m c t h (by omega) (by omega) (by omega) (by omega) (by omega) (by omega) (by omega)]
  frame_out
  rw [show @k0_pay3 = @k0_pay2 from rfl, PcsBody.pay2]
  unfold term addend
  refine congrArg (_ + ·) (Finset.sum_congr rfl fun k _ => ?_)
  refine mul_eq (blk0 m c t k (j 0)) ?_
  exact (congrArg₂ (fun u w => PcsBody.side u w (j 1)) (funext fun i => blk3 m c t ht k i) (funext fun i => blk4 m c t ht k i)).trans
    (PcsBody.col1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 1024 + (j 1).val by omega)).symm

/-- A first point of column block 2. -/
theorem outE (t : Fin cfg0.N) (ht : t.val / 8 = 2) (h : t.val % 8 = 0) (j) : outsAt0 m c t.val t.isLt j = 0 + term m c t j := by
  have hN := point_lt t
  rw [outsAt0_E m c t h (by omega) (by omega) (by omega) (by omega) (by omega) (by omega) (by omega)]
  frame_out
  rw [show @k0_pay4 = @k0_pay2 from rfl, PcsBody.pay2, PcsBody.zero]
  unfold term addend
  refine congrArg (_ + ·) (Finset.sum_congr rfl fun k _ => ?_)
  refine mul_eq (blk0 m c t k (j 0)) ?_
  exact (congrArg₂ (fun u w => PcsBody.side u w (j 1)) (funext fun i => blk5 m c t ht k i) (funext fun i => blk6 m c t ht k i)).trans
    (PcsBody.col2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 2048 + (j 1).val by omega)).symm

/-- A further point of column block 2. -/
theorem outF (t : Fin cfg0.N) (ht : t.val / 8 = 2) (h : ¬t.val % 8 = 0) (j) : outsAt0 m c t.val t.isLt j = outsAt0 m c (t.val - 1) (Nat.lt_of_le_of_lt (Nat.sub_le _ _) t.isLt) j + term m c t j := by
  have hN := point_lt t
  rw [outsAt0_F m c t h (by omega) (by omega) (by omega) (by omega) (by omega) (by omega) (by omega)]
  frame_out
  rw [show @k0_pay4 = @k0_pay2 from rfl, PcsBody.pay2]
  unfold term addend
  refine congrArg (_ + ·) (Finset.sum_congr rfl fun k _ => ?_)
  refine mul_eq (blk0 m c t k (j 0)) ?_
  exact (congrArg₂ (fun u w => PcsBody.side u w (j 1)) (funext fun i => blk5 m c t ht k i) (funext fun i => blk6 m c t ht k i)).trans
    (PcsBody.col2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 2048 + (j 1).val by omega)).symm

/-- A first point of column block 3. -/
theorem outG (t : Fin cfg0.N) (ht : t.val / 8 = 3) (h : t.val % 8 = 0) (j) : outsAt0 m c t.val t.isLt j = 0 + term m c t j := by
  have hN := point_lt t
  rw [outsAt0_G m c t h (by omega) (by omega) (by omega) (by omega) (by omega) (by omega) (by omega)]
  frame_out
  rw [PcsBody.pay5, PcsBody.zero]
  unfold term addend
  refine congrArg (_ + ·) (Finset.sum_congr rfl fun k _ => ?_)
  refine mul_eq (blk0 m c t k (j 0)) ?_
  exact (congrArg₂ (fun u w => PcsBody.side u w (j 1)) (funext fun i => blk7 m c t ht k i) (funext fun i => blk8 m c t ht k i)).trans
    (PcsBody.col3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 3072 + (j 1).val by omega)).symm

/-- A further point of column block 3. -/
theorem outH (t : Fin cfg0.N) (ht : t.val / 8 = 3) (h : ¬t.val % 8 = 0) (j) : outsAt0 m c t.val t.isLt j = outsAt0 m c (t.val - 1) (Nat.lt_of_le_of_lt (Nat.sub_le _ _) t.isLt) j + term m c t j := by
  have hN := point_lt t
  rw [outsAt0_H m c t h (by omega) (by omega) (by omega) (by omega) (by omega) (by omega) (by omega)]
  frame_out
  rw [PcsBody.pay5]
  unfold term addend
  refine congrArg (_ + ·) (Finset.sum_congr rfl fun k _ => ?_)
  refine mul_eq (blk0 m c t k (j 0)) ?_
  exact (congrArg₂ (fun u w => PcsBody.side u w (j 1)) (funext fun i => blk7 m c t ht k i) (funext fun i => blk8 m c t ht k i)).trans
    (PcsBody.col3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 3072 + (j 1).val by omega)).symm

/-- A first point of column block 4. -/
theorem outI (t : Fin cfg0.N) (ht : t.val / 8 = 4) (h : t.val % 8 = 0) (j) : outsAt0 m c t.val t.isLt j = 0 + term m c t j := by
  have hN := point_lt t
  rw [outsAt0_I m c t h (by omega) (by omega) (by omega) (by omega) (by omega) (by omega) (by omega)]
  frame_out
  rw [PcsBody.pay6, PcsBody.zero]
  unfold term addend
  refine congrArg (_ + ·) (Finset.sum_congr rfl fun k _ => ?_)
  refine mul_eq (blk0 m c t k (j 0)) ?_
  exact (congrArg₂ (fun u w => PcsBody.side u w (j 1)) (funext fun i => blk9 m c t ht k i) (funext fun i => blk10 m c t ht k i)).trans
    (PcsBody.col4 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 4096 + (j 1).val by omega)).symm

/-- A further point of column block 4. -/
theorem outJ (t : Fin cfg0.N) (ht : t.val / 8 = 4) (h : ¬t.val % 8 = 0) (j) : outsAt0 m c t.val t.isLt j = outsAt0 m c (t.val - 1) (Nat.lt_of_le_of_lt (Nat.sub_le _ _) t.isLt) j + term m c t j := by
  have hN := point_lt t
  rw [outsAt0_J m c t h (by omega) (by omega) (by omega) (by omega) (by omega) (by omega) (by omega)]
  frame_out
  rw [PcsBody.pay6]
  unfold term addend
  refine congrArg (_ + ·) (Finset.sum_congr rfl fun k _ => ?_)
  refine mul_eq (blk0 m c t k (j 0)) ?_
  exact (congrArg₂ (fun u w => PcsBody.side u w (j 1)) (funext fun i => blk9 m c t ht k i) (funext fun i => blk10 m c t ht k i)).trans
    (PcsBody.col4 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 4096 + (j 1).val by omega)).symm

/-- A first point of column block 5. -/
theorem outK (t : Fin cfg0.N) (ht : t.val / 8 = 5) (h : t.val % 8 = 0) (j) : outsAt0 m c t.val t.isLt j = 0 + term m c t j := by
  have hN := point_lt t
  rw [outsAt0_K m c t h (by omega) (by omega) (by omega) (by omega) (by omega) (by omega) (by omega)]
  frame_out
  rw [show @k0_pay7 = @k0_pay2 from rfl, PcsBody.pay2, PcsBody.zero]
  unfold term addend
  refine congrArg (_ + ·) (Finset.sum_congr rfl fun k _ => ?_)
  refine mul_eq (blk0 m c t k (j 0)) ?_
  exact (congrArg₂ (fun u w => PcsBody.side u w (j 1)) (funext fun i => blk11a m c t ht k i) (funext fun i => blk11b m c t ht k i)).trans
    (PcsBody.col5 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 5120 + (j 1).val by omega)).symm

/-- A further point of column block 5. -/
theorem outL (t : Fin cfg0.N) (ht : t.val / 8 = 5) (h : ¬t.val % 8 = 0) (j) : outsAt0 m c t.val t.isLt j = outsAt0 m c (t.val - 1) (Nat.lt_of_le_of_lt (Nat.sub_le _ _) t.isLt) j + term m c t j := by
  have hN := point_lt t
  rw [outsAt0_L m c t h (by omega) (by omega) (by omega) (by omega) (by omega) (by omega) (by omega)]
  frame_out
  rw [show @k0_pay7 = @k0_pay2 from rfl, PcsBody.pay2]
  unfold term addend
  refine congrArg (_ + ·) (Finset.sum_congr rfl fun k _ => ?_)
  refine mul_eq (blk0 m c t k (j 0)) ?_
  exact (congrArg₂ (fun u w => PcsBody.side u w (j 1)) (funext fun i => blk11a m c t ht k i) (funext fun i => blk11b m c t ht k i)).trans
    (PcsBody.col5 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 5120 + (j 1).val by omega)).symm

/-- A first point of column block 6. -/
theorem outM (t : Fin cfg0.N) (ht : t.val / 8 = 6) (h : t.val % 8 = 0) (j) : outsAt0 m c t.val t.isLt j = 0 + term m c t j := by
  have hN := point_lt t
  rw [outsAt0_M m c t h (by omega) (by omega) (by omega) (by omega) (by omega) (by omega) (by omega)]
  frame_out
  rw [show @k0_pay8 = @k0_pay2 from rfl, PcsBody.pay2, PcsBody.zero]
  unfold term addend
  refine congrArg (_ + ·) (Finset.sum_congr rfl fun k _ => ?_)
  refine mul_eq (blk0 m c t k (j 0)) ?_
  exact (congrArg₂ (fun u w => PcsBody.side u w (j 1)) (funext fun i => blk12a m c t ht k i) (funext fun i => blk12b m c t ht k i)).trans
    (PcsBody.col6 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 6144 + (j 1).val by omega)).symm

/-- A further point of column block 6. -/
theorem outN (t : Fin cfg0.N) (ht : t.val / 8 = 6) (h : ¬t.val % 8 = 0) (j) : outsAt0 m c t.val t.isLt j = outsAt0 m c (t.val - 1) (Nat.lt_of_le_of_lt (Nat.sub_le _ _) t.isLt) j + term m c t j := by
  have hN := point_lt t
  rw [outsAt0_N m c t h (by omega) (by omega) (by omega) (by omega) (by omega) (by omega) (by omega)]
  frame_out
  rw [show @k0_pay8 = @k0_pay2 from rfl, PcsBody.pay2]
  unfold term addend
  refine congrArg (_ + ·) (Finset.sum_congr rfl fun k _ => ?_)
  refine mul_eq (blk0 m c t k (j 0)) ?_
  exact (congrArg₂ (fun u w => PcsBody.side u w (j 1)) (funext fun i => blk12a m c t ht k i) (funext fun i => blk12b m c t ht k i)).trans
    (PcsBody.col6 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ (j 1) (show 1024 * (t.val / 8) + (j 1).val = 6144 + (j 1).val by omega)).symm

/-- There are seven column blocks. -/
theorem cases (t : Fin cfg0.N) : t.val / 8 = 0 ∨ t.val / 8 = 1 ∨ t.val / 8 = 2 ∨ t.val / 8 = 3 ∨ t.val / 8 = 4 ∨ t.val / 8 = 5 ∨ t.val / 8 = 6 := by
  have := point_lt t; omega

/-- The first point of a block. -/
theorem head (t : Fin cfg0.N) (h : t.val % 8 = 0) (j) : outsAt0 m c t.val t.isLt j = 0 + term m c t j := by
  rcases cases t with h' | h' | h' | h' | h' | h' | h'
  · exact outA m c t h' h j
  · exact outC m c t h' h j
  · exact outE m c t h' h j
  · exact outG m c t h' h j
  · exact outI m c t h' h j
  · exact outK m c t h' h j
  · exact outM m c t h' h j

/-- A further point of a block. -/
theorem further (t : Fin cfg0.N) (h : ¬t.val % 8 = 0) (j) : outsAt0 m c t.val t.isLt j
    = outsAt0 m c (t.val - 1) (Nat.lt_of_le_of_lt (Nat.sub_le _ _) t.isLt) j + term m c t j := by
  rcases cases t with h' | h' | h' | h' | h' | h' | h'
  · exact outB m c t h' h j
  · exact outD m c t h' h j
  · exact outF m c t h' h j
  · exact outH m c t h' h j
  · exact outJ m c t h' h j
  · exact outL m c t h' h j
  · exact outN m c t h' h j

/-- The whole result. -/
theorem final : (dats m 0 c).arrAt 13 (cfgs 0).N
    = Cert.PcsRefIdeal.Read.val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf y => ?_
  have e : (win0_13.blk t).view.emb y = ix2 (y 0) ⟨1024 * (t.val / 8) + (y 1).val, col_lt t (y 1)⟩ := by
    blk_ext! [idx t]
  blk_simp
  rw [after0_13, Pipeline.eq_sum_fin_of_reset_step_apply_of_flush (fun n h => outsAt0 m c n h) 8 (fun _ => 0) _
    (fun t h j => head m c t h j) (fun t h j => further m c t h j)
    t ((flush0_13 t).mp hf) _, zero_add, PcsBody.href, e]
  unfold term addend
  refine Fin.sum_mul_add_congr fun s k hl => ?_
  have h1 : (8 * (t.val / 8) + s.val) % 8 = s.val := by omega
  have h2 : (8 * (t.val / 8) + s.val) / 8 = t.val / 8 := by omega
  refine congrArg₂ (fun a b => a * b) (congrArg (fun l => (m ((c : Thread nD τ).loc main_arg0)) (ix2 l (y 0))) (Fin.ext ?_))
    (congrArg₂ (fun l k => Cert.PcsRefIdeal.Read.val_main_v10 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 l k)) (Fin.ext ?_) (Fin.ext ?_))
  · show 1024 * ((8 * (t.val / 8) + s.val) % 8) + k.val = s.val * 1024 + k.val; omega
  · show 1024 * ((8 * (t.val / 8) + s.val) % 8) + k.val = s.val * 1024 + k.val; omega
  · show 1024 * ((8 * (t.val / 8) + s.val) / 8) + (y 1).val = 1024 * (t.val / 8) + (y 1).val; omega

set_option maxHeartbeats 4000000 in
/-- The call and its reference end with equal results. -/
theorem algebraic : Cert.algebraic_PcsIdeal_PcsRefIdeal := by
  pair_intro
  · run_from Cert.PcsIdeal.Gen.run_main m g
  · refine (θ_run _ _ _).mono (fun r hr c => ?_) (Cert.PcsRefIdeal.Value.run (F := Ideal) m' g')
    obtain ⟨a0, a1, a2, a3, a4, a5, a6, a7, a8, a9, a10, a11, a12⟩ := hagree c
    have hc := hr c
    refine ⟨hc.1.trans ((Cert.PcsRefIdeal.Read.val_main_v12_eq (F := Ideal) _ _ _ _ _ _ _ _ _ _ _ _ _).trans ?_), hc.2⟩
    show _ = (dats m 0 c).arrAt 13 (cfgs 0).N
    rw [final m c, a0, a1, a2, a3, a4, a5, a6, a7, a8, a9, a10, a11, a12]

/-- The reference runs, its arguments end unchanged and every counter ends at zero. -/
theorem frame : Cert.quiescent_PcsRefIdeal := fun m ρ _ =>
  (θ_run _ _ _).mono (fun r h => ⟨fun c => (h c).2, sem_eq_zero_of_no_sems (by decide) r.2⟩)
    (Cert.PcsRefIdeal.Value.run (F := Ideal) m ρ)

end Cert.Proof.PcsValue

end
-- ==== Proof.FfnFwdBody.lean ====
/- What one grid point of the feed-forward forward call computes, entry by entry, and the reference's result. -/
module

public import proofs.«01_k».proof.Proof.Norm
public import proofs.«01_k».proof.Proof.Gen.FfnFwdIdeal.Skeleton
public import proofs.«01_k».proof.Proof.Gen.FfnFwdRefIdeal.Read
public import Idealize.ShloMosaic.Lib.Pointwise.Index
import Idealize.ShloMosaic.Lib.Pipeline.ValueKit
import Idealize.ShloMosaic.Lib.Pointwise

@[expose] public section

set_option maxRecDepth 16384

noncomputable section

namespace Cert.Proof.FfnFwdBody

open Idealize.ShloMosaic Idealize.ShloMosaic.TcCoe Idealize.SL.Sem
open Cert.FfnFwdIdeal Cert.FfnFwdIdeal.Gen

/-- One hidden unit: the gate times its logistic, times the up projection. -/
def unit (h g u : Fin 1024 → EReal) : EReal := (∑ p, h p * g p) * ((sg (∑ p, h p * g p) : ℝ) : EReal) * ∑ p, h p * u p

/-- The zero that the sum begins with. -/
theorem zero (j) : k0_pay4 (F := Ideal) j = 0 := by pointwise [k0_pay4]

/-- The normed rows. -/
theorem norm (x : Vec Ideal S1024x1024 .f32) (g : Vec Ideal S1x1024 .f32) (j) : k0_pay3 (F := Ideal) x g j
    = x j * Norm.rs (fun k => x (ix2 (j 0) k)) * g (ix2 0 (j 1)) := by
  pointwise [k0_pay3]
  rfl

/-- The result of a block. -/
theorem add (x acc : Vec Ideal S1024x1024 .f32) (j) : k0_pay2 (F := Ideal) x acc j = x j + acc j := by
  pointwise [k0_pay2]

/-- The first half of a step's hidden units. -/
theorem first (h : Vec Ideal S1024x1024 .bf16) (g u : Vec Ideal S1024x512 .bf16) (d : Vec Ideal S512x1024 .bf16) (j) : k0_pay5 (F := Ideal) h g u d j
    = ∑ k : Fin 512, unit (fun p => h (ix2 (j 0) p)) (fun p => g (ix2 p k)) (fun p => u (ix2 p k)) * d (ix2 k (j 1)) := by
  pointwise [k0_pay5]
  refine Finset.sum_congr rfl fun k _ => ?_
  rw [unit, ← sg_of_tanh, ← lit_half]

/-- The second half of a step's hidden units, and the sum carried on. -/
theorem second (d0 : FVec Ideal S1024x1024 .f32) (h : Vec Ideal S1024x1024 .bf16) (g u : Vec Ideal S1024x512 .bf16) (d : Vec Ideal S512x1024 .bf16) (acc : Vec Ideal S1024x1024 .f32) (j) :
    k0_pay1 (F := Ideal) d0 (k0_pay6 h u) (k0_pay7 h g) d acc j
    = acc j + (d0 j + ∑ k : Fin 512, unit (fun p => h (ix2 (j 0) p)) (fun p => g (ix2 p k)) (fun p => u (ix2 p k)) * d (ix2 k (j 1))) := by
  pointwise [k0_pay1, k0_pay6, k0_pay7]
  refine congrArg (fun s => _ + (_ + s)) (Finset.sum_congr rfl fun k _ => ?_)
  rw [unit, ← sg_of_tanh, ← lit_half]

section
open Cert.FfnFwdRefIdeal.Read
variable (x0 : FVec Ideal S8192x1024 .f32) (x1 : FVec Ideal S1x1024 .f32) (x2 x3 : FVec Ideal S1024x3072 .bf16) (x4 : FVec Ideal S3072x1024 .bf16)

/-- The normed rows of the reference. -/
theorem hnorm (l : Fin 8192) (p : Fin 1024) : val_main_v14 (F := Ideal) x0 x1 (ix2 l p)
    = x0 (ix2 l p) * Norm.rs (fun k => x0 (ix2 l k)) * x1 (ix2 0 p) := by
  pointwise [val_main_v14, val_main_v13, val_main_v12, val_main_v11, val_main_v10, val_main_v9, val_main_v8, val_main_v7, val_main_v6, val_main_v5, val_main_v4, val_main_v3, val_main_cst, val_main_cst_0, val_main_cst_1]
  rfl

/-- A product of the normed rows. -/
theorem hgate (l : Fin 8192) (k : Fin 3072) : val_main_v15 (F := Ideal) x0 x1 x2 (ix2 l k)
    = ∑ p : Fin 1024, val_main_v14 (F := Ideal) x0 x1 (ix2 l p) * x2 (ix2 p k) := by
  pointwise [val_main_v15, val_main_v0]

/-- The other product of the normed rows. -/
theorem hup (l : Fin 8192) (k : Fin 3072) : val_main_v17 (F := Ideal) x0 x1 x3 (ix2 l k)
    = ∑ p : Fin 1024, val_main_v14 (F := Ideal) x0 x1 (ix2 l p) * x3 (ix2 p k) := by
  pointwise [val_main_v17, val_main_v1]

/-- The gate times its logistic. -/
theorem hsilu (l : Fin 8192) (k : Fin 3072) : val_main_v16 (F := Ideal) x0 x1 x2 (ix2 l k)
    = val_main_v15 (F := Ideal) x0 x1 x2 (ix2 l k) * ((sg (val_main_v15 (F := Ideal) x0 x1 x2 (ix2 l k)) : ℝ) : EReal) := by
  rw [← sg_of_exp]
  pointwise [val_main_v16, val_main_call0_v5, val_main_call0_v4, val_main_call0_v3, val_main_call0_v2, val_main_call0_v1, val_main_call0_v0, val_main_call0_cst, val_main_call0_cst_0]

/-- A hidden unit of the reference. -/
theorem hunit (l : Fin 8192) (k : Fin 3072) : val_main_v18 (F := Ideal) x0 x1 x2 x3 (ix2 l k)
    = unit (fun p => val_main_v14 (F := Ideal) x0 x1 (ix2 l p)) (fun p => x2 (ix2 p k)) (fun p => x3 (ix2 p k)) := by
  pointwise [val_main_v18]
  rw [hsilu, hup, hgate, unit]

/-- The reference's result. -/
theorem href (j) : val_main_v20 (F := Ideal) x0 x1 x2 x3 x4 j
    = x0 j + ∑ k : Fin 3072, unit (fun p => val_main_v14 (F := Ideal) x0 x1 (ix2 (j 0) p)) (fun p => x2 (ix2 p k)) (fun p => x3 (ix2 p k)) * x4 (ix2 k (j 1)) := by
  have e : val_main_v20 (F := Ideal) x0 x1 x2 x3 x4 j
      = x0 j + ∑ k : Fin 3072, val_main_v18 (F := Ideal) x0 x1 x2 x3 (ix2 (j 0) k) * x4 (ix2 k (j 1)) := by
    pointwise [val_main_v20, val_main_v19, val_main_v2]
  rw [e]
  exact congrArg (_ + ·) (Finset.sum_congr rfl fun k _ => congrArg (· * _) (hunit x0 x1 x2 x3 (j 0) k))

end

end Cert.Proof.FfnFwdBody

end
-- ==== Proof.FfnFwdValue.lean ====
/- The feed-forward forward call: its result is the reference's, block by block of 1024 rows, 1024 hidden units at a time. -/
module

public import proofs.«01_k».proof.Proof.FfnFwdBody
public import proofs.«01_k».proof.Defs
public import proofs.«01_k».proof.Proof.Gen.FfnFwdIdeal.Frame
public import proofs.«01_k».proof.Proof.Gen.FfnFwdRefIdeal
public import proofs.«01_k».proof.Proof.Gen.FfnFwdRefIdeal.Run
import Idealize.ShloMosaic.Lib.Claim
import Idealize.ShloMosaic.Lib.Pipeline.ValueKit
import Idealize.ShloMosaic.Lib.Pointwise

@[expose] public section

set_option maxRecDepth 16384

noncomputable section

namespace Cert.Proof.FfnFwdValue

open Idealize.ShloMosaic Idealize.ShloMosaic.TcCoe Idealize.SL.Sem
open Cert.FfnFwdIdeal Cert.FfnFwdIdeal.Gen

variable (m : (ℓ : Loc nD τ sig) → Buf (Elt Ideal) ℓ) (c : Dev nD)

/-- The index maps: the rows follow the first coordinate of the grid, the hidden units the second. -/
theorem idx : ∀ t : Fin cfg0.N, win0_0.index t = ![t.val / 3, 0] ∧ win0_1.index t = ![0, 0] ∧ win0_2.index t = ![0, t.val % 3]
    ∧ win0_3.index t = ![0, t.val % 3] ∧ win0_4.index t = ![t.val % 3, 0] ∧ win0_5.index t = ![t.val / 3, 0] :=
  (by decide +kernel : ∀ t : Fin grid0.N, _)

/-- There are 24 points. -/
theorem point_lt (t : Fin cfg0.N) : t.val < 24 := lt_of_lt_of_eq t.isLt (show cfg0.N = 24 from N_0)

/-- The row of a block lies in the array. -/
theorem row_lt (n : ℕ) (h : n < 24) (i : Fin 1024) : 1024 * (n / 3) + i.val < 8192 := by omega

/-- The hidden unit of a block lies in the array. -/
theorem unit_lt (n : ℕ) (k : Fin 1024) : 1024 * (n % 3) + k.val < 3072 := by omega

/-- Sums of equals are equal. -/
theorem add_eq {a b a' b' : EReal} (h : a = a') (h' : b = b') : a + b = a' + b' := by rw [h, h']

/-- Products of equals are equal. -/
theorem mul_eq {a b a' b' : EReal} (h : a = a') (h' : b = b') : a * b = a' * b' := by rw [h, h']

/-- Hidden units of equal rows are equal. -/
theorem unit_eq {h g u h' g' u' : Fin 1024 → EReal} (eh : ∀ p, h p = h' p) (eg : ∀ p, g p = g' p) (eu : ∀ p, u p = u' p) :
    FfnFwdBody.unit h g u = FfnFwdBody.unit h' g' u' := by
  rw [funext eh, funext eg, funext eu]

/-- A block of the rows. -/
theorem blk0 (t : Fin cfg0.N) (i j : Fin 1024) : iblk m c 0 t (ix2 i j) = (m ((c : Thread nD τ).loc main_arg0)) (ix2 ⟨1024 * (t.val / 3) + i.val, row_lt t.val (point_lt t) i⟩ j) := by
  blk_point [iblk, V, idx t]

/-- The gain's block. -/
theorem blk1 (t : Fin cfg0.N) (j : Fin 1024) : iblk m c 1 t (ix2 0 j) = (m ((c : Thread nD τ).loc main_arg1)) (ix2 0 j) := by
  blk_point [iblk, V, idx t]

/-- A half of the gate's block. -/
theorem blk2a (t : Fin cfg0.N) (p : Fin 1024) (k : Fin 512) : View.ld (iblk m c 2 t) (Rect.unit ![0, 0] ![1024, 512] inb_S1024x1024_S1024x512_0_0) (ix2 p k)
    = (m ((c : Thread nD τ).loc main_arg2)) (ix2 p ⟨1024 * (t.val % 3) + k.val, by omega⟩) := by
  blk_point [iblk, V, idx t]

/-- A half of the gate's block. -/
theorem blk2b (t : Fin cfg0.N) (p : Fin 1024) (k : Fin 512) : View.ld (iblk m c 2 t) (Rect.unit ![0, 512] ![1024, 512] inb_S1024x1024_S1024x512_0_512) (ix2 p k)
    = (m ((c : Thread nD τ).loc main_arg2)) (ix2 p ⟨1024 * (t.val % 3) + (512 + k.val), by omega⟩) := by
  blk_point [iblk, V, idx t]

/-- A half of the up projection's block. -/
theorem blk3a (t : Fin cfg0.N) (p : Fin 1024) (k : Fin 512) : View.ld (iblk m c 3 t) (Rect.unit ![0, 0] ![1024, 512] inb_S1024x1024_S1024x512_0_0) (ix2 p k)
    = (m ((c : Thread nD τ).loc main_arg3)) (ix2 p ⟨1024 * (t.val % 3) + k.val, by omega⟩) := by
  blk_point [iblk, V, idx t]

/-- A half of the up projection's block. -/
theorem blk3b (t : Fin cfg0.N) (p : Fin 1024) (k : Fin 512) : View.ld (iblk m c 3 t) (Rect.unit ![0, 512] ![1024, 512] inb_S1024x1024_S1024x512_0_512) (ix2 p k)
    = (m ((c : Thread nD τ).loc main_arg3)) (ix2 p ⟨1024 * (t.val % 3) + (512 + k.val), by omega⟩) := by
  blk_point [iblk, V, idx t]

/-- A half of the down projection's block. -/
theorem blk4a (t : Fin cfg0.N) (k : Fin 512) (j : Fin 1024) : View.ld (iblk m c 4 t) (Rect.unit ![0, 0] ![512, 1024] inb_S1024x1024_S512x1024_0_0) (ix2 k j)
    = (m ((c : Thread nD τ).loc main_arg4)) (ix2 ⟨1024 * (t.val % 3) + k.val, by omega⟩ j) := by
  blk_point [iblk, V, idx t]

/-- A half of the down projection's block. -/
theorem blk4b (t : Fin cfg0.N) (k : Fin 512) (j : Fin 1024) : View.ld (iblk m c 4 t) (Rect.unit ![512, 0] ![512, 1024] inb_S1024x1024_S512x1024_512_0) (ix2 k j)
    = (m ((c : Thread nD τ).loc main_arg4)) (ix2 ⟨1024 * (t.val % 3) + (512 + k.val), by omega⟩ j) := by
  blk_point [iblk, V, idx t]

/-- The normed rows at the first point of a block of rows. -/
theorem hA (t : Fin cfg0.N) (h : t.val % 3 = 0) : (outsAt0 m c t.val t.isLt).2.1 = k0_pay3 (iblk m c 0 t) (iblk m c 1 t) := by
  rw [outsAt0_A m c t h (by omega)]
  frame_out

/-- Further points keep the normed rows. -/
theorem hB (t : Fin cfg0.N) (h : ¬t.val % 3 = 0) : (outsAt0 m c t.val t.isLt).2.1 = (outsAt0 m c (t.val - 1) (Nat.lt_of_le_of_lt (Nat.sub_le _ _) t.isLt)).2.1 := by
  by_cases h' : t.val % 3 = 2
  · rw [outsAt0_C m c t h h']
    rfl
  · rw [outsAt0_B m c t h h']
    rfl

/-- The normed rows of a point. -/
theorem rows (n : ℕ) (h : n < cfg0.N) (i p : Fin 1024) : (outsAt0 m c n h).2.1 (ix2 i p)
    = Cert.FfnFwdRefIdeal.Read.val_main_v14 (F := Ideal) (m ((c : Thread nD τ).loc main_arg0)) (m ((c : Thread nD τ).loc main_arg1)) (ix2 ⟨1024 * (n / 3) + i.val, row_lt n (point_lt ⟨n, h⟩) i⟩ p) := by
  induction n with
  | zero =>
    rw [hA m c ⟨0, h⟩ rfl, FfnFwdBody.norm, FfnFwdBody.hnorm]
    exact mul_eq (mul_eq (blk0 m c ⟨0, h⟩ i p) (congrArg Norm.rs (funext fun k => blk0 m c ⟨0, h⟩ i k))) (blk1 m c ⟨0, h⟩ p)
  | succ n ih =>
    by_cases h' : (n + 1) % 3 = 0
    · rw [hA m c ⟨n + 1, h⟩ h', FfnFwdBody.norm, FfnFwdBody.hnorm]
      exact mul_eq (mul_eq (blk0 m c ⟨n + 1, h⟩ i p) (congrArg Norm.rs (funext fun k => blk0 m c ⟨n + 1, h⟩ i k))) (blk1 m c ⟨n + 1, h⟩ p)
    · rw [hB m c ⟨n + 1, h⟩ h']
      refine (ih (Nat.lt_of_succ_lt h)).trans (congrArg (fun l => Cert.FfnFwdRefIdeal.Read.val_main_v14 (F := Ideal) (m ((c : Thread nD τ).loc main_arg0)) (m ((c : Thread nD τ).loc main_arg1)) (ix2 l p)) (Fin.ext ?_))
      dsimp only; omega

/-- What a point adds to an entry of its block. -/
def term (t : Fin cfg0.N) (j : S1024x1024.Idx) : EReal :=
  ∑ k : Fin 1024, FfnFwdBody.unit (fun p => Cert.FfnFwdRefIdeal.Read.val_main_v14 (F := Ideal) (m ((c : Thread nD τ).loc main_arg0)) (m ((c : Thread nD τ).loc main_arg1)) (ix2 ⟨1024 * (t.val / 3) + (j 0).val, row_lt t.val (point_lt t) (j 0)⟩ p))
      (fun p => (m ((c : Thread nD τ).loc main_arg2)) (ix2 p ⟨1024 * (t.val % 3) + k.val, unit_lt t.val k⟩)) (fun p => (m ((c : Thread nD τ).loc main_arg3)) (ix2 p ⟨1024 * (t.val % 3) + k.val, unit_lt t.val k⟩))
    * (m ((c : Thread nD τ).loc main_arg4)) (ix2 ⟨1024 * (t.val % 3) + k.val, unit_lt t.val k⟩ (j 1))

/-- A point's two halves are what it adds. -/
theorem step (t : Fin cfg0.N) (h : Vec Ideal S1024x1024 .bf16)
    (hh : ∀ i p, h (ix2 i p) = Cert.FfnFwdRefIdeal.Read.val_main_v14 (F := Ideal) (m ((c : Thread nD τ).loc main_arg0)) (m ((c : Thread nD τ).loc main_arg1)) (ix2 ⟨1024 * (t.val / 3) + i.val, row_lt t.val (point_lt t) i⟩ p)) (j) :
    k0_pay5 (F := Ideal) h (View.ld (iblk m c 2 t) (Rect.unit ![0, 0] ![1024, 512] inb_S1024x1024_S1024x512_0_0)) (View.ld (iblk m c 3 t) (Rect.unit ![0, 0] ![1024, 512] inb_S1024x1024_S1024x512_0_0)) (View.ld (iblk m c 4 t) (Rect.unit ![0, 0] ![512, 1024] inb_S1024x1024_S512x1024_0_0)) j
      + ∑ k : Fin 512, FfnFwdBody.unit (fun p => h (ix2 (j 0) p)) (fun p => View.ld (iblk m c 2 t) (Rect.unit ![0, 512] ![1024, 512] inb_S1024x1024_S1024x512_0_512) (ix2 p k)) (fun p => View.ld (iblk m c 3 t) (Rect.unit ![0, 512] ![1024, 512] inb_S1024x1024_S1024x512_0_512) (ix2 p k))
        * View.ld (iblk m c 4 t) (Rect.unit ![512, 0] ![512, 1024] inb_S1024x1024_S512x1024_512_0) (ix2 k (j 1))
    = term m c t j := by
  rw [FfnFwdBody.first]
  refine Eq.trans ?_ (Fin.sum_univ_add (a := 512) (b := 512) _).symm
  exact add_eq
    (Finset.sum_congr rfl fun k _ => mul_eq (unit_eq (hh (j 0)) (fun p => blk2a m c t p k) (fun p => blk3a m c t p k)) (blk4a m c t k (j 1)))
    (Finset.sum_congr rfl fun k _ => mul_eq (unit_eq (hh (j 0)) (fun p => blk2b m c t p k) (fun p => blk3b m c t p k)) (blk4b m c t k (j 1)))

/-- The scratch of the normed rows, read back. -/
theorem read0 (h : scM0_0.IsWhole) (x) : View.read (Elt Ideal) (View.whole cc0_scratch0) (h.unread x) = x := h.read_unread x

/-- The scratch of the sum, read back. -/
theorem read1 (h : scM0_1.IsWhole) (x) : View.read (Elt Ideal) (View.whole cc0_scratch1) (h.unread x) = x := h.read_unread x

/-- The sum at the first point of a block of rows. -/
theorem accA (t : Fin cfg0.N) (h : t.val % 3 = 0) (j) : (outsAt0 m c t.val t.isLt).2.2 j = 0 + term m c t j := by
  have hh := rows m c t.val t.isLt
  rw [hA m c t h] at hh
  rw [outsAt0_A m c t h (by omega)]
  frame_out
  rw [FfnFwdBody.second, FfnFwdBody.zero]
  exact congrArg (0 + ·) (step m c t _ hh j)

/-- The sum at a further point. -/
theorem accB (t : Fin cfg0.N) (h : ¬t.val % 3 = 0) (j) : (outsAt0 m c t.val t.isLt).2.2 j = (outsAt0 m c (t.val - 1) (Nat.lt_of_le_of_lt (Nat.sub_le _ _) t.isLt)).2.2 j + term m c t j := by
  have hh := rows m c t.val t.isLt
  rw [hB m c t h] at hh
  by_cases h' : t.val % 3 = 2
  · rw [outsAt0_C m c t h h']
    frame_out
    rw [FfnFwdBody.second, read0, read1]
    exact congrArg (_ + ·) (step m c t _ hh j)
  · rw [outsAt0_B m c t h h']
    frame_out
    rw [FfnFwdBody.second, read0, read1]
    exact congrArg (_ + ·) (step m c t _ hh j)

/-- The result at the last point of a block of rows. -/
theorem outC (t : Fin cfg0.N) (h : t.val % 3 = 2) : (outsAt0 m c t.val t.isLt).1 = k0_pay2 (iblk m c 0 t) (outsAt0 m c t.val t.isLt).2.2 := by
  rw [outsAt0_C m c t (by omega) h]
  frame_out

/-- The whole result. -/
theorem final : (dats m 0 c).arrAt 5 (cfgs 0).N
    = Cert.FfnFwdRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have e : (win0_5.blk t).view.emb y = ix2 ⟨1024 * (t.val / 3) + (y 0).val, row_lt t.val (point_lt t) (y 0)⟩ (y 1) := by
    blk_ext! [idx t]
  blk_simp
  rw [after0_5, outC m c t ((flush0_5 t).mp hf), FfnFwdBody.add, Pipeline.eq_sum_fin_of_reset_step_apply_of_flush (fun n h => (outsAt0 m c n h).2.2) 3 (fun _ => 0) _
    (fun t h j => accA m c t h j) (fun t h j => accB m c t h j)
    t ((flush0_5 t).mp hf) _, zero_add, FfnFwdBody.href, e]
  refine add_eq ((congrArg (iblk m c 0 t) (eq_ix2 y)).trans (blk0 m c t (y 0) (y 1))) ?_
  unfold term
  refine Fin.sum_mul_add_congr fun s k hl => ?_
  have hu : ∀ (l l' : Fin 8192) (q q' : Fin 3072), l = l' → q = q' →
      FfnFwdBody.unit (fun p => Cert.FfnFwdRefIdeal.Read.val_main_v14 (F := Ideal) (m ((c : Thread nD τ).loc main_arg0)) (m ((c : Thread nD τ).loc main_arg1)) (ix2 l p)) (fun p => (m ((c : Thread nD τ).loc main_arg2)) (ix2 p q)) (fun p => (m ((c : Thread nD τ).loc main_arg3)) (ix2 p q)) * (m ((c : Thread nD τ).loc main_arg4)) (ix2 q (y 1))
      = FfnFwdBody.unit (fun p => Cert.FfnFwdRefIdeal.Read.val_main_v14 (F := Ideal) (m ((c : Thread nD τ).loc main_arg0)) (m ((c : Thread nD τ).loc main_arg1)) (ix2 l' p)) (fun p => (m ((c : Thread nD τ).loc main_arg2)) (ix2 p q')) (fun p => (m ((c : Thread nD τ).loc main_arg3)) (ix2 p q')) * (m ((c : Thread nD τ).loc main_arg4)) (ix2 q' (y 1)) := by
    rintro l _ q _ rfl rfl; rfl
  exact hu _ _ _ _ (Fin.ext (show 1024 * ((3 * (t.val / 3) + s.val) / 3) + (y 0).val = 1024 * (t.val / 3) + (y 0).val by omega))
    (Fin.ext (show 1024 * ((3 * (t.val / 3) + s.val) % 3) + k.val = s.val * 1024 + k.val by omega))

/-- The call and its reference end with equal results. -/
theorem algebraic : Cert.algebraic_FfnFwdIdeal_FfnFwdRefIdeal := by
  pair_intro
  · run_from Cert.FfnFwdIdeal.Gen.run_main m g
  · run_from Cert.FfnFwdRefIdeal.Value.run m' g'
    rw [Cert.FfnFwdRefIdeal.Read.val_main_v20_eq]
    exact (final m c).symm

/-- The reference runs, its arguments end unchanged and every counter ends at zero. -/
theorem frame : Cert.quiescent_FfnFwdRefIdeal := fun m ρ _ =>
  (θ_run _ _ _).mono (fun r h => ⟨fun c => (h c).2, sem_eq_zero_of_no_sems (by decide) r.2⟩)
    (Cert.FfnFwdRefIdeal.Value.run (F := Ideal) m ρ)

end Cert.Proof.FfnFwdValue

end
-- ==== Proof.InProjRuns.lean ====
/- What the body of the input projection does at each kind of point of its grid, for any float values. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InProjIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run of the region leaves the argument arrays unchanged. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's branch conditions -/

/-- Condition 0 of the body, from the grid coordinates. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 32 = 0)

/-- Condition 1 of the body, from the grid coordinates. -/
abbrev cond0_1 (i : grid0.Coords) : Prop := k0_cond2 i = 1#1
/-- It holds at the points ≡ 0 (mod 2). -/
theorem hcond0_1 : ∀ t : Fin cfg0.N, cond0_1 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 0)

/-- Condition 2 of the body, from the grid coordinates. -/
abbrev cond0_2 (i : grid0.Coords) : Prop := k0_cond3 i = 1#1
/-- It holds at the points ≡ 0 (mod 2). -/
theorem hcond0_2 : ∀ t : Fin cfg0.N, cond0_2 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 0)

/-- Condition 3 of the body, from the grid coordinates. -/
abbrev cond0_3 (i : grid0.Coords) : Prop := k0_cond4 i = 1#1
/-- It holds at the points ≡ 1 (mod 2). -/
theorem hcond0_3 : ∀ t : Fin cfg0.N, cond0_3 (grid0.coords t) ↔ t.val % 2 = 1 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_3, k0_cond4, e0, e1]
    word_cmp
   : ∀ t : Fin grid0.N, cond0_3 (grid0.coords t) ↔ t.val % 2 = 1)

/-! ## The three kinds of point -/

/-- The first point: the weight is copied, the rows are normed and multiplied by the first half. -/
abbrev isA (i : grid0.Coords) : Prop := cond0_0 i ∧ cond0_1 i ∧ cond0_2 i ∧ ¬cond0_3 i
/-- An odd point: the normed rows are multiplied by the second half. -/
abbrev isB (i : grid0.Coords) : Prop := ¬cond0_0 i ∧ ¬cond0_1 i ∧ ¬cond0_2 i ∧ cond0_3 i
/-- A later even point: the rows are normed and multiplied by the first half. -/
abbrev isC (i : grid0.Coords) : Prop := ¬cond0_0 i ∧ cond0_1 i ∧ cond0_2 i ∧ ¬cond0_3 i

/-- The first point is of the first kind. -/
theorem atA (t : Fin cfg0.N) (h : t.val = 0) : isA (grid0.coords t) :=
  ⟨(hcond0_0 t).mpr (by omega), (hcond0_1 t).mpr (by omega), (hcond0_2 t).mpr (by omega), fun e => absurd ((hcond0_3 t).mp e) (by omega)⟩
/-- An odd point is of the second kind. -/
theorem atB (t : Fin cfg0.N) (h : t.val % 2 = 1) : isB (grid0.coords t) :=
  ⟨fun e => absurd ((hcond0_0 t).mp e) (by omega), fun e => absurd ((hcond0_1 t).mp e) (by omega), fun e => absurd ((hcond0_2 t).mp e) (by omega), (hcond0_3 t).mpr h⟩
/-- An even point but the first is of the third kind. -/
theorem atC (t : Fin cfg0.N) (h0 : t.val ≠ 0) (h : t.val % 2 = 0) : isC (grid0.coords t) :=
  have hN : t.val < 32 := lt_of_lt_of_eq t.isLt (show cfg0.N = 32 from N_0)
  ⟨fun e => absurd ((hcond0_0 t).mp e) (by omega), (hcond0_1 t).mpr h, (hcond0_2 t).mpr h, fun e => absurd ((hcond0_3 t).mp e) (by omega)⟩

/-- No point leaves the first result's block idle. -/
theorem live2 : ∀ t : Fin cfg0.N, cfg0.idle 2 (grid0.coords t) = false := by decide +kernel
/-- The even points store the second result's block. -/
theorem live3 : ∀ t : Fin cfg0.N, t.val % 2 = 0 → cfg0.idle 3 (grid0.coords t) = false := by decide +kernel
/-- The odd points do not, and write it back. -/
theorem idle3 : ∀ t : Fin cfg0.N, t.val % 2 = 1 → cfg0.idle 3 (grid0.coords t) = true ∧ (cfg0.win 3).flush t = true := by decide +kernel
/-- Whether the second result's buffer holds nothing yet of the block, point by point. -/
def freshTab : ℕ → Bool
  | 0 => true
  | n + 1 => n % 2 == 1
/-- The table follows the schedule. -/
theorem freshTab_step : ∀ t : Fin cfg0.N,
    freshTab (t.val + 1) = ((cfg0.win 3).flush t || (cfg0.idle 3 (cfg0.grid.coords t) && freshTab t.val)) := by decide +kernel
/-- At an odd point the buffer holds the block. -/
theorem notFresh (t : Fin cfg0.N) (h : t.val % 2 = 1) : cfg0.fresh 3 t.val = false := by
  rw [Pipeline.Cfg.fresh_tab cfg0 3 freshTab rfl freshTab_step t.val (Nat.le_of_lt t.isLt)]
  exact (by decide +kernel : ∀ t : Fin cfg0.N, t.val % 2 = 1 → freshTab t.val = false) t h

/-! ## The body's runs -/

/-- A staging buffer of result window 2, through which its contents are stated. -/
abbrev VO0_2 : View sig .tc .vmem S512x3584 .f32 := (Memref.whole cc0_stg2_0 : Memref sig .tc .vmem S512x3584 .f32).view
/-- A staging buffer of result window 3, through which its contents are stated. -/
abbrev VO0_3 : View sig .tc .vmem S512x1024 .bf16 := (Memref.whole cc0_stg3_0 : Memref sig .tc .vmem S512x1024 .bf16).view
/-- Each window's staging memref at a point, and that it is whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3584 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
/-- The scratch. -/
abbrev scM0_0 : Memref sig .tc .vmem S1024x7168 .bf16 := Memref.whole cc0_scratch0
/-- The same, as a view. -/
abbrev VS0_0 : View sig .tc .vmem S1024x7168 .bf16 := scM0_0.view
/-- The weight in HBM. -/
abbrev hbM0_0 : Memref sig .tc .hbm S1024x7168 .bf16 := Memref.whole main_arg2
/-- A memref's buffer on a core, and it held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphore. -/
abbrev osem0 : Fin 1 → SemLoc sig := fun j => (![SemLoc.dma 7] : Fin 1 → SemLoc sig) j
theorem ownSemFacts0 : Pipeline.OwnSemFacts spec0 osem0 := by decide
/-- Its counter at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl
/-- The array that the body copies itself. -/
def H0 : Finset (Ref sig .tc) := {main_arg2}
theorem H0_sub : H0 ⊆ Pipeline.restRefs sig spec0 := by decide
/-- It, held as launched. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- What the body is handed besides the blocks: the scratch, the generator, the semaphore at zero and the weight. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 7) 0) ∗ iprop(hbPt0 c hbM0_0 (V m c main_arg2))) := by
  rw [Pipeline.ΦD_eq, scopedRest0_eq, ownSems00_eq, hbmPts0_eq]; simp only [scM0_0, owns_whole]; try rfl

set_option maxHeartbeats 1000000 in
/-- The first point: the body runs, and what its stores leave, as pieces. -/
noncomputable def kernelRun0_A (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isA i)
    (x0 : Vec F S512x1024 .f32) (x1 : Vec F S1x1024 .f32) (fh0 : HbBuf0 (F := F) c hbM0_0) :
    Σ' (L2 : List (View.Piece (Elt F) S512x3584 .f32)), Σ' (L3 : List (View.Piece (Elt F) S512x1024 .bf16)), { LS0 : List (View.Piece (Elt F) S1024x7168 .bf16) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_in_proj i arg2 harg2 arg3 harg3 (Memref.whole main_arg2) (Memref.isWhole_whole _) arg5 harg5 arg6 harg6 arg7 harg7 cc0_scoped0) K } := by
  refine ⟨?_, ?_, ?_, fun W K => ?run⟩
  case run =>
    obtain ⟨hc0, hc1, hc2, hc3⟩ := hc
    simp only [cc0_in_proj_eq_skeleton]; unfold cc0_in_proj_skel
    unfold owns
    iintro ⟨⟨%f0, %hf0, H0⟩, ⟨%f1, %hf1, H1⟩, ⟨%d2, %f2, -, H2⟩, ⟨%d3, %f3, -, H3⟩, ⟨%ds0, %fs0, -, HS0⟩, Hq0, Hh0, HW, Hk⟩
    obtain rfl := harg2.eq_unread hf0; obtain rfl := harg3.eq_unread hf1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [Hq0]; · iexact Hq0
    isplitl [Hh0]; · iexact Hh0
    iexists _; iexact HW

set_option maxHeartbeats 1000000 in
/-- An odd point: the body runs, and what its stores leave, as pieces. -/
noncomputable def kernelRun0_B (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isB i)
    (x0 : Vec F S512x1024 .f32) (x1 : Vec F S1x1024 .f32) (xo3 : Vec F S512x1024 .bf16) (xs0 : Vec F S1024x7168 .bf16) (fh0 : HbBuf0 (F := F) c hbM0_0) :
    { L2 : List (View.Piece (Elt F) S512x3584 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ owns (c : Thread nD τ) arg6 fullShare xo3 ∗ owns (c : Thread nD τ) arg7 fullShare xs0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ owns (c : Thread nD τ) arg6 fullShare xo3 ∗ owns (c : Thread nD τ) arg7 fullShare xs0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_in_proj i arg2 harg2 arg3 harg3 (Memref.whole main_arg2) (Memref.isWhole_whole _) arg5 harg5 arg6 harg6 arg7 harg7 cc0_scoped0) K } := by
  refine ⟨?_, fun W K => ?run⟩
  case run =>
    obtain ⟨hc0, hc1, hc2, hc3⟩ := hc
    simp only [cc0_in_proj_eq_skeleton]; unfold cc0_in_proj_skel
    unfold owns
    iintro ⟨⟨%f0, %hf0, H0⟩, ⟨%f1, %hf1, H1⟩, ⟨%d2, %f2, -, H2⟩, ⟨%f3, %hf3, H3⟩, ⟨%fs0, %hfs0, HS0⟩, Hq0, Hh0, HW, Hk⟩
    obtain rfl := harg2.eq_unread hf0; obtain rfl := harg3.eq_unread hf1; obtain rfl := harg6.eq_unread hf3; obtain rfl := harg7.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg6.read_unread _
      iexact H3
    isplitl [HS0]
    · iexists _; isplitr; · ipureintro; exact harg7.read_unread _
      iexact HS0
    isplitl [Hq0]; · iexact Hq0
    isplitl [Hh0]; · iexact Hh0
    iexists _; iexact HW

set_option maxHeartbeats 1000000 in
/-- A later even point: the body runs, and what its stores leave, as pieces. -/
noncomputable def kernelRun0_C (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isC i)
    (x0 : Vec F S512x1024 .f32) (x1 : Vec F S1x1024 .f32) (xs0 : Vec F S1024x7168 .bf16) (fh0 : HbBuf0 (F := F) c hbM0_0) :
    Σ' (L2 : List (View.Piece (Elt F) S512x3584 .f32)), { L3 : List (View.Piece (Elt F) S512x1024 .bf16) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ owns (c : Thread nD τ) arg7 fullShare xs0 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ owns (c : Thread nD τ) arg7 fullShare xs0 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_in_proj i arg2 harg2 arg3 harg3 (Memref.whole main_arg2) (Memref.isWhole_whole _) arg5 harg5 arg6 harg6 arg7 harg7 cc0_scoped0) K } := by
  refine ⟨?_, ?_, fun W K => ?run⟩
  case run =>
    obtain ⟨hc0, hc1, hc2, hc3⟩ := hc
    simp only [cc0_in_proj_eq_skeleton]; unfold cc0_in_proj_skel
    unfold owns
    iintro ⟨⟨%f0, %hf0, H0⟩, ⟨%f1, %hf1, H1⟩, ⟨%d2, %f2, -, H2⟩, ⟨%d3, %f3, -, H3⟩, ⟨%fs0, %hfs0, HS0⟩, Hq0, Hh0, HW, Hk⟩
    obtain rfl := harg2.eq_unread hf0; obtain rfl := harg3.eq_unread hf1; obtain rfl := harg7.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]
    · iexists _; isplitr; · ipureintro; exact harg7.read_unread _
      iexact HS0
    isplitl [Hq0]; · iexact Hq0
    isplitl [Hh0]; · iexact Hh0
    iexists _; iexact HW

end Cert.InProjIdeal.Rows

end
-- ==== Proof.InProjFrame.lean ====
/- The frame of the input projection, for any float values: what each point of its grid leaves, point by point, and the run. -/
module

public import proofs.«01_k».proof.Proof.InProjRuns
public import Idealize.ShloMosaic.Lib.Claim

@[expose] public section

set_option maxRecDepth 16384

noncomputable section

namespace Cert.InProjIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point stores all of the first result's block. -/
theorem cover0_A_2 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isA i)
    (x0 : Vec F S512x1024 .f32) (x1 : Vec F S1x1024 .f32) (fh0 : HbBuf0 (F := F) c hbM0_0) (y : S512x3584.Idx) :
    ∃ pc ∈ (kernelRun0_A c i arg2 harg2 arg3 harg3 arg5 harg5 arg6 harg6 arg7 harg7 hc x0 x1 fh0).1, y ∈ pc.1.set :=
  View.cover_of_tiledL (kernelRun0_A c i arg2 harg2 arg3 harg3 arg5 harg5 arg6 harg6 arg7 harg7 hc x0 x1 fh0).1 S512x3584.size (by sl_kernel_rfl) y

/-- What it leaves there. -/
def out0_A_2 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isA i)
    (x0 : Vec F S512x1024 .f32) (x1 : Vec F S1x1024 .f32) (fh0 : HbBuf0 (F := F) c hbM0_0) : Vec F S512x3584 .f32 :=
  VO0_2.read (Elt F) (VO0_2.writes (Elt F) VO0_2.junk (kernelRun0_A c i arg2 harg2 arg3 harg3 arg5 harg5 arg6 harg6 arg7 harg7 hc x0 x1 fh0).1)

/-- The first point stores all of the second result's block. -/
theorem cover0_A_3 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isA i)
    (x0 : Vec F S512x1024 .f32) (x1 : Vec F S1x1024 .f32) (fh0 : HbBuf0 (F := F) c hbM0_0) (y : S512x1024.Idx) :
    ∃ pc ∈ (kernelRun0_A c i arg2 harg2 arg3 harg3 arg5 harg5 arg6 harg6 arg7 harg7 hc x0 x1 fh0).2.1, y ∈ pc.1.set :=
  View.cover_of_tiledL (kernelRun0_A c i arg2 harg2 arg3 harg3 arg5 harg5 arg6 harg6 arg7 harg7 hc x0 x1 fh0).2.1 S512x1024.size (by sl_kernel_rfl) y

/-- What it leaves there. -/
def out0_A_3 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isA i)
    (x0 : Vec F S512x1024 .f32) (x1 : Vec F S1x1024 .f32) (fh0 : HbBuf0 (F := F) c hbM0_0) : Vec F S512x1024 .bf16 :=
  VO0_3.read (Elt F) (VO0_3.writes (Elt F) VO0_3.junk (kernelRun0_A c i arg2 harg2 arg3 harg3 arg5 harg5 arg6 harg6 arg7 harg7 hc x0 x1 fh0).2.1)

/-- The first point stores all of the scratch. -/
theorem scover0_A_0 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isA i)
    (x0 : Vec F S512x1024 .f32) (x1 : Vec F S1x1024 .f32) (fh0 : HbBuf0 (F := F) c hbM0_0) (y : S1024x7168.Idx) :
    ∃ pc ∈ (kernelRun0_A c i arg2 harg2 arg3 harg3 arg5 harg5 arg6 harg6 arg7 harg7 hc x0 x1 fh0).2.2.1, y ∈ pc.1.set :=
  View.cover_of_tiledL (kernelRun0_A c i arg2 harg2 arg3 harg3 arg5 harg5 arg6 harg6 arg7 harg7 hc x0 x1 fh0).2.2.1 S1024x7168.size (by sl_kernel_rfl) y

/-- What it leaves there. -/
def sout0_A_0 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isA i)
    (x0 : Vec F S512x1024 .f32) (x1 : Vec F S1x1024 .f32) (fh0 : HbBuf0 (F := F) c hbM0_0) : Vec F S1024x7168 .bf16 :=
  VS0_0.read (Elt F) (VS0_0.writes (Elt F) VS0_0.junk (kernelRun0_A c i arg2 harg2 arg3 harg3 arg5 harg5 arg6 harg6 arg7 harg7 hc x0 x1 fh0).2.2.1)

/-- An odd point stores all of the first result's block. -/
theorem cover0_B_2 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isB i)
    (x0 : Vec F S512x1024 .f32) (x1 : Vec F S1x1024 .f32) (xo3 : Vec F S512x1024 .bf16) (xs0 : Vec F S1024x7168 .bf16) (fh0 : HbBuf0 (F := F) c hbM0_0) (y : S512x3584.Idx) :
    ∃ pc ∈ (kernelRun0_B c i arg2 harg2 arg3 harg3 arg5 harg5 arg6 harg6 arg7 harg7 hc x0 x1 xo3 xs0 fh0).1, y ∈ pc.1.set :=
  View.cover_of_tiledL (kernelRun0_B c i arg2 harg2 arg3 harg3 arg5 harg5 arg6 harg6 arg7 harg7 hc x0 x1 xo3 xs0 fh0).1 S512x3584.size (by sl_kernel_rfl) y

/-- What it leaves there. -/
def out0_B_2 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isB i)
    (x0 : Vec F S512x1024 .f32) (x1 : Vec F S1x1024 .f32) (xo3 : Vec F S512x1024 .bf16) (xs0 : Vec F S1024x7168 .bf16) (fh0 : HbBuf0 (F := F) c hbM0_0) : Vec F S512x3584 .f32 :=
  VO0_2.read (Elt F) (VO0_2.writes (Elt F) VO0_2.junk (kernelRun0_B c i arg2 harg2 arg3 harg3 arg5 harg5 arg6 harg6 arg7 harg7 hc x0 x1 xo3 xs0 fh0).1)

/-- A later even point stores all of the first result's block. -/
theorem cover0_C_2 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isC i)
    (x0 : Vec F S512x1024 .f32) (x1 : Vec F S1x1024 .f32) (xs0 : Vec F S1024x7168 .bf16) (fh0 : HbBuf0 (F := F) c hbM0_0) (y : S512x3584.Idx) :
    ∃ pc ∈ (kernelRun0_C c i arg2 harg2 arg3 harg3 arg5 harg5 arg6 harg6 arg7 harg7 hc x0 x1 xs0 fh0).1, y ∈ pc.1.set :=
  View.cover_of_tiledL (kernelRun0_C c i arg2 harg2 arg3 harg3 arg5 harg5 arg6 harg6 arg7 harg7 hc x0 x1 xs0 fh0).1 S512x3584.size (by sl_kernel_rfl) y

/-- What it leaves there. -/
def out0_C_2 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isC i)
    (x0 : Vec F S512x1024 .f32) (x1 : Vec F S1x1024 .f32) (xs0 : Vec F S1024x7168 .bf16) (fh0 : HbBuf0 (F := F) c hbM0_0) : Vec F S512x3584 .f32 :=
  VO0_2.read (Elt F) (VO0_2.writes (Elt F) VO0_2.junk (kernelRun0_C c i arg2 harg2 arg3 harg3 arg5 harg5 arg6 harg6 arg7 harg7 hc x0 x1 xs0 fh0).1)

/-- A later even point stores all of the second result's block. -/
theorem cover0_C_3 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isC i)
    (x0 : Vec F S512x1024 .f32) (x1 : Vec F S1x1024 .f32) (xs0 : Vec F S1024x7168 .bf16) (fh0 : HbBuf0 (F := F) c hbM0_0) (y : S512x1024.Idx) :
    ∃ pc ∈ (kernelRun0_C c i arg2 harg2 arg3 harg3 arg5 harg5 arg6 harg6 arg7 harg7 hc x0 x1 xs0 fh0).2.1, y ∈ pc.1.set :=
  View.cover_of_tiledL (kernelRun0_C c i arg2 harg2 arg3 harg3 arg5 harg5 arg6 harg6 arg7 harg7 hc x0 x1 xs0 fh0).2.1 S512x1024.size (by sl_kernel_rfl) y

/-- What it leaves there. -/
def out0_C_3 (c : Dev nD) (i : grid0.Coords) (arg2 : Memref sig .tc .vmem S512x1024 .f32) (harg2 : arg2.IsWhole) (arg3 : Memref sig .tc .vmem S1x1024 .f32) (harg3 : arg3.IsWhole) (arg5 : Memref sig .tc .vmem S512x3584 .f32) (harg5 : arg5.IsWhole) (arg6 : Memref sig .tc .vmem S512x1024 .bf16) (harg6 : arg6.IsWhole) (arg7 : Memref sig .tc .vmem S1024x7168 .bf16) (harg7 : arg7.IsWhole) (hc : isC i)
    (x0 : Vec F S512x1024 .f32) (x1 : Vec F S1x1024 .f32) (xs0 : Vec F S1024x7168 .bf16) (fh0 : HbBuf0 (F := F) c hbM0_0) : Vec F S512x1024 .bf16 :=
  VO0_3.read (Elt F) (VO0_3.writes (Elt F) VO0_3.junk (kernelRun0_C c i arg2 harg2 arg3 harg3 arg5 harg5 arg6 harg6 arg7 harg7 hc x0 x1 xs0 fh0).2.1)

/-- What the two results' blocks and the scratch hold after each point. -/
def outsAt0 (c : Dev nD) : (n : ℕ) → n < cfg0.N → Vec F S512x3584 .f32 × Vec F S512x1024 .bf16 × Vec F S1024x7168 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (atA ⟨0, hn⟩ rfl) (iblk m c 0 ⟨0, hn⟩) (iblk m c 1 ⟨0, hn⟩) (V m c main_arg2), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (atA ⟨0, hn⟩ rfl) (iblk m c 0 ⟨0, hn⟩) (iblk m c 1 ⟨0, hn⟩) (V m c main_arg2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (atA ⟨0, hn⟩ rfl) (iblk m c 0 ⟨0, hn⟩) (iblk m c 1 ⟨0, hn⟩) (V m c main_arg2))
  | n + 1, hn =>
    if h : (n + 1) % 2 = 0 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (atC ⟨n + 1, hn⟩ (Nat.succ_ne_zero n) h) (iblk m c 0 ⟨n + 1, hn⟩) (iblk m c 1 ⟨n + 1, hn⟩) (outsAt0 c n (Nat.lt_of_succ_lt hn)).2.2 (V m c main_arg2), out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (atC ⟨n + 1, hn⟩ (Nat.succ_ne_zero n) h) (iblk m c 0 ⟨n + 1, hn⟩) (iblk m c 1 ⟨n + 1, hn⟩) (outsAt0 c n (Nat.lt_of_succ_lt hn)).2.2 (V m c main_arg2), (outsAt0 c n (Nat.lt_of_succ_lt hn)).2.2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (atB ⟨n + 1, hn⟩ (Nat.mod_two_ne_zero.mp h)) (iblk m c 0 ⟨n + 1, hn⟩) (iblk m c 1 ⟨n + 1, hn⟩) (outsAt0 c n (Nat.lt_of_succ_lt hn)).2.1 (outsAt0 c n (Nat.lt_of_succ_lt hn)).2.2 (V m c main_arg2), (outsAt0 c n (Nat.lt_of_succ_lt hn)).2.1, (outsAt0 c n (Nat.lt_of_succ_lt hn)).2.2)

/-- After the first point. -/
theorem outsAt0_A (c : Dev nD) (t : Fin cfg0.N) (h : t.val = 0) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) (atA t h) (iblk m c 0 t) (iblk m c 1 t) (V m c main_arg2), out0_A_3 c (grid0.coords t) (ms0_0 t) (hs0_0 t) (ms0_1 t) (hs0_1 t) (ms0_2 t) (hs0_2 t) (ms0_3 t) (hs0_3 t) scM0_0 (Memref.isWhole_whole _) (atA t h) (iblk m c 0 t) (iblk m c 1 t) (V m c main_arg2), sout0_A_0 c (grid0.coords t) (ms0_0 t) (hs0_0 t) (ms0_1 t) (hs0_1 t) (ms0_2 t) (hs0_2 t) (ms0_3 t) (hs0_3 t) scM0_0 (Memref.isWhole_whole _) (atA t h) (iblk m c 0 t) (iblk m c 1 t) (V m c main_arg2)) := by
  obtain ⟨n, hn⟩ := t
  cases n with
  | zero => exact rfl
  | succ n => exact absurd h (Nat.succ_ne_zero n)

/-- After an odd point. -/
theorem outsAt0_B (c : Dev nD) (t : Fin cfg0.N) (h : t.val % 2 = 1) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (atB t h) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg2), (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact absurd h (by simp)
  | succ n => exact (dif_neg (by dsimp only at h; omega)).trans rfl

/-- After a later even point. -/
theorem outsAt0_C (c : Dev nD) (t : Fin cfg0.N) (h0 : t.val ≠ 0) (h : t.val % 2 = 0) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) (atC t h0 h) (iblk m c 0 t) (iblk m c 1 t) (outsAt0 m c (t.val - 1) (Nat.lt_of_le_of_lt (Nat.sub_le _ _) t.isLt)).2.2 (V m c main_arg2), out0_C_3 c (grid0.coords t) (ms0_0 t) (hs0_0 t) (ms0_1 t) (hs0_1 t) (ms0_2 t) (hs0_2 t) (ms0_3 t) (hs0_3 t) scM0_0 (Memref.isWhole_whole _) (atC t h0 h) (iblk m c 0 t) (iblk m c 1 t) (outsAt0 m c (t.val - 1) (Nat.lt_of_le_of_lt (Nat.sub_le _ _) t.isLt)).2.2 (V m c main_arg2), (outsAt0 m c (t.val - 1) (Nat.lt_of_le_of_lt (Nat.sub_le _ _) t.isLt)).2.2) := by
  obtain ⟨n, hn⟩ := t
  cases n with
  | zero => exact absurd rfl h0
  | succ n => exact (dif_pos h).trans rfl

/-- What holds before a point besides the blocks: the scratch holds what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 7) 0) ∗ iprop(hbPt0 c hbM0_0 (V m c main_arg2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 7) 0) ∗ iprop(hbPt0 c hbM0_0 (V m c main_arg2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 7) 0) ∗ iprop(hbPt0 c hbM0_0 (V m c main_arg2))) := by
  cases n with
  | zero => exact absurd rfl hz
  | succ n => rfl

/-! ## The pipeline's proof data -/

/-- The arrays as the program finds them, and what each point leaves in each block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

/-- The arrays are those that the program finds. -/
theorem A_eq (c : Dev nD) (w : Fin cfg0.W) : (dats m 0 c).A w = V m c (Pipeline.arrRef spec0 w) := by
  dsimp only [dats]

/-- What holds at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each argument's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A point that leaves the second result's block idle leaves what the point before did. -/
theorem carry3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  rw [after0_3, after0_3]
  rcases Nat.mod_two_eq_zero_or_one t.val with h | h
  · rw [live3 t h] at hi
    exact absurd hi Bool.false_ne_true
  · rw [outsAt0_B m c t h]

/-- At an odd point the second result's buffer holds what the point before left. -/
theorem before0_3 (c : Dev nD) (t : Fin cfg0.N) (h : t.val % 2 = 1) (d) :
    (dats m 0 c).before 3 t d = (outsAt0 m c (t.val - 1) (Nat.lt_of_le_of_lt (Nat.sub_le _ _) t.isLt)).2.1 := by
  rw [Dat.before_out_traj _ 3 rfl (fun _ _ => rfl) (carry3 m c) t.val t rfl d,
    if_neg (by rw [notFresh t h]; exact Bool.false_ne_true)]
  dsimp only [dats]

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: from the blocks and what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by unfold Dat.leavesExact; rfl, after0_0]
  rw [show (dats m 0 c).leavesExact 1 t = owns (c : Thread nD τ) (ms0_1 t) fullShare ((dats m 0 c).after 1 t) from by unfold Dat.leavesExact; rfl, after0_1]
  rw [show (dats m 0 c).leavesExact 2 t = owns (c : Thread nD τ) (ms0_2 t) fullShare ((dats m 0 c).after 2 t) from by unfold Dat.leavesExact; rw [live2 t], after0_2]
  rw [show (dats m 0 c).leavesExact 3 t = owns (c : Thread nD τ) (ms0_3 t) fullShare ((dats m 0 c).after 3 t) from by
    unfold Dat.leavesExact
    rcases Nat.mod_two_eq_zero_or_one t.val with h | h
    · rw [live3 t h]
    · rw [(idle3 t h).1, (idle3 t h).2], after0_3]
  rcases Nat.mod_two_eq_zero_or_one t.val with h | h
  · by_cases h0 : t.val = 0
    · rw [PhiS_castSucc m c t, PhiS_zero m c _ _ h0, PhiD0_eq]
      rw [outsAt0_A m c t h0]
      unfold out0_A_2 out0_A_3 sout0_A_0; (try dsimp only)
      iintro ⟨⟨HS0, Hg, Hq0, Hh0⟩, ⟨%W, -, HW⟩, ⟨%d0, H0⟩, ⟨%d1, H1⟩, ⟨%d2, H2⟩, ⟨%d3, H3⟩⟩
      iapply ((kernelRun0_A c (grid0.coords t) _ _ _ _ _ _ _ _ _ _ (atA t h0) (iblk m c 0 t) (iblk m c 1 t) (V m c main_arg2)).2.2.2 W _)
      isplitl [H0]; · iexact H0
      isplitl [H1]; · iexact H1
      isplitl [H2]; · iexists _; iexact H2
      isplitl [H3]; · iexists _; iexact H3
      isplitl [HS0]; · iexact HS0
      isplitl [Hq0]; · iexact Hq0
      isplitl [Hh0]; · iexact Hh0
      isplitl [HW]; · iexact HW
      iintro ⟨H0, H1, ⟨%e2, H2⟩, ⟨%e3, H3⟩, ⟨%es0, HS0⟩, Hq0, Hh0, ⟨%W', HW'⟩⟩
      isplitl [HS0 Hg Hq0 Hh0]
      · isplitl [HS0]
        · unfold owns; iexists _; isplitr
          swap; · iexact HS0
          ipureintro; exact View.read_writes_of_cover _ _ _ _ _ (scover0_A_0 c _ _ _ _ _ _ _ _ _ _ _ _ _ _ _)
        isplitl [Hg]; · iexact Hg
        isplitl [Hq0]; · iexact Hq0
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _)
      unfold owns; iexists _; isplitr
      swap; · iexact H3
      ipureintro; exact View.read_writes_of_cover _ _ _ _ _ (cover0_A_3 c _ _ _ _ _ _ _ _ _ _ _ _ _ _ _)
    · rw [PhiS_castSucc m c t, PhiS_pos m c _ _ h0]
      rw [outsAt0_C m c t h0 h]
      unfold out0_C_2 out0_C_3; (try dsimp only)
      iintro ⟨⟨HS0, Hg, Hq0, Hh0⟩, ⟨%W, -, HW⟩, ⟨%d0, H0⟩, ⟨%d1, H1⟩, ⟨%d2, H2⟩, ⟨%d3, H3⟩⟩
      iapply ((kernelRun0_C c (grid0.coords t) _ _ _ _ _ _ _ _ _ _ (atC t h0 h) (iblk m c 0 t) (iblk m c 1 t) _ (V m c main_arg2)).2.2 W _)
      isplitl [H0]; · iexact H0
      isplitl [H1]; · iexact H1
      isplitl [H2]; · iexists _; iexact H2
      isplitl [H3]; · iexists _; iexact H3
      isplitl [HS0]; · iexact HS0
      isplitl [Hq0]; · iexact Hq0
      isplitl [Hh0]; · iexact Hh0
      isplitl [HW]; · iexact HW
      iintro ⟨H0, H1, ⟨%e2, H2⟩, ⟨%e3, H3⟩, HS0, Hq0, Hh0, ⟨%W', HW'⟩⟩
      isplitl [HS0 Hg Hq0 Hh0]
      · isplitl [HS0]; · iexact HS0
        isplitl [Hg]; · iexact Hg
        isplitl [Hq0]; · iexact Hq0
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
  · have h0 : t.val ≠ 0 := fun e => by omega
    rw [PhiS_castSucc m c t, PhiS_pos m c _ _ h0]
    rw [outsAt0_B m c t h]
    simp only [before0_3 m c t h]
    unfold out0_B_2; (try dsimp only)
    iintro ⟨⟨HS0, Hg, Hq0, Hh0⟩, ⟨%W, -, HW⟩, ⟨%d0, H0⟩, ⟨%d1, H1⟩, ⟨%d2, H2⟩, ⟨%d3, H3⟩⟩
    iapply ((kernelRun0_B c (grid0.coords t) _ _ _ _ _ _ _ _ _ _ (atB t h) (iblk m c 0 t) (iblk m c 1 t) _ _ (V m c main_arg2)).2 W _)
    isplitl [H0]; · iexact H0
    isplitl [H1]; · iexact H1
    isplitl [H2]; · iexists _; iexact H2
    isplitl [H3]; · iexact H3
    isplitl [HS0]; · iexact HS0
    isplitl [Hq0]; · iexact Hq0
    isplitl [Hh0]; · iexact Hh0
    isplitl [HW]; · iexact HW
    iintro ⟨H0, H1, ⟨%e2, H2⟩, H3, HS0, Hq0, Hh0, ⟨%W', HW'⟩⟩
    isplitl [HS0 Hg Hq0 Hh0]
    · isplitl [HS0]; · iexact HS0
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    iexact H3

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The same, as the pipeline's rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What holds when the region is entered. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- What holds after a point, with the scratch's contents forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, Hq0, Hh0⟩
  isplitl [HS0]
  · iexists _; iexact HS0
  isplitl [Hg]; · iexact Hg
  isplitl [Hq0]
  · iexact Hq0
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

set_option backward.isDefEq.respectTransparency.types false in
/-- The whole program runs, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The whole program runs, and its arrays end as the points leave them. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the program runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InProjIdeal.Rows

end
-- ==== Proof.InProjValue.lean ====
/- What the input projection's call leaves in its two results, and that the reference leaves the same. -/
module

public import proofs.«01_k».proof.Defs
public import proofs.«01_k».proof.Proof.Norm
public import proofs.«01_k».proof.Proof.InProjFrame
public import proofs.«01_k».proof.Proof.Gen.InProj
public import proofs.«01_k».proof.Proof.Gen.InProjRefIdeal
public import proofs.«01_k».proof.Proof.Gen.InProjRefIdeal.Run
public import proofs.«01_k».proof.Proof.Gen.InProjRefIdeal.Read
import Idealize.ShloMosaic.Lib.Claim
import Idealize.ShloMosaic.Lib.Pipeline.ValueKit
public import Idealize.ShloMosaic.Lib.Pointwise

@[expose] public section

set_option maxRecDepth 16384

noncomputable section

namespace Cert.Proof.InProjValue

open Idealize.ShloMosaic Idealize.ShloMosaic.TcCoe Idealize.SL.Sem
open Cert.InProjIdeal Cert.InProjIdeal.Gen Cert.InProjIdeal.Rows

/-! ## The values a point stores -/

/-- The normed rows. -/
theorem norm (x : Vec Ideal S512x1024 .f32) (g : Vec Ideal S1x1024 .f32) (j) : k0_pay1 (F := Ideal) x g j
    = x j * Norm.rs (fun k => x (ix2 (j 0) k)) * g (ix2 0 (j 1)) := by
  pointwise [k0_pay1]
  rfl

/-- The product with the first half of the weight's columns. -/
theorem first (h : Vec Ideal S512x1024 .bf16) (w : Vec Ideal S1024x3584 .bf16) (j) : k0_pay2 (F := Ideal) h w j
    = ∑ k : Fin 1024, h (ix2 (j 0) k) * w (ix2 k (j 1)) := by
  pointwise [k0_pay2]

/-- The product with the second half of them. -/
theorem second (h : Vec Ideal S512x1024 .bf16) (w : Vec Ideal S1024x3584 .bf16) (j) : k0_pay3 (F := Ideal) h w j
    = ∑ k : Fin 1024, h (ix2 (j 0) k) * w (ix2 k (j 1)) := by
  pointwise [k0_pay3]

/-! ## The reference -/

section
open Cert.InProjRefIdeal.Read
variable (x0 : FVec Ideal S8192x1024 .f32) (x1 : FVec Ideal S1x1024 .f32) (x2 : FVec Ideal S1024x7168 .bf16)

/-- The normed rows of the reference. -/
theorem hnorm (l : Fin 8192) (p : Fin 1024) : val_main_v14 (F := Ideal) x0 x1 (ix2 l p)
    = x0 (ix2 l p) * Norm.rs (fun k => x0 (ix2 l k)) * x1 (ix2 0 p) := by
  pointwise [val_main_v14, val_main_v11, val_main_v10, val_main_v9, val_main_v8, val_main_v7, val_main_v6, val_main_v5, val_main_v4, val_main_v3, val_main_v2, val_main_v1, val_main_v0, val_main_cst, val_main_cst_0, val_main_cst_1]
  rfl

/-- The reference's product of the normed rows with the weight. -/
theorem hdot (l : Fin 8192) (q : Fin 7168) : val_main_v13 (F := Ideal) x0 x1 x2 (ix2 l q)
    = ∑ p : Fin 1024, val_main_v14 (F := Ideal) x0 x1 (ix2 l p) * x2 (ix2 p q) := by
  pointwise [val_main_v13, val_main_v12, val_main_v14]

end

/-! ## The blocks -/

variable (m : (ℓ : Loc nD τ sig) → Buf (Elt Ideal) ℓ) (c : Dev nD)

/-- The index maps: the rows follow the first coordinate of the grid, the columns of the product the second. -/
theorem idx : ∀ t : Fin cfg0.N, win0_0.index t = ![t.val / 2, 0] ∧ win0_1.index t = ![0, 0] ∧ win0_2.index t = ![t.val / 2, t.val % 2]
    ∧ win0_3.index t = ![t.val / 2, 0] :=
  (by decide +kernel : ∀ t : Fin grid0.N, _)

/-- There are 32 points. -/
theorem point_lt (t : Fin cfg0.N) : t.val < 32 := lt_of_lt_of_eq t.isLt (show cfg0.N = 32 from N_0)

/-- The row of a block lies in the array. -/
theorem row_lt (n : ℕ) (h : n < 32) (i : Fin 512) : 512 * (n / 2) + i.val < 8192 := by omega

/-- The column of a block lies in the array. -/
theorem col_lt (n : ℕ) (j : Fin 3584) : 3584 * (n % 2) + j.val < 7168 := by omega

/-- Products of equals are equal. -/
theorem mul_eq {a b a' b' : EReal} (h : a = a') (h' : b = b') : a * b = a' * b' := by rw [h, h']

/-- A block of the rows. -/
theorem blk0 (t : Fin cfg0.N) (i : Fin 512) (j : Fin 1024) : iblk m c 0 t (ix2 i j) = (m ((c : Thread nD τ).loc main_arg0)) (ix2 ⟨512 * (t.val / 2) + i.val, row_lt t.val (point_lt t) i⟩ j) := by
  blk_point [iblk, V, idx t]

/-- The gain's block. -/
theorem blk1 (t : Fin cfg0.N) (j : Fin 1024) : iblk m c 1 t (ix2 0 j) = (m ((c : Thread nD τ).loc main_arg1)) (ix2 0 j) := by
  blk_point [iblk, V, idx t]

/-- The weight, as the program finds it. -/
def W : Vec Ideal S1024x7168 .bf16 := V m c main_arg2

/-- A weight of the first half of the columns. -/
theorem wA (k : Fin 1024) (j : Fin 3584) : View.ld (W m c) (Rect.unit ![0, 0] ![1024, 3584] inb_S1024x7168_S1024x3584_0_0) (ix2 k j)
    = (m ((c : Thread nD τ).loc main_arg2)) (ix2 k ⟨j.val, by omega⟩) := by
  blk_point [W, V]

/-- A weight of the second half. -/
theorem wB (k : Fin 1024) (j : Fin 3584) : View.ld (W m c) (Rect.unit ![0, 3584] ![1024, 3584] inb_S1024x7168_S1024x3584_0_3584) (ix2 k j)
    = (m ((c : Thread nD τ).loc main_arg2)) (ix2 k ⟨3584 + j.val, by omega⟩) := by
  blk_point [W, V]

/-! ## What each point leaves -/

/-- One store over a whole array leaves what was stored. -/
theorem canon_whole (s : Shape) {e : EltTy} (w : s.Idx → Elt Ideal e) : View.canon [(⟨Rect.whole s, w⟩ : View.Piece (Elt Ideal) s e)] = w := by
  funext y
  have h := View.canon_cons_emb (Val := Elt Ideal) (Rect.whole s) w [] y
  rwa [Rect.emb_whole_apply] at h

/-- A read of what one store over the whole array left. -/
theorem readCov_whole {s : Shape} {e : EltTy} (v : View sig .tc .vmem s e) (w : s.Idx → Elt Ideal e) (r : Rect s) :
    v.readCov [(⟨Rect.whole s, w⟩ : View.Piece (Elt Ideal) s e)] r.toLoadRect = View.ld w r := by
  rw [View.readCov_eq_canon']
  funext j
  exact congrFun (canon_whole s w) _

/-- A read of the scratch gives what it holds. -/
theorem read_scratch (h : scM0_0.IsWhole) (x) : View.read (Elt Ideal) (View.whole cc0_scratch0) (h.unread x) = x := h.read_unread x

/-- The first point copies the weight into the scratch. -/
theorem scratchA (t : Fin cfg0.N) (h : t.val = 0) : (outsAt0 m c t.val t.isLt).2.2 = W m c := by
  rw [outsAt0_A m c t h]; frame_out
  rw [canon_whole]
  rfl

/-- A later point leaves the scratch as it is. -/
theorem scratchB (t : Fin cfg0.N) (h : t.val ≠ 0) :
    (outsAt0 m c t.val t.isLt).2.2 = (outsAt0 m c (t.val - 1) (Nat.lt_of_le_of_lt (Nat.sub_le _ _) t.isLt)).2.2 := by
  rcases Nat.mod_two_eq_zero_or_one t.val with h' | h'
  · rw [outsAt0_C m c t h h']
  · rw [outsAt0_B m c t h']

/-- The scratch holds the weight after every point. -/
theorem scratch (n : ℕ) (h : n < cfg0.N) : (outsAt0 m c n h).2.2 = W m c := by
  induction n with
  | zero => exact scratchA m c ⟨0, h⟩ rfl
  | succ n ih => exact (scratchB m c ⟨n + 1, h⟩ (Nat.succ_ne_zero n)).trans (ih _)

/-- The normed rows at the first point of a block of rows. -/
theorem hA (t : Fin cfg0.N) (h : t.val % 2 = 0) : (outsAt0 m c t.val t.isLt).2.1 = k0_pay1 (iblk m c 0 t) (iblk m c 1 t) := by
  by_cases h0 : t.val = 0
  · rw [outsAt0_A m c t h0]
    frame_out
  · rw [outsAt0_C m c t h0 h]
    frame_out

/-- The second point keeps the normed rows. -/
theorem hB (t : Fin cfg0.N) (h : t.val % 2 = 1) : (outsAt0 m c t.val t.isLt).2.1 = (outsAt0 m c (t.val - 1) (Nat.lt_of_le_of_lt (Nat.sub_le _ _) t.isLt)).2.1 := by
  rw [outsAt0_B m c t h]

/-- The normed rows of a point. -/
theorem rows (n : ℕ) (h : n < cfg0.N) (i : Fin 512) (p : Fin 1024) : (outsAt0 m c n h).2.1 (ix2 i p)
    = Cert.InProjRefIdeal.Read.val_main_v14 (F := Ideal) (m ((c : Thread nD τ).loc main_arg0)) (m ((c : Thread nD τ).loc main_arg1)) (ix2 ⟨512 * (n / 2) + i.val, row_lt n (point_lt ⟨n, h⟩) i⟩ p) := by
  induction n with
  | zero =>
    rw [hA m c ⟨0, h⟩ rfl, norm, hnorm]
    exact mul_eq (mul_eq (blk0 m c ⟨0, h⟩ i p) (congrArg Norm.rs (funext fun k => blk0 m c ⟨0, h⟩ i k))) (blk1 m c ⟨0, h⟩ p)
  | succ n ih =>
    rcases Nat.mod_two_eq_zero_or_one (n + 1) with h' | h'
    · rw [hA m c ⟨n + 1, h⟩ h', norm, hnorm]
      exact mul_eq (mul_eq (blk0 m c ⟨n + 1, h⟩ i p) (congrArg Norm.rs (funext fun k => blk0 m c ⟨n + 1, h⟩ i k))) (blk1 m c ⟨n + 1, h⟩ p)
    · rw [hB m c ⟨n + 1, h⟩ h']
      refine (ih (Nat.lt_of_succ_lt h)).trans (congrArg (fun l => Cert.InProjRefIdeal.Read.val_main_v14 (F := Ideal) (m ((c : Thread nD τ).loc main_arg0)) (m ((c : Thread nD τ).loc main_arg1)) (ix2 l p)) (Fin.ext ?_))
      dsimp only; omega

/-- The product's block at the first point of a block of rows. -/
theorem zA (t : Fin cfg0.N) (h : t.val % 2 = 0) : (outsAt0 m c t.val t.isLt).1
    = k0_pay2 (outsAt0 m c t.val t.isLt).2.1 (View.ld (W m c) (Rect.unit ![0, 0] ![1024, 3584] inb_S1024x7168_S1024x3584_0_0)) := by
  rw [hA m c t h]
  by_cases h0 : t.val = 0
  · rw [outsAt0_A m c t h0]
    frame_out
    simp only [readCov_whole]
    rfl
  · rw [outsAt0_C m c t h0 h]
    frame_out
    simp only [readCov_whole, scratch, read_scratch]

/-- The product's block at the second. -/
theorem zB (t : Fin cfg0.N) (h : t.val % 2 = 1) : (outsAt0 m c t.val t.isLt).1
    = k0_pay3 (outsAt0 m c t.val t.isLt).2.1 (View.ld (W m c) (Rect.unit ![0, 3584] ![1024, 3584] inb_S1024x7168_S1024x3584_0_3584)) := by
  rw [hB m c t h, outsAt0_B m c t h]
  frame_out
  simp only [scratch, read_scratch]

/-- An entry of the product's block. -/
theorem prod (t : Fin cfg0.N) (i : Fin 512) (j : Fin 3584) : (outsAt0 m c t.val t.isLt).1 (ix2 i j)
    = Cert.InProjRefIdeal.Read.val_main_v13 (F := Ideal) (m ((c : Thread nD τ).loc main_arg0)) (m ((c : Thread nD τ).loc main_arg1)) (m ((c : Thread nD τ).loc main_arg2))
      (ix2 ⟨512 * (t.val / 2) + i.val, row_lt t.val (point_lt t) i⟩ ⟨3584 * (t.val % 2) + j.val, col_lt t.val j⟩) := by
  rw [hdot]
  rcases Nat.mod_two_eq_zero_or_one t.val with h | h
  · rw [zA m c t h, first]
    refine Finset.sum_congr rfl fun k _ => mul_eq (rows m c t.val t.isLt i k) ((wA m c k j).trans ?_)
    exact congrArg (fun q => (m ((c : Thread nD τ).loc main_arg2)) (ix2 k q)) (Fin.ext (by dsimp only; omega))
  · rw [zB m c t h, second]
    refine Finset.sum_congr rfl fun k _ => mul_eq (rows m c t.val t.isLt i k) ((wB m c k j).trans ?_)
    exact congrArg (fun q => (m ((c : Thread nD τ).loc main_arg2)) (ix2 k q)) (Fin.ext (by dsimp only; omega))

/-! ## The results -/

/-- The whole product. -/
theorem final2 : (dats m 0 c).arrAt 2 (cfgs 0).N
    = Cert.InProjRefIdeal.Read.val_main_v13 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  have e : (win0_2.blk t).view.emb y = ix2 ⟨512 * (t.val / 2) + (y 0).val, row_lt t.val (point_lt t) (y 0)⟩ ⟨3584 * (t.val % 2) + (y 1).val, col_lt t.val (y 1)⟩ := by
    blk_ext! [idx t]
  blk_simp
  rw [after0_2, e]
  exact (congrArg (outsAt0 m c t.val t.isLt).1 (eq_ix2 y)).trans (prod m c t (y 0) (y 1))

/-- All normed rows. -/
theorem final3 : (dats m 0 c).arrAt 3 (cfgs 0).N
    = Cert.InProjRefIdeal.Read.val_main_v14 (F := Ideal) (m ((c : Thread nD τ).loc main_arg0)) (m ((c : Thread nD τ).loc main_arg1)) := by
  refine (dats m 0 c).arrAt_eq_of_covers 3 _ (by decide +kernel) fun t hf y => ?_
  have e : (win0_3.blk t).view.emb y = ix2 ⟨512 * (t.val / 2) + (y 0).val, row_lt t.val (point_lt t) (y 0)⟩ (y 1) := by
    blk_ext! [idx t]
  blk_simp
  rw [after0_3, e]
  exact (congrArg (outsAt0 m c t.val t.isLt).2.1 (eq_ix2 y)).trans (rows m c t.val t.isLt (y 0) (y 1))

/-! ## The claims -/

/-- The call and its reference end with equal results. -/
theorem algebraic : Cert.algebraic_InProjIdeal_InProjRefIdeal := by
  intro m g m' g' hpre hagree
  refine ⟨fun c => (dats m 0 c).arrAt 2 (cfgs 0).N, fun c => (dats m 0 c).arrAt 3 (cfgs 0).N, ?_, ?_⟩
  · exact (θ_run _ _ _).mono (fun r h c => ⟨(h.1 c).1 2, (h.1 c).1 3, h.2 c⟩) (θ_run_and (run_main m g) (unchanged m g))
  · refine (θ_run _ _ _).mono (fun r hr c => ?_) (Cert.InProjRefIdeal.Value.run (F := Ideal) m' g')
    obtain ⟨a0, a1, a2⟩ := hagree c
    have hc := hr c
    refine ⟨hc.1.trans ((Cert.InProjRefIdeal.Read.val_main_v13_eq (F := Ideal) _ _ _).trans ?_),
      hc.2.1.trans ((Cert.InProjRefIdeal.Read.val_main_v14_eq (F := Ideal) _ _).trans ?_), hc.2.2⟩
    · show _ = (dats m 0 c).arrAt 2 (cfgs 0).N
      rw [final2 m c, a0, a1, a2]
    · show _ = (dats m 0 c).arrAt 3 (cfgs 0).N
      rw [final3 m c, a0, a1]

/-- The reference runs, its arguments end unchanged and every counter ends at zero. -/
theorem frame : Cert.quiescent_InProjRefIdeal := fun m ρ _ =>
  (θ_run _ _ _).mono (fun r h => ⟨fun c => (h c).2.2, sem_eq_zero_of_no_sems (by decide) r.2⟩)
    (Cert.InProjRefIdeal.Value.run (F := Ideal) m ρ)

/-- The kernels' body tables of the two programs are the same. -/
theorem defs₀_eq : Cert.InProj.defs₀ (F := Bits) = Cert.InProjIdeal.defs₀ (F := Bits) := by
  unfold Cert.InProj.defs₀ Cert.InProjIdeal.defs₀
  refine congrArg Defs.onTc ?_
  funext l a
  match l, a with
  | 0, (t, s) => rfl

/-- So are their whole body tables. -/
theorem defs_eq : Cert.InProj.defs (F := Bits) = Cert.InProjIdeal.defs (F := Bits) := by
  unfold Cert.InProj.defs Cert.InProjIdeal.defs
  exact congrArg (Pipeline.defs _) defs₀_eq

/-- The call in the kernel's own arithmetic: the same text, so the same run. -/
theorem frame_bits : Cert.quiescent_InProj := fun m ρ _ => by
  have e : ∀ D, D = Cert.InProjIdeal.defs (F := Bits) → θ_run D (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
    rintro _ rfl
    exact Cert.InProjIdeal.Rows.frame (F := Bits) m ρ
  exact e _ defs_eq

end Cert.Proof.InProjValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Gen.Pre_in_proj_bwd_finite
public import proofs.«01_k».proof.Proof.Gen.ReferenceIdeal.Run
public import proofs.«01_k».proof.Proof.Gen.ReferenceIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.DownRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.Pcs
public import proofs.«01_k».proof.Proof.Gen.Pcs.Skeleton
public import proofs.«01_k».proof.Proof.Gen.Pcs.Launch
public import proofs.«01_k».proof.Proof.Gen.Pcs.Points
public import proofs.«01_k».proof.Proof.Gen.Pcs.Frame
public import proofs.«01_k».proof.Proof.Gen.PcsIdeal
public import proofs.«01_k».proof.Proof.Gen.PcsIdeal.Skeleton
public import proofs.«01_k».proof.Proof.Gen.PcsIdeal.Launch
public import proofs.«01_k».proof.Proof.Gen.PcsIdeal.Points
public import proofs.«01_k».proof.Proof.Gen.PcsIdeal.Frame
public import proofs.«01_k».proof.Proof.Gen.PcsRefIdeal
public import proofs.«01_k».proof.Proof.Gen.PcsRefIdeal.Run
public import proofs.«01_k».proof.Proof.Gen.PcsRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal
public import proofs.«01_k».proof.Proof.Gen.InProjRefIdeal.Run
public import proofs.«01_k».proof.Proof.Gen.InProjRefIdeal.Read
public import proofs.«01_k».proof.Proof.MixFrame
public import proofs.«01_k».proof.Proof.MixFrameIdeal
public import proofs.«01_k».proof.Proof.MixClaim
public import proofs.«01_k».proof.Proof.GradDown
public import proofs.«01_k».proof.Proof.GradUp
public import proofs.«01_k».proof.Proof.GradOut
public import proofs.«01_k».proof.Proof.GradProj
public import proofs.«01_k».proof.Proof.InBwdValue
public import proofs.«01_k».proof.Proof.PcsValue
public import proofs.«01_k».proof.Proof.FfnFwdValue
public import proofs.«01_k».proof.Proof.InProjValue
public import proofs.«01_k».proof.Proof.InProjFrame
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Out.Gen.facts, Cert.OutIdeal.Gen.facts, Cert.OutRefIdeal.Gen.facts,
  Cert.Proj.Gen.facts, Cert.ProjIdeal.Gen.facts, Cert.ProjRefIdeal.Gen.facts,
  Cert.InBwd.Gen.facts, Cert.InBwdIdeal.Gen.facts, Cert.InBwdRefIdeal.Gen.facts,
  Cert.Pcs.Gen.facts, Cert.PcsIdeal.Gen.facts, Cert.PcsRefIdeal.Gen.facts,
  Cert.FfnFwd.Gen.facts, Cert.FfnFwdIdeal.Gen.facts, Cert.FfnFwdRefIdeal.Gen.facts,
  Cert.InProj.Gen.facts, Cert.InProjIdeal.Gen.facts, Cert.InProjRefIdeal.Gen.facts,
  Cert.Pre_finite.Gen.facts, Cert.Pre_in_proj_bwd_finite.Gen.facts,
  fun m ρ _ => Cert.Kernel.Mix.frame m ρ,
  fun m ρ _ => Cert.KernelIdeal.Mix.frame m ρ,
  fun m ρ _ => Cert.KernelIdeal.Mix.frame m ρ,
  fun m ρ _ => MixClaim.frame m ρ trivial,
  fun m ρ _ => MixClaim.frame m ρ trivial,
  fun m ρ _ => Cert.Down.Gen.frame m ρ, fun m ρ _ => Cert.DownIdeal.Gen.frame m ρ, GradDown.frame,
  fun m ρ _ => Cert.Up.Gen.frame m ρ, fun m ρ _ => Cert.UpIdeal.Gen.frame m ρ, GradUp.frame,
  fun m ρ _ => Cert.Out.Gen.frame m ρ, fun m ρ _ => Cert.OutIdeal.Gen.frame m ρ, GradOut.frame,
  fun m ρ _ => Cert.Proj.Gen.frame m ρ, fun m ρ _ => Cert.ProjIdeal.Gen.frame m ρ, GradProj.frame,
  fun m ρ _ => Cert.InBwd.Gen.frame m ρ, fun m ρ _ => Cert.InBwdIdeal.Gen.frame m ρ, fun m ρ _ => Cert.InBwdIdeal.Gen.frame m ρ,
  fun m ρ _ => InBwdValue.frame m ρ trivial, fun m ρ _ => InBwdValue.frame m ρ trivial,
  fun m ρ _ => Cert.Pcs.Gen.frame m ρ, fun m ρ _ => Cert.PcsIdeal.Gen.frame m ρ, PcsValue.frame,
  fun m ρ _ => Cert.FfnFwd.Gen.frame m ρ, fun m ρ _ => Cert.FfnFwdIdeal.Gen.frame m ρ, FfnFwdValue.frame,
  InProjValue.frame_bits, fun m ρ _ => Cert.InProjIdeal.Rows.frame m ρ, InProjValue.frame,
  ⟨IdealRules.named_const.statement Cert.KernelIdeal.κ "gelu_c" .f32 0x3D372713#32 ((8943 / 200000 : ℝ) : EReal) rfl,
    IdealRules.named_const.statement Cert.KernelIdeal.κ "gelu_3c" .f32 0x3E095D4F#32 ((26829 / 200000 : ℝ) : EReal) rfl⟩,
  MixClaim.algebraic,
  trivial, GradDown.algebraic,
  trivial, GradUp.algebraic,
  trivial, GradOut.algebraic,
  trivial, GradProj.algebraic,
  trivial, InBwdValue.algebraic,
  trivial, PcsValue.algebraic,
  trivial, FfnFwdValue.algebraic,
  trivial, InProjValue.algebraic⟩

end Cert.Proof

end
